-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_NaProj (m : (ℓ : Loc Cert.NaProj.nD Cert.NaProj.τ Cert.NaProj.sig) → Buf (Elt Bits) ℓ) : Prop :=
  True

def Pre_NaProjIdeal (m : (ℓ : Loc Cert.NaProjIdeal.nD Cert.NaProjIdeal.τ Cert.NaProjIdeal.sig) → Buf (Elt Ideal) ℓ) : Prop :=
  True

def Pre_NaProjReferenceIdeal (m : (ℓ : Loc Cert.NaProjReferenceIdeal.nD Cert.NaProjReferenceIdeal.τ Cert.NaProjReferenceIdeal.sig) → Buf (Elt Ideal) ℓ) : Prop :=
  True

def Pre_GqaProj (m : (ℓ : Loc Cert.GqaProj.nD Cert.GqaProj.τ Cert.GqaProj.sig) → Buf (Elt Bits) ℓ) : Prop :=
  True

def Pre_GqaProjIdeal (m : (ℓ : Loc Cert.GqaProjIdeal.nD Cert.GqaProjIdeal.τ Cert.GqaProjIdeal.sig) → Buf (Elt Ideal) ℓ) : Prop :=
  True

def Pre_GqaProjReferenceIdeal (m : (ℓ : Loc Cert.GqaProjReferenceIdeal.nD Cert.GqaProjReferenceIdeal.τ Cert.GqaProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_NaProj [hNaProj : Cert.NaProj.Facts] : Prop :=
  ∀ (m : (ℓ : Loc Cert.NaProj.nD Cert.NaProj.τ Cert.NaProj.sig) → Buf (Elt Bits) ℓ) (g : Dev Cert.NaProj.nD → PrngReg), Pre_NaProj m →
    θ_run (Cert.NaProj.defs (F := Bits)) (onTc (τ := Cert.NaProj.τ) (Cert.NaProj.main (F := Bits))) ⟨m, fun _ => 0, g⟩ (fun r => (∀ c : Dev Cert.NaProj.nD,
      r.2.mem ((c.tc : Thread Cert.NaProj.nD Cert.NaProj.τ).loc Cert.NaProj.main_arg0) = m ((c.tc : Thread Cert.NaProj.nD Cert.NaProj.τ).loc Cert.NaProj.main_arg0)
      ∧ r.2.mem ((c.tc : Thread Cert.NaProj.nD Cert.NaProj.τ).loc Cert.NaProj.main_arg1) = m ((c.tc : Thread Cert.NaProj.nD Cert.NaProj.τ).loc Cert.NaProj.main_arg1)
      ∧ r.2.mem ((c.tc : Thread Cert.NaProj.nD Cert.NaProj.τ).loc Cert.NaProj.main_arg2) = m ((c.tc : Thread Cert.NaProj.nD Cert.NaProj.τ).loc Cert.NaProj.main_arg2))
      ∧ r.2.sem = fun _ => 0)

def quiescent_NaProjIdeal [hNaProjIdeal : Cert.NaProjIdeal.Facts] : Prop :=
  ∀ (m : (ℓ : Loc Cert.NaProjIdeal.nD Cert.NaProjIdeal.τ Cert.NaProjIdeal.sig) → Buf (Elt Ideal) ℓ) (g : Dev Cert.NaProjIdeal.nD → PrngReg), Pre_NaProjIdeal m →
    θ_run (Cert.NaProjIdeal.defs (F := Ideal)) (onTc (τ := Cert.NaProjIdeal.τ) (Cert.NaProjIdeal.main (F := Ideal))) ⟨m, fun _ => 0, g⟩ (fun r => (∀ c : Dev Cert.NaProjIdeal.nD,
      r.2.mem ((c.tc : Thread Cert.NaProjIdeal.nD Cert.NaProjIdeal.τ).loc Cert.NaProjIdeal.main_arg0) = m ((c.tc : Thread Cert.NaProjIdeal.nD Cert.NaProjIdeal.τ).loc Cert.NaProjIdeal.main_arg0)
      ∧ r.2.mem ((c.tc : Thread Cert.NaProjIdeal.nD Cert.NaProjIdeal.τ).loc Cert.NaProjIdeal.main_arg1) = m ((c.tc : Thread Cert.NaProjIdeal.nD Cert.NaProjIdeal.τ).loc Cert.NaProjIdeal.main_arg1)
      ∧ r.2.mem ((c.tc : Thread Cert.NaProjIdeal.nD Cert.NaProjIdeal.τ).loc Cert.NaProjIdeal.main_arg2) = m ((c.tc : Thread Cert.NaProjIdeal.nD Cert.NaProjIdeal.τ).loc Cert.NaProjIdeal.main_arg2))
      ∧ r.2.sem = fun _ => 0)

def quiescent_NaProjReferenceIdeal [hNaProjReferenceIdeal : Cert.NaProjReferenceIdeal.Facts] : Prop :=
  ∀ (m : (ℓ : Loc Cert.NaProjReferenceIdeal.nD Cert.NaProjReferenceIdeal.τ Cert.NaProjReferenceIdeal.sig) → Buf (Elt Ideal) ℓ) (g : Dev Cert.NaProjReferenceIdeal.nD → PrngReg), Pre_NaProjReferenceIdeal m →
    θ_run (Cert.NaProjReferenceIdeal.defs (F := Ideal)) (onTc (τ := Cert.NaProjReferenceIdeal.τ) (Cert.NaProjReferenceIdeal.main (F := Ideal))) ⟨m, fun _ => 0, g⟩ (fun r => (∀ c : Dev Cert.NaProjReferenceIdeal.nD,
      r.2.mem ((c.tc : Thread Cert.NaProjReferenceIdeal.nD Cert.NaProjReferenceIdeal.τ).loc Cert.NaProjReferenceIdeal.main_arg0) = m ((c.tc : Thread Cert.NaProjReferenceIdeal.nD Cert.NaProjReferenceIdeal.τ).loc Cert.NaProjReferenceIdeal.main_arg0)
      ∧ r.2.mem ((c.tc : Thread Cert.NaProjReferenceIdeal.nD Cert.NaProjReferenceIdeal.τ).loc Cert.NaProjReferenceIdeal.main_arg1) = m ((c.tc : Thread Cert.NaProjReferenceIdeal.nD Cert.NaProjReferenceIdeal.τ).loc Cert.NaProjReferenceIdeal.main_arg1)
      ∧ r.2.mem ((c.tc : Thread Cert.NaProjReferenceIdeal.nD Cert.NaProjReferenceIdeal.τ).loc Cert.NaProjReferenceIdeal.main_arg2) = m ((c.tc : Thread Cert.NaProjReferenceIdeal.nD Cert.NaProjReferenceIdeal.τ).loc Cert.NaProjReferenceIdeal.main_arg2))
      ∧ r.2.sem = fun _ => 0)

def quiescent_GqaProj [hGqaProj : Cert.GqaProj.Facts] : Prop :=
  ∀ (m : (ℓ : Loc Cert.GqaProj.nD Cert.GqaProj.τ Cert.GqaProj.sig) → Buf (Elt Bits) ℓ) (g : Dev Cert.GqaProj.nD → PrngReg), Pre_GqaProj m →
    θ_run (Cert.GqaProj.defs (F := Bits)) (onTc (τ := Cert.GqaProj.τ) (Cert.GqaProj.main (F := Bits))) ⟨m, fun _ => 0, g⟩ (fun r => (∀ c : Dev Cert.GqaProj.nD,
      r.2.mem ((c.tc : Thread Cert.GqaProj.nD Cert.GqaProj.τ).loc Cert.GqaProj.main_arg0) = m ((c.tc : Thread Cert.GqaProj.nD Cert.GqaProj.τ).loc Cert.GqaProj.main_arg0)
      ∧ r.2.mem ((c.tc : Thread Cert.GqaProj.nD Cert.GqaProj.τ).loc Cert.GqaProj.main_arg1) = m ((c.tc : Thread Cert.GqaProj.nD Cert.GqaProj.τ).loc Cert.GqaProj.main_arg1)
      ∧ r.2.mem ((c.tc : Thread Cert.GqaProj.nD Cert.GqaProj.τ).loc Cert.GqaProj.main_arg2) = m ((c.tc : Thread Cert.GqaProj.nD Cert.GqaProj.τ).loc Cert.GqaProj.main_arg2)
      ∧ r.2.mem ((c.tc : Thread Cert.GqaProj.nD Cert.GqaProj.τ).loc Cert.GqaProj.main_arg3) = m ((c.tc : Thread Cert.GqaProj.nD Cert.GqaProj.τ).loc Cert.GqaProj.main_arg3)
      ∧ r.2.mem ((c.tc : Thread Cert.GqaProj.nD Cert.GqaProj.τ).loc Cert.GqaProj.main_arg4) = m ((c.tc : Thread Cert.GqaProj.nD Cert.GqaProj.τ).loc Cert.GqaProj.main_arg4))
      ∧ r.2.sem = fun _ => 0)

def quiescent_GqaProjIdeal [hGqaProjIdeal : Cert.GqaProjIdeal.Facts] : Prop :=
  ∀ (m : (ℓ : Loc Cert.GqaProjIdeal.nD Cert.GqaProjIdeal.τ Cert.GqaProjIdeal.sig) → Buf (Elt Ideal) ℓ) (g : Dev Cert.GqaProjIdeal.nD → PrngReg), Pre_GqaProjIdeal m →
    θ_run (Cert.GqaProjIdeal.defs (F := Ideal)) (onTc (τ := Cert.GqaProjIdeal.τ) (Cert.GqaProjIdeal.main (F := Ideal))) ⟨m, fun _ => 0, g⟩ (fun r => (∀ c : Dev Cert.GqaProjIdeal.nD,
      r.2.mem ((c.tc : Thread Cert.GqaProjIdeal.nD Cert.GqaProjIdeal.τ).loc Cert.GqaProjIdeal.main_arg0) = m ((c.tc : Thread Cert.GqaProjIdeal.nD Cert.GqaProjIdeal.τ).loc Cert.GqaProjIdeal.main_arg0)
      ∧ r.2.mem ((c.tc : Thread Cert.GqaProjIdeal.nD Cert.GqaProjIdeal.τ).loc Cert.GqaProjIdeal.main_arg1) = m ((c.tc : Thread Cert.GqaProjIdeal.nD Cert.GqaProjIdeal.τ).loc Cert.GqaProjIdeal.main_arg1)
      ∧ r.2.mem ((c.tc : Thread Cert.GqaProjIdeal.nD Cert.GqaProjIdeal.τ).loc Cert.GqaProjIdeal.main_arg2) = m ((c.tc : Thread Cert.GqaProjIdeal.nD Cert.GqaProjIdeal.τ).loc Cert.GqaProjIdeal.main_arg2)
      ∧ r.2.mem ((c.tc : Thread Cert.GqaProjIdeal.nD Cert.GqaProjIdeal.τ).loc Cert.GqaProjIdeal.main_arg3) = m ((c.tc : Thread Cert.GqaProjIdeal.nD Cert.GqaProjIdeal.τ).loc Cert.GqaProjIdeal.main_arg3)
      ∧ r.2.mem ((c.tc : Thread Cert.GqaProjIdeal.nD Cert.GqaProjIdeal.τ).loc Cert.GqaProjIdeal.main_arg4) = m ((c.tc : Thread Cert.GqaProjIdeal.nD Cert.GqaProjIdeal.τ).loc Cert.GqaProjIdeal.main_arg4))
      ∧ r.2.sem = fun _ => 0)

def quiescent_GqaProjReferenceIdeal [hGqaProjReferenceIdeal : Cert.GqaProjReferenceIdeal.Facts] : Prop :=
  ∀ (m : (ℓ : Loc Cert.GqaProjReferenceIdeal.nD Cert.GqaProjReferenceIdeal.τ Cert.GqaProjReferenceIdeal.sig) → Buf (Elt Ideal) ℓ) (g : Dev Cert.GqaProjReferenceIdeal.nD → PrngReg), Pre_GqaProjReferenceIdeal m →
    θ_run (Cert.GqaProjReferenceIdeal.defs (F := Ideal)) (onTc (τ := Cert.GqaProjReferenceIdeal.τ) (Cert.GqaProjReferenceIdeal.main (F := Ideal))) ⟨m, fun _ => 0, g⟩ (fun r => (∀ c : Dev Cert.GqaProjReferenceIdeal.nD,
      r.2.mem ((c.tc : Thread Cert.GqaProjReferenceIdeal.nD Cert.GqaProjReferenceIdeal.τ).loc Cert.GqaProjReferenceIdeal.main_arg0) = m ((c.tc : Thread Cert.GqaProjReferenceIdeal.nD Cert.GqaProjReferenceIdeal.τ).loc Cert.GqaProjReferenceIdeal.main_arg0)
      ∧ r.2.mem ((c.tc : Thread Cert.GqaProjReferenceIdeal.nD Cert.GqaProjReferenceIdeal.τ).loc Cert.GqaProjReferenceIdeal.main_arg1) = m ((c.tc : Thread Cert.GqaProjReferenceIdeal.nD Cert.GqaProjReferenceIdeal.τ).loc Cert.GqaProjReferenceIdeal.main_arg1)
      ∧ r.2.mem ((c.tc : Thread Cert.GqaProjReferenceIdeal.nD Cert.GqaProjReferenceIdeal.τ).loc Cert.GqaProjReferenceIdeal.main_arg2) = m ((c.tc : Thread Cert.GqaProjReferenceIdeal.nD Cert.GqaProjReferenceIdeal.τ).loc Cert.GqaProjReferenceIdeal.main_arg2)
      ∧ r.2.mem ((c.tc : Thread Cert.GqaProjReferenceIdeal.nD Cert.GqaProjReferenceIdeal.τ).loc Cert.GqaProjReferenceIdeal.main_arg3) = m ((c.tc : Thread Cert.GqaProjReferenceIdeal.nD Cert.GqaProjReferenceIdeal.τ).loc Cert.GqaProjReferenceIdeal.main_arg3)
      ∧ r.2.mem ((c.tc : Thread Cert.GqaProjReferenceIdeal.nD Cert.GqaProjReferenceIdeal.τ).loc Cert.GqaProjReferenceIdeal.main_arg4) = m ((c.tc : Thread Cert.GqaProjReferenceIdeal.nD Cert.GqaProjReferenceIdeal.τ).loc Cert.GqaProjReferenceIdeal.main_arg4))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v14) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_NaProj_NaProjIdeal : Prop :=
  IdealRules.named_const.Statement Cert.NaProjIdeal.κ "scale" .f32 0x3E38AA3B#32 (((8 * (Real.log 2))⁻¹ : ℝ) : EReal)

def algebraic_NaProjIdeal_NaProjReferenceIdeal [hNaProjIdeal : Cert.NaProjIdeal.Facts] [hNaProjReferenceIdeal : Cert.NaProjReferenceIdeal.Facts] : Prop :=
  ∀ (m : (ℓ : Loc Cert.NaProjIdeal.nD Cert.NaProjIdeal.τ Cert.NaProjIdeal.sig) → Buf (Elt Ideal) ℓ) (g : Dev Cert.NaProjIdeal.nD → PrngReg)
    (m' : (ℓ : Loc Cert.NaProjReferenceIdeal.nD Cert.NaProjReferenceIdeal.τ Cert.NaProjReferenceIdeal.sig) → Buf (Elt Ideal) ℓ) (g' : Dev Cert.NaProjReferenceIdeal.nD → PrngReg), Pre_NaProjIdeal m →
    (∀ c : Dev Cert.NaProjIdeal.nD,
      m' ((c.tc : Thread Cert.NaProjReferenceIdeal.nD Cert.NaProjReferenceIdeal.τ).loc Cert.NaProjReferenceIdeal.main_arg0) = m ((c.tc : Thread Cert.NaProjIdeal.nD Cert.NaProjIdeal.τ).loc Cert.NaProjIdeal.main_arg0)
      ∧ m' ((c.tc : Thread Cert.NaProjReferenceIdeal.nD Cert.NaProjReferenceIdeal.τ).loc Cert.NaProjReferenceIdeal.main_arg1) = m ((c.tc : Thread Cert.NaProjIdeal.nD Cert.NaProjIdeal.τ).loc Cert.NaProjIdeal.main_arg1)
      ∧ m' ((c.tc : Thread Cert.NaProjReferenceIdeal.nD Cert.NaProjReferenceIdeal.τ).loc Cert.NaProjReferenceIdeal.main_arg2) = m ((c.tc : Thread Cert.NaProjIdeal.nD Cert.NaProjIdeal.τ).loc Cert.NaProjIdeal.main_arg2)) →
    ∃ (v0 : (c : Dev Cert.NaProjIdeal.nD) → Buf (Elt Ideal) ((c.tc : Thread Cert.NaProjIdeal.nD Cert.NaProjIdeal.τ).loc Cert.NaProjIdeal.main_v2)),
      θ_run (Cert.NaProjIdeal.defs (F := Ideal)) (onTc (τ := Cert.NaProjIdeal.τ) (Cert.NaProjIdeal.main (F := Ideal))) ⟨m, fun _ => 0, g⟩ (fun r => ∀ c : Dev Cert.NaProjIdeal.nD,
          r.2.mem ((c.tc : Thread Cert.NaProjIdeal.nD Cert.NaProjIdeal.τ).loc Cert.NaProjIdeal.main_v2) = v0 c
          ∧ r.2.mem ((c.tc : Thread Cert.NaProjIdeal.nD Cert.NaProjIdeal.τ).loc Cert.NaProjIdeal.main_arg0) = m ((c.tc : Thread Cert.NaProjIdeal.nD Cert.NaProjIdeal.τ).loc Cert.NaProjIdeal.main_arg0)
          ∧ r.2.mem ((c.tc : Thread Cert.NaProjIdeal.nD Cert.NaProjIdeal.τ).loc Cert.NaProjIdeal.main_arg1) = m ((c.tc : Thread Cert.NaProjIdeal.nD Cert.NaProjIdeal.τ).loc Cert.NaProjIdeal.main_arg1)
          ∧ r.2.mem ((c.tc : Thread Cert.NaProjIdeal.nD Cert.NaProjIdeal.τ).loc Cert.NaProjIdeal.main_arg2) = m ((c.tc : Thread Cert.NaProjIdeal.nD Cert.NaProjIdeal.τ).loc Cert.NaProjIdeal.main_arg2))
      ∧ θ_run (Cert.NaProjReferenceIdeal.defs (F := Ideal)) (onTc (τ := Cert.NaProjReferenceIdeal.τ) (Cert.NaProjReferenceIdeal.main (F := Ideal))) ⟨m', fun _ => 0, g'⟩ (fun r => ∀ c : Dev Cert.NaProjReferenceIdeal.nD,
          r.2.mem ((c.tc : Thread Cert.NaProjReferenceIdeal.nD Cert.NaProjReferenceIdeal.τ).loc Cert.NaProjReferenceIdeal.main_v23) = v0 c
          ∧ r.2.mem ((c.tc : Thread Cert.NaProjReferenceIdeal.nD Cert.NaProjReferenceIdeal.τ).loc Cert.NaProjReferenceIdeal.main_arg0) = m' ((c.tc : Thread Cert.NaProjReferenceIdeal.nD Cert.NaProjReferenceIdeal.τ).loc Cert.NaProjReferenceIdeal.main_arg0)
          ∧ r.2.mem ((c.tc : Thread Cert.NaProjReferenceIdeal.nD Cert.NaProjReferenceIdeal.τ).loc Cert.NaProjReferenceIdeal.main_arg1) = m' ((c.tc : Thread Cert.NaProjReferenceIdeal.nD Cert.NaProjReferenceIdeal.τ).loc Cert.NaProjReferenceIdeal.main_arg1)
          ∧ r.2.mem ((c.tc : Thread Cert.NaProjReferenceIdeal.nD Cert.NaProjReferenceIdeal.τ).loc Cert.NaProjReferenceIdeal.main_arg2) = m' ((c.tc : Thread Cert.NaProjReferenceIdeal.nD Cert.NaProjReferenceIdeal.τ).loc Cert.NaProjReferenceIdeal.main_arg2))

def preserves_GqaProj_GqaProjIdeal : Prop :=
  IdealRules.named_const.Statement Cert.GqaProjIdeal.κ "scale" .f32 0x3E38AA3B#32 (((8 * (Real.log 2))⁻¹ : ℝ) : EReal)

def algebraic_GqaProjIdeal_GqaProjReferenceIdeal [hGqaProjIdeal : Cert.GqaProjIdeal.Facts] [hGqaProjReferenceIdeal : Cert.GqaProjReferenceIdeal.Facts] : Prop :=
  ∀ (m : (ℓ : Loc Cert.GqaProjIdeal.nD Cert.GqaProjIdeal.τ Cert.GqaProjIdeal.sig) → Buf (Elt Ideal) ℓ) (g : Dev Cert.GqaProjIdeal.nD → PrngReg)
    (m' : (ℓ : Loc Cert.GqaProjReferenceIdeal.nD Cert.GqaProjReferenceIdeal.τ Cert.GqaProjReferenceIdeal.sig) → Buf (Elt Ideal) ℓ) (g' : Dev Cert.GqaProjReferenceIdeal.nD → PrngReg), Pre_GqaProjIdeal m →
    (∀ c : Dev Cert.GqaProjIdeal.nD,
      m' ((c.tc : Thread Cert.GqaProjReferenceIdeal.nD Cert.GqaProjReferenceIdeal.τ).loc Cert.GqaProjReferenceIdeal.main_arg0) = m ((c.tc : Thread Cert.GqaProjIdeal.nD Cert.GqaProjIdeal.τ).loc Cert.GqaProjIdeal.main_arg0)
      ∧ m' ((c.tc : Thread Cert.GqaProjReferenceIdeal.nD Cert.GqaProjReferenceIdeal.τ).loc Cert.GqaProjReferenceIdeal.main_arg1) = m ((c.tc : Thread Cert.GqaProjIdeal.nD Cert.GqaProjIdeal.τ).loc Cert.GqaProjIdeal.main_arg1)
      ∧ m' ((c.tc : Thread Cert.GqaProjReferenceIdeal.nD Cert.GqaProjReferenceIdeal.τ).loc Cert.GqaProjReferenceIdeal.main_arg2) = m ((c.tc : Thread Cert.GqaProjIdeal.nD Cert.GqaProjIdeal.τ).loc Cert.GqaProjIdeal.main_arg2)
      ∧ m' ((c.tc : Thread Cert.GqaProjReferenceIdeal.nD Cert.GqaProjReferenceIdeal.τ).loc Cert.GqaProjReferenceIdeal.main_arg3) = m ((c.tc : Thread Cert.GqaProjIdeal.nD Cert.GqaProjIdeal.τ).loc Cert.GqaProjIdeal.main_arg3)
      ∧ m' ((c.tc : Thread Cert.GqaProjReferenceIdeal.nD Cert.GqaProjReferenceIdeal.τ).loc Cert.GqaProjReferenceIdeal.main_arg4) = m ((c.tc : Thread Cert.GqaProjIdeal.nD Cert.GqaProjIdeal.τ).loc Cert.GqaProjIdeal.main_arg4)) →
    ∃ (v0 : (c : Dev Cert.GqaProjIdeal.nD) → Buf (Elt Ideal) ((c.tc : Thread Cert.GqaProjIdeal.nD Cert.GqaProjIdeal.τ).loc Cert.GqaProjIdeal.main_v71_0)) (v1 : (c : Dev Cert.GqaProjIdeal.nD) → Buf (Elt Ideal) ((c.tc : Thread Cert.GqaProjIdeal.nD Cert.GqaProjIdeal.τ).loc Cert.GqaProjIdeal.main_v71_1)) (v2 : (c : Dev Cert.GqaProjIdeal.nD) → Buf (Elt Ideal) ((c.tc : Thread Cert.GqaProjIdeal.nD Cert.GqaProjIdeal.τ).loc Cert.GqaProjIdeal.main_v71_2)) (v3 : (c : Dev Cert.GqaProjIdeal.nD) → Buf (Elt Ideal) ((c.tc : Thread Cert.GqaProjIdeal.nD Cert.GqaProjIdeal.τ).loc Cert.GqaProjIdeal.main_v71_3)),
      θ_run (Cert.GqaProjIdeal.defs (F := Ideal)) (onTc (τ := Cert.GqaProjIdeal.τ) (Cert.GqaProjIdeal.main (F := Ideal))) ⟨m, fun _ => 0, g⟩ (fun r => ∀ c : Dev Cert.GqaProjIdeal.nD,
          r.2.mem ((c.tc : Thread Cert.GqaProjIdeal.nD Cert.GqaProjIdeal.τ).loc Cert.GqaProjIdeal.main_v71_0) = v0 c
          ∧ r.2.mem ((c.tc : Thread Cert.GqaProjIdeal.nD Cert.GqaProjIdeal.τ).loc Cert.GqaProjIdeal.main_v71_1) = v1 c
          ∧ r.2.mem ((c.tc : Thread Cert.GqaProjIdeal.nD Cert.GqaProjIdeal.τ).loc Cert.GqaProjIdeal.main_v71_2) = v2 c
          ∧ r.2.mem ((c.tc : Thread Cert.GqaProjIdeal.nD Cert.GqaProjIdeal.τ).loc Cert.GqaProjIdeal.main_v71_3) = v3 c
          ∧ r.2.mem ((c.tc : Thread Cert.GqaProjIdeal.nD Cert.GqaProjIdeal.τ).loc Cert.GqaProjIdeal.main_arg0) = m ((c.tc : Thread Cert.GqaProjIdeal.nD Cert.GqaProjIdeal.τ).loc Cert.GqaProjIdeal.main_arg0)
          ∧ r.2.mem ((c.tc : Thread Cert.GqaProjIdeal.nD Cert.GqaProjIdeal.τ).loc Cert.GqaProjIdeal.main_arg1) = m ((c.tc : Thread Cert.GqaProjIdeal.nD Cert.GqaProjIdeal.τ).loc Cert.GqaProjIdeal.main_arg1)
          ∧ r.2.mem ((c.tc : Thread Cert.GqaProjIdeal.nD Cert.GqaProjIdeal.τ).loc Cert.GqaProjIdeal.main_arg2) = m ((c.tc : Thread Cert.GqaProjIdeal.nD Cert.GqaProjIdeal.τ).loc Cert.GqaProjIdeal.main_arg2)
          ∧ r.2.mem ((c.tc : Thread Cert.GqaProjIdeal.nD Cert.GqaProjIdeal.τ).loc Cert.GqaProjIdeal.main_arg3) = m ((c.tc : Thread Cert.GqaProjIdeal.nD Cert.GqaProjIdeal.τ).loc Cert.GqaProjIdeal.main_arg3)
          ∧ r.2.mem ((c.tc : Thread Cert.GqaProjIdeal.nD Cert.GqaProjIdeal.τ).loc Cert.GqaProjIdeal.main_arg4) = m ((c.tc : Thread Cert.GqaProjIdeal.nD Cert.GqaProjIdeal.τ).loc Cert.GqaProjIdeal.main_arg4))
      ∧ θ_run (Cert.GqaProjReferenceIdeal.defs (F := Ideal)) (onTc (τ := Cert.GqaProjReferenceIdeal.τ) (Cert.GqaProjReferenceIdeal.main (F := Ideal))) ⟨m', fun _ => 0, g'⟩ (fun r => ∀ c : Dev Cert.GqaProjReferenceIdeal.nD,
          r.2.mem ((c.tc : Thread Cert.GqaProjReferenceIdeal.nD Cert.GqaProjReferenceIdeal.τ).loc Cert.GqaProjReferenceIdeal.main_v130) = v0 c
          ∧ r.2.mem ((c.tc : Thread Cert.GqaProjReferenceIdeal.nD Cert.GqaProjReferenceIdeal.τ).loc Cert.GqaProjReferenceIdeal.main_v132) = v1 c
          ∧ r.2.mem ((c.tc : Thread Cert.GqaProjReferenceIdeal.nD Cert.GqaProjReferenceIdeal.τ).loc Cert.GqaProjReferenceIdeal.main_v134) = v2 c
          ∧ r.2.mem ((c.tc : Thread Cert.GqaProjReferenceIdeal.nD Cert.GqaProjReferenceIdeal.τ).loc Cert.GqaProjReferenceIdeal.main_v137) = v3 c
          ∧ r.2.mem ((c.tc : Thread Cert.GqaProjReferenceIdeal.nD Cert.GqaProjReferenceIdeal.τ).loc Cert.GqaProjReferenceIdeal.main_arg0) = m' ((c.tc : Thread Cert.GqaProjReferenceIdeal.nD Cert.GqaProjReferenceIdeal.τ).loc Cert.GqaProjReferenceIdeal.main_arg0)
          ∧ r.2.mem ((c.tc : Thread Cert.GqaProjReferenceIdeal.nD Cert.GqaProjReferenceIdeal.τ).loc Cert.GqaProjReferenceIdeal.main_arg1) = m' ((c.tc : Thread Cert.GqaProjReferenceIdeal.nD Cert.GqaProjReferenceIdeal.τ).loc Cert.GqaProjReferenceIdeal.main_arg1)
          ∧ r.2.mem ((c.tc : Thread Cert.GqaProjReferenceIdeal.nD Cert.GqaProjReferenceIdeal.τ).loc Cert.GqaProjReferenceIdeal.main_arg2) = m' ((c.tc : Thread Cert.GqaProjReferenceIdeal.nD Cert.GqaProjReferenceIdeal.τ).loc Cert.GqaProjReferenceIdeal.main_arg2)
          ∧ r.2.mem ((c.tc : Thread Cert.GqaProjReferenceIdeal.nD Cert.GqaProjReferenceIdeal.τ).loc Cert.GqaProjReferenceIdeal.main_arg3) = m' ((c.tc : Thread Cert.GqaProjReferenceIdeal.nD Cert.GqaProjReferenceIdeal.τ).loc Cert.GqaProjReferenceIdeal.main_arg3)
          ∧ r.2.mem ((c.tc : Thread Cert.GqaProjReferenceIdeal.nD Cert.GqaProjReferenceIdeal.τ).loc Cert.GqaProjReferenceIdeal.main_arg4) = m' ((c.tc : Thread Cert.GqaProjReferenceIdeal.nD Cert.GqaProjReferenceIdeal.τ).loc Cert.GqaProjReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOproj : Cert.Oproj.Facts) (hOprojIdeal : Cert.OprojIdeal.Facts) (hOprojReferenceIdeal : Cert.OprojReferenceIdeal.Facts) (hNaProj : Cert.NaProj.Facts) (hNaProjIdeal : Cert.NaProjIdeal.Facts) (hNaProjReferenceIdeal : Cert.NaProjReferenceIdeal.Facts) (hGqaProj : Cert.GqaProj.Facts) (hGqaProjIdeal : Cert.GqaProjIdeal.Facts) (hGqaProjReferenceIdeal : Cert.GqaProjReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_NaProj (hNaProj := hNaProj)
    ∧ quiescent_NaProjIdeal (hNaProjIdeal := hNaProjIdeal)
    ∧ quiescent_NaProjReferenceIdeal (hNaProjReferenceIdeal := hNaProjReferenceIdeal)
    ∧ quiescent_GqaProj (hGqaProj := hGqaProj)
    ∧ quiescent_GqaProjIdeal (hGqaProjIdeal := hGqaProjIdeal)
    ∧ quiescent_GqaProjReferenceIdeal (hGqaProjReferenceIdeal := hGqaProjReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Ffn_FfnIdeal
    ∧ algebraic_FfnIdeal_FfnReferenceIdeal (hFfnIdeal := hFfnIdeal) (hFfnReferenceIdeal := hFfnReferenceIdeal)
    ∧ preserves_Oproj_OprojIdeal
    ∧ algebraic_OprojIdeal_OprojReferenceIdeal (hOprojIdeal := hOprojIdeal) (hOprojReferenceIdeal := hOprojReferenceIdeal)
    ∧ preserves_NaProj_NaProjIdeal
    ∧ algebraic_NaProjIdeal_NaProjReferenceIdeal (hNaProjIdeal := hNaProjIdeal) (hNaProjReferenceIdeal := hNaProjReferenceIdeal)
    ∧ preserves_GqaProj_GqaProjIdeal
    ∧ algebraic_GqaProjIdeal_GqaProjReferenceIdeal (hGqaProjIdeal := hGqaProjIdeal) (hGqaProjReferenceIdeal := hGqaProjReferenceIdeal)
-- ==== Pre_finite_queries_and_keys.lean ====
abbrev S16x4096x16x64 : Shape := ⟨4, ![16, 4096, 16, 64]⟩
abbrev S16x4112x4x64 : Shape := ⟨4, ![16, 4112, 4, 64]⟩
abbrev S_ : Shape := ⟨0, ![]⟩

class Facts : Prop where
  bcast_S_S16x4096x16x64 : S_.BroadcastsInDim S16x4096x16x64 (![] : Fin 0 → Fin S16x4096x16x64.rank)
  reducesTo_S16x4096x16x64_S_d0_1_2_3 : S16x4096x16x64.ReducesTo [0, 1, 2, 3] S_
  h_S_ : 0 < S_.numel
  bcast_S_S16x4112x4x64 : S_.BroadcastsInDim S16x4112x4x64 (![] : Fin 0 → Fin S16x4112x4x64.rank)
  reducesTo_S16x4112x4x64_S_d0_1_2_3 : S16x4112x4x64.ReducesTo [0, 1, 2, 3] S_

variable [Facts]

def fn {F : FTy → Type} [FloatOps F] (main_arg0 : FVec F S16x4096x16x64 .f32) (main_arg1 : FVec F S16x4112x4x64 .f32) (main_arg2 : FVec F S16x4112x4x64 .f32) : IVec S_ 1 :=
  let main_v0 : FVec F S16x4096x16x64 .f32 := Host.absf main_arg0
  let main_cst : FVec F S_ .f32 := constant S_ .f32 0x7F800000#32
  let main_v1 : FVec F S16x4096x16x64 .f32 := broadcastInDim S16x4096x16x64 ![] bcast_S_S16x4096x16x64 main_cst
  let main_v2 : IVec S16x4096x16x64 1 := cmpf .olt main_v0 main_v1
  let main_c : IVec S_ 1 := constantI S_ 1 1#1
  let main_v3 : IVec S_ 1 := (fun x v => Host.reduce IntOp.andi x v reducesTo_S16x4096x16x64_S_d0_1_2_3 h_S_) main_v2 main_c
  let main_v4 : FVec F S16x4112x4x64 .f32 := Host.absf main_arg1
  let main_cst_0 : FVec F S_ .f32 := constant S_ .f32 0x7F800000#32
  let main_v5 : FVec F S16x4112x4x64 .f32 := broadcastInDim S16x4112x4x64 ![] bcast_S_S16x4112x4x64 main_cst_0
  let main_v6 : IVec S16x4112x4x64 1 := cmpf .olt main_v4 main_v5
  let main_c_1 : IVec S_ 1 := constantI S_ 1 1#1
  let main_v7 : IVec S_ 1 := (fun x v => Host.reduce IntOp.andi x v reducesTo_S16x4112x4x64_S_d0_1_2_3 h_S_) main_v6 main_c_1
  let main_v8 : IVec S_ 1 := andi main_v3 main_v7
  main_v8
-- ==== Kernel.lean ====
abbrev S16x4096x16x64 : Shape := ⟨4, ![16, 4096, 16, 64]⟩
abbrev S16x4112x4x64 : Shape := ⟨4, ![16, 4112, 4, 64]⟩
abbrev S16 : Shape := ⟨1, ![16]⟩
abbrev S_ : Shape := ⟨0, ![]⟩
abbrev S16x1 : Shape := ⟨2, ![16, 1]⟩
abbrev S65536x1024 : Shape := ⟨2, ![65536, 1024]⟩
abbrev S16x4096x4x64 : Shape := ⟨4, ![16, 4096, 4, 64]⟩
abbrev S16x16x4x64 : Shape := ⟨4, ![16, 16, 4, 64]⟩
abbrev S16x4096x256 : Shape := ⟨3, ![16, 4096, 256]⟩
abbrev S16x16x256 : Shape := ⟨3, ![16, 16, 256]⟩
abbrev S16x4112x256 : Shape := ⟨3, ![16, 4112, 256]⟩
abbrev S128x512x256 : Shape := ⟨3, ![128, 512, 256]⟩
abbrev S128x256x512 : Shape := ⟨3, ![128, 256, 512]⟩
abbrev S16x256x16 : Shape := ⟨3, ![16, 256, 16]⟩
abbrev S512x1024 : Shape := ⟨2, ![512, 1024]⟩
abbrev S1x4112x256 : Shape := ⟨3, ![1, 4112, 256]⟩
abbrev S8x256x512 : Shape := ⟨3, ![8, 256, 512]⟩
abbrev S1x256x16 : Shape := ⟨3, ![1, 256, 16]⟩
abbrev S16x128x512 : Shape := ⟨3, ![16, 128, 512]⟩
abbrev S16x1x512 : Shape := ⟨3, ![16, 1, 512]⟩
abbrev S16x64x512 : Shape := ⟨3, ![16, 64, 512]⟩
abbrev S128x512 : Shape := ⟨2, ![128, 512]⟩
abbrev S512x128 : Shape := ⟨2, ![512, 128]⟩
abbrev S1x128x512 : Shape := ⟨3, ![1, 128, 512]⟩
abbrev S1x512x128 : Shape := ⟨3, ![1, 512, 128]⟩
abbrev S512x512 : Shape := ⟨2, ![512, 512]⟩
abbrev S512 : Shape := ⟨1, ![512]⟩
abbrev S1x512 : Shape := ⟨2, ![1, 512]⟩
abbrev S1x64x512 : Shape := ⟨3, ![1, 64, 512]⟩
abbrev S64x512 : Shape := ⟨2, ![64, 512]⟩
abbrev S1x1x512 : Shape := ⟨3, ![1, 1, 512]⟩
abbrev S1x528x128 : Shape := ⟨3, ![1, 528, 128]⟩
abbrev S528x128 : Shape := ⟨2, ![528, 128]⟩
abbrev S528x512 : Shape := ⟨2, ![528, 512]⟩
abbrev S1x64x16 : Shape := ⟨3, ![1, 64, 16]⟩
abbrev S64x16 : Shape := ⟨2, ![64, 16]⟩
abbrev S16x512 : Shape := ⟨2, ![16, 512]⟩

abbrev nBuf : Space → Nat
  | .hbm => 36
  | .vmem => 14
  | .smem => 0
  | _ => 0

abbrev bufTy : (tb : Table) → Fin (tcTables nBuf tb) → BufTy
  | .hbm, ⟨0, _⟩ => ⟨S16x4096x16x64, .f32⟩
  | .hbm, ⟨1, _⟩ => ⟨S16x4112x4x64, .f32⟩
  | .hbm, ⟨2, _⟩ => ⟨S16x4112x4x64, .f32⟩
  | .hbm, ⟨3, _⟩ => ⟨S16, .i32⟩
  | .hbm, ⟨4, _⟩ => ⟨S16, .i1⟩
  | .hbm, ⟨5, _⟩ => ⟨S_, .f32⟩
  | .hbm, ⟨6, _⟩ => ⟨S16x4096x16x64, .f32⟩
  | .hbm, ⟨7, _⟩ => ⟨S16x4096x16x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x4096x16x64, .f32⟩
  | .hbm, ⟨12, _⟩ => ⟨S16x4096x16x64, .f32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S16x4096x16x64, .f32⟩
  | .hbm, ⟨19, _⟩ => ⟨S65536x1024, .f32⟩
  | .hbm, ⟨20, _⟩ => ⟨S65536x1024, .bf16⟩
  | .hbm, ⟨21, _⟩ => ⟨S16x4096x4x64, .f32⟩
  | .hbm, ⟨22, _⟩ => ⟨S16x16x4x64, .f32⟩
  | .hbm, ⟨23, _⟩ => ⟨S16x4096x256, .f32⟩
  | .hbm, ⟨24, _⟩ => ⟨S16x16x256, .f32⟩
  | .hbm, ⟨25, _⟩ => ⟨S16x4112x256, .f32⟩
  | .hbm, ⟨26, _⟩ => ⟨S16x4112x256, .bf16⟩
  | .hbm, ⟨27, _⟩ => ⟨S16x4096x4x64, .f32⟩
  | .hbm, ⟨28, _⟩ => ⟨S128x512x256, .f32⟩
  | .hbm, ⟨29, _⟩ => ⟨S128x256x512, .f32⟩
  | .hbm, ⟨30, _⟩ => ⟨S128x256x512, .bf16⟩
  | .hbm, ⟨31, _⟩ => ⟨S16x16x4x64, .f32⟩
  | .hbm, ⟨32, _⟩ => ⟨S16x16x256, .f32⟩
  | .hbm, ⟨33, _⟩ => ⟨S16x256x16, .f32⟩
  | .hbm, ⟨34, _⟩ => ⟨S16x256x16, .bf16⟩
  | .hbm, ⟨35, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S1x4112x256, .bf16⟩
  | .local _ .vmem, ⟨3, _⟩ => ⟨S1x4112x256, .bf16⟩
  | .local _ .vmem, ⟨4, _⟩ => ⟨S8x256x512, .bf16⟩
  | .local _ .vmem, ⟨5, _⟩ => ⟨S8x256x512, .bf16⟩
  | .local _ .vmem, ⟨6, _⟩ => ⟨S1x256x16, .bf16⟩
  | .local _ .vmem, ⟨7, _⟩ => ⟨S1x256x16, .bf16⟩
  | .local _ .vmem, ⟨8, _⟩ => ⟨S512x1024, .bf16⟩
  | .local _ .vmem, ⟨9, _⟩ => ⟨S512x1024, .bf16⟩
  | .local _ .vmem, ⟨10, _⟩ => ⟨S16x128x512, .bf16⟩
  | .local _ .vmem, ⟨11, _⟩ => ⟨S16x1x512, .f32⟩
  | .local _ .vmem, ⟨12, _⟩ => ⟨S16x64x512, .f32⟩
  | .local _ .vmem, ⟨13, _⟩ => ⟨S16x1x512, .f32⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c1_i32 : BitVec 32 := 1#32
  let c6_i32 : BitVec 32 := 6#32
  let v411 : BitVec 32 := Scalar.addi c1_i32 c6_i32
  let c1_i32_334 : BitVec 32 := 1#32
  ⟨c1_i32, v411, c1_i32_334⟩
def k0_mult1 (k0_t1 : Fin k0_t1_loop.trips) : BitVec 32 :=
  let c1_i32 : BitVec 32 := 1#32
  let c1_i32_334 : BitVec 32 := 1#32
  let arg11 : BitVec 32 := Scf.iv c1_i32 c1_i32_334 k0_t1
  let c512_i32 : BitVec 32 := 512#32
  let v1020 : BitVec 32 := Scalar.muli arg11 c512_i32
  v1020
def k0_off1 (k0_t1 : Fin k0_t1_loop.trips) : Fin 3 → Nat :=
  let c0_895 : Index := 0#32
  let c1_i32 : BitVec 32 := 1#32
  let c1_i32_334 : BitVec 32 := 1#32
  let arg11 : BitVec 32 := Scf.iv c1_i32 c1_i32_334 k0_t1
  let c512_i32 : BitVec 32 := 512#32
  let v1020 : BitVec 32 := Scalar.muli arg11 c512_i32
  let v1021 : BitVec 32 := v1020
  let v1022 : Index := Scalar.indexCast v1021
  let c0_896 : Index := 0#32
  ![0, v1022.toNat, 0]
def k0_off2 (k0_t1 : Fin k0_t1_loop.trips) : Fin 3 → Nat :=
  let c1_i32 : BitVec 32 := 1#32
  let c1_i32_334 : BitVec 32 := 1#32
  let arg11 : BitVec 32 := Scf.iv c1_i32 c1_i32_334 k0_t1
  let v1038 : Index := Scalar.indexCast arg11
  let c0_908 : Index := 0#32
  let c0_909 : Index := 0#32
  ![v1038.toNat, 0, 0]
def k0_off3 (k0_t1 : Fin k0_t1_loop.trips) : Fin 3 → Nat :=
  let c1_i32 : BitVec 32 := 1#32
  let c1_i32_334 : BitVec 32 := 1#32
  let arg11 : BitVec 32 := Scf.iv c1_i32 c1_i32_334 k0_t1
  let v1064 : Index := Scalar.indexCast arg11
  let c64_930 : Index := 64#32
  let c0_931 : Index := 0#32
  ![v1064.toNat, 64, 0]
def k0_off4 (k0_t1 : Fin k0_t1_loop.trips) : Fin 3 → Nat :=
  let c0_1055 : Index := 0#32
  let c1_i32 : BitVec 32 := 1#32
  let c1_i32_334 : BitVec 32 := 1#32
  let arg11 : BitVec 32 := Scf.iv c1_i32 c1_i32_334 k0_t1
  let c512_i32 : BitVec 32 := 512#32
  let v1020 : BitVec 32 := Scalar.muli arg11 c512_i32
  let v1021 : BitVec 32 := v1020
  let v1210 : Index := Scalar.indexCast v1021
  let c128_1056 : Index := 128#32
  ![0, v1210.toNat, 128]
def k0_off5 (k0_t1 : Fin k0_t1_loop.trips) : Fin 3 → Nat :=
  let c1_i32 : BitVec 32 := 1#32
  let c1_i32_334 : BitVec 32 := 1#32
  let arg11 : BitVec 32 := Scf.iv c1_i32 c1_i32_334 k0_t1
  let v1246 : Index := Scalar.indexCast arg11
  let c128_1084 : Index := 128#32
  let c0_1085 : Index := 0#32
  ![v1246.toNat, 128, 0]
def k0_off6 (k0_t1 : Fin k0_t1_loop.trips) : Fin 3 → Nat :=
  let c1_i32 : BitVec 32 := 1#32
  let c1_i32_334 : BitVec 32 := 1#32
  let arg11 : BitVec 32 := Scf.iv c1_i32 c1_i32_334 k0_t1
  let v1272 : Index := Scalar.indexCast arg11
  let c192_1106 : Index := 192#32
  let c0_1107 : Index := 0#32
  ![v1272.toNat, 192, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4112x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4096x16x64 : Shape := ⟨4, ![16, 4096, 16, 64]⟩
abbrev S16x4112x4x64 : Shape := ⟨4, ![16, 4112, 4, 64]⟩
abbrev S_ : Shape := ⟨0, ![]⟩
abbrev S16x4096x4x4x64 : Shape := ⟨5, ![16, 4096, 4, 4, 64]⟩
abbrev S16x4x4112x4096x4 : Shape := ⟨5, ![16, 4, 4112, 4096, 4]⟩
abbrev S16x4x4x4096x4112 : Shape := ⟨5, ![16, 4, 4, 4096, 4112]⟩
abbrev S16x4x4x4096 : Shape := ⟨4, ![16, 4, 4, 4096]⟩
abbrev S16x4x4x4096x1 : Shape := ⟨5, ![16, 4, 4, 4096, 1]⟩
abbrev S16x4x64x4x4096 : Shape := ⟨5, ![16, 4, 64, 4, 4096]⟩
abbrev S16x4096x2x2x4x64 : Shape := ⟨6, ![16, 4096, 2, 2, 4, 64]⟩
abbrev S16x4096x2x4x2x64 : Shape := ⟨6, ![16, 4096, 2, 4, 2, 64]⟩
abbrev S65536x1024 : Shape := ⟨2, ![65536, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4112x4x64, .f32⟩
  | .hbm, ⟨2, _⟩ => ⟨S16x4112x4x64, .f32⟩
  | .hbm, ⟨3, _⟩ => ⟨S_, .f32⟩
  | .hbm, ⟨4, _⟩ => ⟨S16x4096x16x64, .f32⟩
  | .hbm, ⟨5, _⟩ => ⟨S16x4096x16x64, .f32⟩
  | .hbm, ⟨6, _⟩ => ⟨S16x4096x4x4x64, .f32⟩
  | .hbm, ⟨7, _⟩ => ⟨S16x4x4112x4096x4, .f32⟩
  | .hbm, ⟨8, _⟩ => ⟨S16x4x4x4096x4112, .f32⟩
  | .hbm, ⟨9, _⟩ => ⟨S_, .f32⟩
  | .hbm, ⟨10, _⟩ => ⟨S16x4x4x4096, .f32⟩
  | .hbm, ⟨11, _⟩ => ⟨S_, .f32⟩
  | .hbm, ⟨12, _⟩ => ⟨S16x4x4x4096, .f32⟩
  | .hbm, ⟨13, _⟩ => ⟨S16x4x4x4096, .f32⟩
  | .hbm, ⟨14, _⟩ => ⟨S16x4x4x4096x1, .f32⟩
  | .hbm, ⟨15, _⟩ => ⟨S16x4x4x4096x4112, .f32⟩
  | .hbm, ⟨16, _⟩ => ⟨S16x4x4x4096x4112, .f32⟩
  | .hbm, ⟨17, _⟩ => ⟨S16x4x4x4096x4112, .f32⟩
  | .hbm, ⟨18, _⟩ => ⟨S_, .f32⟩
  | .hbm, ⟨19, _⟩ => ⟨S16x4x4x4096, .f32⟩
  | .hbm, ⟨20, _⟩ => ⟨S16x4x4x4096x1, .f32⟩
  | .hbm, ⟨21, _⟩ => ⟨S16x4x4x4096x4112, .f32⟩
  | .hbm, ⟨22, _⟩ => ⟨S16x4x4x4096x4112, .f32⟩
  | .hbm, ⟨23, _⟩ => ⟨S16x4x64x4x4096, .f32⟩
  | .hbm, ⟨24, _⟩ => ⟨S16x4096x4x4x64, .f32⟩
  | .hbm, ⟨25, _⟩ => ⟨S16x4096x2x2x4x64, .f32⟩
  | .hbm, ⟨26, _⟩ => ⟨S16x4096x2x4x2x64, .f32⟩
  | .hbm, ⟨27, _⟩ => ⟨S65536x1024, .f32⟩
  | .hbm, ⟨28, _⟩ => ⟨S65536x1024, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Oproj.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S65536x1024, .bf16⟩
  | .hbm, ⟨5, _⟩ => ⟨S1024x1024, .bf16⟩
  | .hbm, ⟨6, _⟩ => ⟨S1x1024, .f32⟩
  | .hbm, ⟨7, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OprojReferenceIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== NaProj.lean ====
abbrev S65536x1024 : Shape := ⟨2, ![65536, 1024]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NaProjIdeal.lean ====
variable {F : FTy → Type} [FloatOps F] [Named F]
def κ : String → Option EReal := fun
  | "scale" => some (((8 * (Real.log 2))⁻¹ : ℝ) : EReal)
  | _ => none
-- ==== NaProjReferenceIdeal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x2048 : Shape := ⟨2, ![65536, 2048]⟩

abbrev nBuf : Space → Nat
  | .hbm => 32
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x2048, .f32⟩
  | .hbm, ⟨30, _⟩ => ⟨S65536x3072, .f32⟩
  | .hbm, ⟨31, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== GqaProj.lean ====
abbrev S65536x1024 : Shape := ⟨2, ![65536, 1024]⟩
abbrev S1024 : Shape := ⟨1, ![1024]⟩
abbrev S1024x1536 : Shape := ⟨2, ![1024, 1536]⟩
abbrev S64 : Shape := ⟨1, ![64]⟩
abbrev S16 : Shape := ⟨1, ![16]⟩
abbrev S4096 : Shape := ⟨1, ![4096]⟩
abbrev S4096x1 : Shape := ⟨2, ![4096, 1]⟩
abbrev S1024x1024 : Shape := ⟨2, ![1024, 1024]⟩
abbrev S1024x16x64 : Shape := ⟨3, ![1024, 16, 64]⟩
abbrev S_ : Shape := ⟨0, ![]⟩
abbrev S16x1 : Shape := ⟨2, ![16, 1]⟩
abbrev S1024x256 : Shape := ⟨2, ![1024, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S256x1024 : Shape := ⟨2, ![256, 1024]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S65536x256 : Shape := ⟨2, ![65536, 256]⟩
abbrev S128x256x512 : Shape := ⟨3, ![128, 256, 512]⟩
abbrev S1024x128 : Shape := ⟨2, ![1024, 128]⟩
abbrev S2x256x512 : Shape := ⟨3, ![2, 256, 512]⟩
abbrev S1024x1 : Shape := ⟨2, ![1024, 1]⟩
abbrev S256x512 : Shape := ⟨2, ![256, 512]⟩
abbrev S1x256x512 : Shape := ⟨3, ![1, 256, 512]⟩

abbrev nBuf : Space → Nat
  | .hbm => 90
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S16, .i32⟩
  | .hbm, ⟨6, _⟩ => ⟨S16, .i1⟩
  | .hbm, ⟨7, _⟩ => ⟨S4096, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S1024x1024, .f32⟩
  | .hbm, ⟨12, _⟩ => ⟨S1024x16x64, .f32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S1024x16x64, .f32⟩
  | .hbm, ⟨19, _⟩ => ⟨S1024x1024, .f32⟩
  | .hbm, ⟨20, _⟩ => ⟨S1024x1024, .bf16⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .bf16⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S1x1024, .f32⟩
  | .hbm, ⟨34, _⟩ => ⟨S256x1024, .bf16⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S1x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x1x16, .f32⟩
  | .hbm, ⟨58, _⟩ => ⟨S4096x1x16, .f32⟩
  | .hbm, ⟨59, _⟩ => ⟨S4096x2x16, .f32⟩
  | .hbm, ⟨60, _⟩ => ⟨S4096x2x16, .f32⟩
  | .hbm, ⟨61, _⟩ => ⟨S4096x2x16, .f32⟩
  | .hbm, ⟨62, _⟩ => ⟨S_, .f32⟩
  | .hbm, ⟨63, _⟩ => ⟨S4096x2x16, .f32⟩
  | .hbm, ⟨64, _⟩ => ⟨S4096x2x1x16, .f32⟩
  | .hbm, ⟨65, _⟩ => ⟨S4096x2x1x16, .f32⟩
  | .hbm, ⟨66, _⟩ => ⟨S4096x2x2x16, .f32⟩
  | .hbm, ⟨67, _⟩ => ⟨S4096x64, .f32⟩
  | .hbm, ⟨68, _⟩ => ⟨S4096x2x16, .f32⟩
  | .hbm, ⟨69, _⟩ => ⟨S4096x2x1x16, .f32⟩
  | .hbm, ⟨70, _⟩ => ⟨S4096x2x1x16, .f32⟩
  | .hbm, ⟨71, _⟩ => ⟨S4096x2x2x16, .f32⟩
  | .hbm, ⟨72, _⟩ => ⟨S4096x64, .f32⟩
  | .hbm, ⟨73, _⟩ => ⟨S4096x2x1x16, .f32⟩
  | .hbm, ⟨74, _⟩ => ⟨S4096x2x1x16, .f32⟩
  | .hbm, ⟨75, _⟩ => ⟨S4096x2x2x16, .f32⟩
  | .hbm, ⟨76, _⟩ => ⟨S4096x64, .f32⟩
  | .hbm, ⟨77, _⟩ => ⟨S1x4096x1x64, .f32⟩
  | .hbm, ⟨78, _⟩ => ⟨S1x4096x2x64, .f32⟩
  | .hbm, ⟨79, _⟩ => ⟨S4096x128, .f32⟩
  | .hbm, ⟨80, _⟩ => ⟨S1x4096x1x64, .f32⟩
  | .hbm, ⟨81, _⟩ => ⟨S1x4096x2x64, .f32⟩
  | .hbm, ⟨82, _⟩ => ⟨S4096x128, .f32⟩
  | .hbm, ⟨83, _⟩ => ⟨S1x4096x1x64, .f32⟩
  | .hbm, ⟨84, _⟩ => ⟨S1x4096x2x64, .f32⟩
  | .hbm, ⟨85, _⟩ => ⟨S4096x128, .f32⟩
  | .hbm, ⟨86, _⟩ => ⟨S65536x1024, .bf16⟩
  | .hbm, ⟨87, _⟩ => ⟨S65536x256, .bf16⟩
  | .hbm, ⟨88, _⟩ => ⟨S65536x256, .bf16⟩
  | .hbm, ⟨89, _⟩ => ⟨S128x256x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S2x256x512, .bf16⟩
  | .local _ .vmem, ⟨22, _⟩ => ⟨S2x256x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== GqaProjIdeal.lean ====
variable {F : FTy → Type} [FloatOps F] [Named F]
def κ : String → Option EReal := fun
  | "scale" => some (((8 * (Real.log 2))⁻¹ : ℝ) : EReal)
  | _ => none
-- ==== GqaProjReferenceIdeal.lean ====
abbrev S65536x1024 : Shape := ⟨2, ![65536, 1024]⟩
abbrev S1024 : Shape := ⟨1, ![1024]⟩
abbrev S1024x1536 : Shape := ⟨2, ![1024, 1536]⟩
abbrev S64 : Shape := ⟨1, ![64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x1x2x16 : Shape := ⟨4, ![4096, 1, 2, 16]⟩
abbrev S65536 : Shape := ⟨1, ![65536]⟩
abbrev S65536x1 : Shape := ⟨2, ![65536, 1]⟩
abbrev S1x1024 : Shape := ⟨2, ![1, 1024]⟩
abbrev S65536x1536 : Shape := ⟨2, ![65536, 1536]⟩
abbrev S16x4096x1536 : Shape := ⟨3, ![16, 4096, 1536]⟩
abbrev S16x4096x1024 : Shape := ⟨3, ![16, 4096, 1024]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x4096x256 : Shape := ⟨3, ![16, 4096, 256]⟩
abbrev S16x4096x4x64 : Shape := ⟨4, ![16, 4096, 4, 64]⟩
abbrev S16x4096x4 : Shape := ⟨3, ![16, 4096, 4]⟩
abbrev S16x4096x4x1 : Shape := ⟨4, ![16, 4096, 4, 1]⟩
abbrev S16x4096x16x2x2x16 : Shape := ⟨6, ![16, 4096, 16, 2, 2, 16]⟩
abbrev S16x4096x16x2x1x16 : Shape := ⟨6, ![16, 4096, 16, 2, 1, 16]⟩
abbrev S16x4096x16x2x16 : Shape := ⟨5, ![16, 4096, 16, 2, 16]⟩
abbrev S1x4096x1x2x16 : Shape := ⟨5, ![1, 4096, 1, 2, 16]⟩
abbrev S16x4096x4x2x2x16 : Shape := ⟨6, ![16, 4096, 4, 2, 2, 16]⟩
abbrev S16x4096x4x2x1x16 : Shape := ⟨6, ![16, 4096, 4, 2, 1, 16]⟩
abbrev S16x4096x4x2x16 : Shape := ⟨5, ![16, 4096, 4, 2, 16]⟩
abbrev S16x4096x2x2x4x64 : Shape := ⟨6, ![16, 4096, 2, 2, 4, 64]⟩
abbrev S16x4096x2x4x2x64 : Shape := ⟨6, ![16, 4096, 2, 4, 2, 64]⟩
abbrev S65536x256 : Shape := ⟨2, ![65536, 256]⟩
abbrev S128x512x256 : Shape := ⟨3, ![128, 512, 256]⟩
abbrev S128x256x512 : Shape := ⟨3, ![128, 256, 512]⟩

abbrev nBuf : Space → Nat
  | .hbm => 196
  | .vmem => 0
  | .smem => 0
  | _ => 0

abbrev hbmTy0_0 (i : Nat) : BufTy := match i % 128 with
  | 0 => ⟨S65536x1024, .f32⟩
  | 1 => ⟨S1024, .f32⟩
  | 2 => ⟨S1024x1536, .f32⟩
  | 3 => ⟨S64, .f32⟩
  | 4 => ⟨S64, .f32⟩
  | 5 => ⟨S4096, .i32⟩
  | 6 => ⟨S_, .i32⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .i32⟩
  | 15 => ⟨S4096, .i32⟩
  | 16 => ⟨S_, .i32⟩
  | 17 => ⟨S4096, .i32⟩
  | 18 => ⟨S4096, .i1⟩
  | 19 => ⟨S4096, .i1⟩
  | 20 => ⟨S_, .i32⟩
  | 21 => ⟨S4096, .i32⟩
  | 22 => ⟨S4096, .i32⟩
  | 23 => ⟨S4096, .i32⟩
  | 24 => ⟨S4096, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i1⟩
  | 39 => ⟨S_, .i32⟩
  | 40 => ⟨S_, .i1⟩
  | 41 => ⟨S4096, .i1⟩
  | 42 => ⟨S4096, .i1⟩
  | 43 => ⟨S4096, .i1⟩
  | 44 => ⟨S4096, .i32⟩
  | 45 => ⟨S4096, .i32⟩
  | 46 => ⟨S4096, .i32⟩
  | 47 => ⟨S4096, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S4096x1, .f32⟩
  | 63 => ⟨S1x16, .f32⟩
  | 64 => ⟨S4096x16, .f32⟩
  | 65 => ⟨S4096x16, .f32⟩
  | 66 => ⟨S4096x16, .f32⟩
  | 67 => ⟨S4096x1, .f32⟩
  | 68 => ⟨S1x16, .f32⟩
  | 69 => ⟨S4096x16, .f32⟩
  | 70 => ⟨S4096x16, .f32⟩
  | 71 => ⟨S4096x16, .f32⟩
  | 72 => ⟨S4096x32, .f32⟩
  | 73 => ⟨S4096x1x2x16, .f32⟩
  | 74 => ⟨S4096x1x2x16, .f32⟩
  | 75 => ⟨S4096x1x2x16, .f32⟩
  | 76 => ⟨S65536x1024, .f32⟩
  | 77 => ⟨S_, .f32⟩
  | 78 => ⟨S65536, .f32⟩
  | 79 => ⟨S65536x1, .f32⟩
  | 80 => ⟨S_, .f32⟩
  | 81 => ⟨S65536x1, .f32⟩
  | 82 => ⟨S65536x1, .f32⟩
  | 83 => ⟨S_, .f32⟩
  | 84 => ⟨S65536x1, .f32⟩
  | 85 => ⟨S65536x1, .f32⟩
  | 86 => ⟨S65536x1, .f32⟩
  | 87 => ⟨S65536x1024, .f32⟩
  | 88 => ⟨S65536x1024, .f32⟩
  | 89 => ⟨S1x1024, .f32⟩
  | 90 => ⟨S65536x1024, .f32⟩
  | 91 => ⟨S65536x1024, .f32⟩
  | 92 => ⟨S65536x1536, .f32⟩
  | 93 => ⟨S16x4096x1536, .f32⟩
  | 94 => ⟨S16x4096x1024, .f32⟩
  | 95 => ⟨S16x4096x16x64, .f32⟩
  | 96 => ⟨S16x4096x16x64, .f32⟩
  | 97 => ⟨S_, .f32⟩
  | 98 => ⟨S16x4096x16, .f32⟩
  | 99 => ⟨S16x4096x16x1, .f32⟩
  | 100 => ⟨S_, .f32⟩
  | 101 => ⟨S16x4096x16x1, .f32⟩
  | 102 => ⟨S16x4096x16x1, .f32⟩
  | 103 => ⟨S_, .f32⟩
  | 104 => ⟨S16x4096x16x1, .f32⟩
  | 105 => ⟨S16x4096x16x1, .f32⟩
  | 106 => ⟨S16x4096x16x1, .f32⟩
  | 107 => ⟨S16x4096x16x64, .f32⟩
  | 108 => ⟨S16x4096x16x64, .f32⟩
  | 109 => ⟨S1x1x1x64, .f32⟩
  | 110 => ⟨S16x4096x16x64, .f32⟩
  | 111 => ⟨S16x4096x16x64, .f32⟩
  | 112 => ⟨S16x4096x256, .f32⟩
  | 113 => ⟨S16x4096x4x64, .f32⟩
  | 114 => ⟨S16x4096x4x64, .f32⟩
  | 115 => ⟨S_, .f32⟩
  | 116 => ⟨S16x4096x4, .f32⟩
  | 117 => ⟨S16x4096x4x1, .f32⟩
  | 118 => ⟨S_, .f32⟩
  | 119 => ⟨S16x4096x4x1, .f32⟩
  | 120 => ⟨S16x4096x4x1, .f32⟩
  | 121 => ⟨S_, .f32⟩
  | 122 => ⟨S16x4096x4x1, .f32⟩
  | 123 => ⟨S16x4096x4x1, .f32⟩
  | 124 => ⟨S16x4096x4x1, .f32⟩
  | 125 => ⟨S16x4096x4x64, .f32⟩
  | 126 => ⟨S16x4096x4x64, .f32⟩
  | 127 => ⟨S1x1x1x64, .f32⟩
  | _ => ⟨S65536x1024, .f32⟩

abbrev hbmTy0_1 (i : Nat) : BufTy := match i % 128 with
  | 0 => ⟨S16x4096x4x64, .f32⟩
  | 1 => ⟨S16x4096x4x64, .f32⟩
  | 2 => ⟨S16x4096x256, .f32⟩
  | 3 => ⟨S16x4096x16x2x2x16, .f32⟩
  | 4 => ⟨S16x4096x16x2x1x16, .f32⟩
  | 5 => ⟨S16x4096x16x2x16, .f32⟩
  | 6 => ⟨S16x4096x16x2x1x16, .f32⟩
  | 7 => ⟨S16x4096x16x2x16, .f32⟩
  | 8 => ⟨S1x4096x1x2x16, .f32⟩
  | 9 => ⟨S16x4096x16x2x16, .f32⟩
  | 10 => ⟨S16x4096x16x2x16, .f32⟩
  | 11 => ⟨S1x4096x1x2x16, .f32⟩
  | 12 => ⟨S16x4096x16x2x16, .f32⟩
  | 13 => ⟨S16x4096x16x2x16, .f32⟩
  | 14 => ⟨S16x4096x16x2x16, .f32⟩
  | 15 => ⟨S1x4096x1x2x16, .f32⟩
  | 16 => ⟨S16x4096x16x2x16, .f32⟩
  | 17 => ⟨S16x4096x16x2x16, .f32⟩
  | 18 => ⟨S1x4096x1x2x16, .f32⟩
  | 19 => ⟨S16x4096x16x2x16, .f32⟩
  | 20 => ⟨S16x4096x16x2x16, .f32⟩
  | 21 => ⟨S16x4096x16x2x16, .f32⟩
  | 22 => ⟨S16x4096x16x2x1x16, .f32⟩
  | 23 => ⟨S16x4096x16x2x1x16, .f32⟩
  | 24 => ⟨S16x4096x16x2x2x16, .f32⟩
  | 25 => ⟨S16x4096x16x64, .f32⟩
  | 26 => ⟨S_, .f32⟩
  | 27 => ⟨S16x4096x16x64, .f32⟩
  | 28 => ⟨S16x4096x16x64, .f32⟩
  | 29 => ⟨S_, .f32⟩
  | 30 => ⟨S_, .f32⟩
  | 31 => ⟨S_, .f32⟩
  | 32 => ⟨S16x4096x16x64, .f32⟩
  | 33 => ⟨S16x4096x16x64, .f32⟩
  | 34 => ⟨S16x4096x4x2x2x16, .f32⟩
  | 35 => ⟨S16x4096x4x2x1x16, .f32⟩
  | 36 => ⟨S16x4096x4x2x16, .f32⟩
  | 37 => ⟨S16x4096x4x2x1x16, .f32⟩
  | 38 => ⟨S16x4096x4x2x16, .f32⟩
  | 39 => ⟨S1x4096x1x2x16, .f32⟩
  | 40 => ⟨S16x4096x4x2x16, .f32⟩
  | 41 => ⟨S16x4096x4x2x16, .f32⟩
  | 42 => ⟨S1x4096x1x2x16, .f32⟩
  | 43 => ⟨S16x4096x4x2x16, .f32⟩
  | 44 => ⟨S16x4096x4x2x16, .f32⟩
  | 45 => ⟨S16x4096x4x2x16, .f32⟩
  | 46 => ⟨S1x4096x1x2x16, .f32⟩
  | 47 => ⟨S16x4096x4x2x16, .f32⟩
  | 48 => ⟨S16x4096x4x2x16, .f32⟩
  | 49 => ⟨S1x4096x1x2x16, .f32⟩
  | 50 => ⟨S16x4096x4x2x16, .f32⟩
  | 51 => ⟨S16x4096x4x2x16, .f32⟩
  | 52 => ⟨S16x4096x4x2x16, .f32⟩
  | 53 => ⟨S16x4096x4x2x1x16, .f32⟩
  | 54 => ⟨S16x4096x4x2x1x16, .f32⟩
  | 55 => ⟨S16x4096x4x2x2x16, .f32⟩
  | 56 => ⟨S16x4096x4x64, .f32⟩
  | 57 => ⟨S16x4096x2x2x4x64, .f32⟩
  | 58 => ⟨S16x4096x2x4x2x64, .f32⟩
  | 59 => ⟨S65536x1024, .f32⟩
  | 60 => ⟨S65536x1024, .bf16⟩
  | 61 => ⟨S65536x256, .f32⟩
  | 62 => ⟨S65536x256, .bf16⟩
  | 63 => ⟨S65536x256, .f32⟩
  | 64 => ⟨S65536x256, .bf16⟩
  | 65 => ⟨S128x512x256, .f32⟩
  | 66 => ⟨S128x256x512, .f32⟩
  | 67 => ⟨S128x256x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_2 : Ref sig .tc := ⟨.hbm, 56, rfl⟩
abbrev main_v11 : Ref sig .tc := ⟨.hbm, 57, rfl⟩
abbrev main_v12 : Ref sig .tc := ⟨.hbm, 58, rfl⟩
abbrev main_cst_3 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_4 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_cst_6 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_cst_8 : Ref sig .tc := ⟨.hbm, 100, rfl⟩
abbrev main_v49 : Ref sig .tc := ⟨.hbm, 101, rfl⟩
abbrev main_v50 : Ref sig .tc := ⟨.hbm, 102, rfl⟩
abbrev main_cst_9 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_10 : Ref sig .tc := ⟨.hbm, 115, rfl⟩
abbrev main_v62 : Ref sig .tc := ⟨.hbm, 116, rfl⟩
abbrev main_v63 : Ref sig .tc := ⟨.hbm, 117, rfl⟩
abbrev main_cst_11 : Ref sig .tc := ⟨.hbm, 118, rfl⟩
abbrev main_v64 : Ref sig .tc := ⟨.hbm, 119, rfl⟩
abbrev main_v65 : Ref sig .tc := ⟨.hbm, 120, rfl⟩
abbrev main_cst_12 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_13 : Ref sig .tc := ⟨.hbm, 154, rfl⟩
abbrev main_v98 : Ref sig .tc := ⟨.hbm, 155, rfl⟩
abbrev main_v99 : Ref sig .tc := ⟨.hbm, 156, rfl⟩
abbrev main_cst_14 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩

abbrev nD : Nat := 1
abbrev τ : Topo := Topo.v7x

variable {F : FTy → Type} [FloatOps F]
-- ==== Proof.Attn.Ops.lean ====
/- The arithmetic one head of the attention does on one chunk of keys, as named operations on vectors, and what each
   operation reads at an index when numbers are extended reals. A chunk holds 512 keys; the last one also holds the
   16 meta keys. Scores are laid out [key, query], the weighted values [value coordinate, query]. -/
module

public import proofs.«01_k».proof.Proof.Gen.KernelIdeal.Value
public import Idealize.ShloMosaic.Lib.MatmulPlain
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F]

/-- The unnormalised weights of a chunk of 512 keys: two to the power of each score. -/
def wts (K : Vec F S1x512x128 .bf16) (Q : Vec F S1x128x512 .bf16) : FVec F S512x512 .f32 :=
  exp2 (matmul dot_S512x128_S128x512_S512x512_1_0_0_1_n_n none
    (shapeCast S512x128 K shapeCasts_S1x512x128_S512x128 : FVec F S512x128 .bf16)
    (shapeCast S128x512 Q shapeCasts_S1x128x512_S128x512 : FVec F S128x512 .bf16) (constant S512x512 .f32 0x00000000#32))

/-- The values of a chunk summed with its weights. -/
def mix (P : FVec F S512x512 .f32) (V : Vec F S1x64x512 .bf16) : FVec F S64x512 .f32 :=
  matmul dot_S64x512_S512x512_S64x512_1_0_0_1_n_n none
    (shapeCast S64x512 V shapeCasts_S1x64x512_S64x512 : FVec F S64x512 .bf16)
    (truncf .bf16 P bitsLt_bf16_f32 : FVec F S512x512 .bf16) (constant S64x512 .f32 0x00000000#32)

/-- The sum of a chunk's weights, one per query. -/
def tot (P : FVec F S512x512 .f32) : FVec F S1x512 .f32 :=
  shapeCast S1x512 (multiReduction .add [0] S512 P 0x00000000#32 reduces_S512x512_S512 (.inl rfl) rfl) shapeCasts_S512_S1x512

/-- The first chunk's weighted values, as stored. -/
def accFirst (P : FVec F S512x512 .f32) (V : Vec F S1x64x512 .bf16) : FVec F S1x64x512 .f32 :=
  shapeCast S1x64x512 (mix P V) shapeCasts_S64x512_S1x64x512

/-- The first chunk's total weight, as stored. -/
def sumFirst (P : FVec F S512x512 .f32) : FVec F S1x1x512 .f32 :=
  shapeCast S1x1x512 (tot P) shapeCasts_S1x512_S1x1x512

/-- A later chunk's weighted values added to the accumulator. -/
def accNext (P : FVec F S512x512 .f32) (V : Vec F S1x64x512 .bf16) (A : Vec F S1x64x512 .f32) : FVec F S1x64x512 .f32 :=
  shapeCast S1x64x512 (addf (shapeCast S64x512 A shapeCasts_S1x64x512_S64x512 : FVec F S64x512 .f32) (mix P V)) shapeCasts_S64x512_S1x64x512

/-- A later chunk's total weight added to the running total. -/
def sumNext (P : FVec F S512x512 .f32) (A : Vec F S1x1x512 .f32) : FVec F S1x1x512 .f32 :=
  shapeCast S1x1x512 (addf (shapeCast S1x512 A shapeCasts_S1x1x512_S1x512 : FVec F S1x512 .f32) (tot P)) shapeCasts_S1x512_S1x1x512

/-- The last chunk's weights: 512 keys and the 16 meta keys. -/
def wtsLast (K : Vec F S1x528x128 .bf16) (Q : Vec F S1x128x512 .bf16) : FVec F S528x512 .f32 :=
  exp2 (matmul dot_S528x128_S128x512_S528x512_1_0_0_1_n_n none
    (shapeCast S528x128 K shapeCasts_S1x528x128_S528x128 : FVec F S528x128 .bf16)
    (shapeCast S128x512 Q shapeCasts_S1x128x512_S128x512 : FVec F S128x512 .bf16) (constant S528x512 .f32 0x00000000#32))

/-- The last chunk's weighted values and the meta keys' added to the accumulator. -/
def accLast (P : FVec F S528x512 .f32) (V : Vec F S1x64x512 .bf16) (VM : Vec F S1x64x16 .bf16) (A : Vec F S1x64x512 .f32) :
    FVec F S1x64x512 .f32 :=
  shapeCast S1x64x512 (addf (shapeCast S64x512 A shapeCasts_S1x64x512_S64x512 : FVec F S64x512 .f32)
    (addf
      (matmul dot_S64x512_S512x512_S64x512_1_0_0_1_n_n none
        (shapeCast S64x512 V shapeCasts_S1x64x512_S64x512 : FVec F S64x512 .bf16)
        (extractStridedSlice S512x512 ![0, 0] (truncf .bf16 P bitsLt_bf16_f32) slices_S528x512_o0_0_S512x512 : FVec F S512x512 .bf16)
        (constant S64x512 .f32 0x00000000#32))
      (matmul dot_S64x16_S16x512_S64x512_1_0_0_1_n_n none
        (shapeCast S64x16 VM shapeCasts_S1x64x16_S64x16 : FVec F S64x16 .bf16)
        (extractStridedSlice S16x512 ![512, 0] (truncf .bf16 P bitsLt_bf16_f32) slices_S528x512_o512_0_S16x512 : FVec F S16x512 .bf16)
        (constant S64x512 .f32 0x00000000#32)))) shapeCasts_S64x512_S1x64x512

/-- The last chunk's total weight added to the running total. -/
def sumLast (P : FVec F S528x512 .f32) (A : Vec F S1x1x512 .f32) : FVec F S1x1x512 .f32 :=
  shapeCast S1x1x512 (addf (shapeCast S1x512 A shapeCasts_S1x1x512_S1x512 : FVec F S1x512 .f32)
    (shapeCast S1x512 (multiReduction .add [0] S512 P 0x00000000#32 reduces_S528x512_S512 (.inl rfl) rfl) shapeCasts_S512_S1x512))
    shapeCasts_S1x512_S1x1x512

/-- One head's normalised output, [value coordinate, query]. -/
def norm (A : Vec F S1x64x512 .f32) (L : Vec F S1x1x512 .f32) : FVec F S64x512 .f32 :=
  divf (shapeCast S64x512 A shapeCasts_S1x64x512_S64x512 : FVec F S64x512 .f32)
    (broadcastTo S64x512 (shapeCast S1x512 L shapeCasts_S1x1x512_S1x512 : FVec F S1x512 .f32) broadcasts_S1x512_S64x512)

/-- Two heads' normalised outputs side by side, [query, lane]. -/
def outPair (N₀ N₁ : FVec F S64x512 .f32) : FVec F S512x128 .bf16 :=
  truncf .bf16 (transpose S512x128 [1, 0] (concatenate S128x512 0 [⟨S64x512, N₀⟩, ⟨S64x512, N₁⟩]
    concatenates_S64x512_S64x512_S128x512_d0) transposes_S128x512_p1_0_S512x128) bitsLt_bf16_f32

/-- The lanes of the first of two packed heads. -/
def firstHalf : IVec S128x512 1 := cmpi .slt (iota .tc S128x512 32 [0] iota_S128x512_d0_w32) (broadcast S128x512 64#32)

/-- A slab of queries, [lane, query]. -/
def qT (X : Vec F S512x128 .bf16) : FVec F S128x512 .f32 :=
  transpose S128x512 [1, 0] (extf .f32 (shapeCast S512x128 X shapeCasts_S512x128_S512x128 : FVec F S512x128 .bf16) bitsLt_bf16_f32)
    transposes_S512x128_p1_0_S128x512

/-- The first head's queries of a slab, the other lanes zero. -/
def qEven (X : Vec F S512x128 .bf16) : FVec F S1x128x512 .bf16 :=
  shapeCast S1x128x512 (truncf .bf16 (select firstHalf (qT X) (broadcast S128x512 (Scalar.ofBits .f32 0x00000000#32))) bitsLt_bf16_f32)
    shapeCasts_S128x512_S1x128x512

/-- The second head's queries of a slab, the other lanes zero. -/
def qOdd (X : Vec F S512x128 .bf16) : FVec F S1x128x512 .bf16 :=
  shapeCast S1x128x512 (truncf .bf16 (select firstHalf (broadcast S128x512 (Scalar.ofBits .f32 0x00000000#32)) (qT X)) bitsLt_bf16_f32)
    shapeCasts_S128x512_S1x128x512

/-! ### At an index, over the extended reals -/

theorem wts_apply (K : Vec Ideal S1x512x128 .bf16) (Q : Vec Ideal S1x128x512 .bf16) (k x : Fin 512) :
    wts K Q (ix2 k x) = Ideal.exp2 (∑ l : Fin 128, K (ix3 0 k l) * Q (ix3 0 l x)) := by
  unfold wts
  pointwise
  rfl

theorem mix_apply (P : FVec Ideal S512x512 .f32) (V : Vec Ideal S1x64x512 .bf16) (d : Fin 64) (x : Fin 512) :
    mix P V (ix2 d x) = ∑ k : Fin 512, V (ix3 0 d k) * P (ix2 k x) := by
  unfold mix
  pointwise

theorem tot_apply (P : FVec Ideal S512x512 .f32) (x : Fin 512) : tot P (ix2 0 x) = ∑ k : Fin 512, P (ix2 k x) := by
  unfold tot
  pointwise

theorem accFirst_apply (P : FVec Ideal S512x512 .f32) (V : Vec Ideal S1x64x512 .bf16) (d : Fin 64) (x : Fin 512) :
    accFirst P V (ix3 0 d x) = ∑ k : Fin 512, V (ix3 0 d k) * P (ix2 k x) := by
  unfold accFirst mix
  pointwise

theorem sumFirst_apply (P : FVec Ideal S512x512 .f32) (x : Fin 512) : sumFirst P (ix3 0 0 x) = ∑ k : Fin 512, P (ix2 k x) := by
  unfold sumFirst tot
  pointwise

theorem accNext_apply (P : FVec Ideal S512x512 .f32) (V : Vec Ideal S1x64x512 .bf16) (A : Vec Ideal S1x64x512 .f32)
    (d : Fin 64) (x : Fin 512) :
    accNext P V A (ix3 0 d x) = A (ix3 0 d x) + ∑ k : Fin 512, V (ix3 0 d k) * P (ix2 k x) := by
  unfold accNext mix
  pointwise

theorem sumNext_apply (P : FVec Ideal S512x512 .f32) (A : Vec Ideal S1x1x512 .f32) (x : Fin 512) :
    sumNext P A (ix3 0 0 x) = A (ix3 0 0 x) + ∑ k : Fin 512, P (ix2 k x) := by
  unfold sumNext tot
  pointwise

theorem wtsLast_apply (K : Vec Ideal S1x528x128 .bf16) (Q : Vec Ideal S1x128x512 .bf16) (k : Fin 528) (x : Fin 512) :
    wtsLast K Q (ix2 k x) = Ideal.exp2 (∑ l : Fin 128, K (ix3 0 k l) * Q (ix3 0 l x)) := by
  unfold wtsLast
  pointwise
  rfl

theorem accLast_apply (P : FVec Ideal S528x512 .f32) (V : Vec Ideal S1x64x512 .bf16) (VM : Vec Ideal S1x64x16 .bf16)
    (A : Vec Ideal S1x64x512 .f32) (d : Fin 64) (x : Fin 512) :
    accLast P V VM A (ix3 0 d x) = A (ix3 0 d x) + ((∑ k : Fin 512, V (ix3 0 d k) * P (ix2 ⟨k.val, by omega⟩ x)) +
      ∑ k : Fin 16, VM (ix3 0 d k) * P (ix2 ⟨512 + k.val, by omega⟩ x)) := by
  unfold accLast
  pointwise

theorem sumLast_apply (P : FVec Ideal S528x512 .f32) (A : Vec Ideal S1x1x512 .f32) (x : Fin 512) :
    sumLast P A (ix3 0 0 x) = A (ix3 0 0 x) + ∑ k : Fin 528, P (ix2 k x) := by
  unfold sumLast
  pointwise

theorem norm_apply (A : Vec Ideal S1x64x512 .f32) (L : Vec Ideal S1x1x512 .f32) (d : Fin 64) (x : Fin 512) :
    norm A L (ix2 d x) = Ideal.div (A (ix3 0 d x)) (L (ix3 0 0 x)) := by
  unfold norm
  pointwise

theorem outPair_apply (N₀ N₁ : FVec Ideal S64x512 .f32) (x : Fin 512) (l : Fin 128) :
    outPair N₀ N₁ (ix2 x l) = if h : l.val < 64 then N₀ (ix2 ⟨l.val, h⟩ x) else N₁ (ix2 ⟨l.val - 64, by omega⟩ x) := by
  unfold outPair
  pointwise

theorem firstHalf_val : ∀ l : Fin 128, IntOp.cmpi .slt (BitVec.ofNat 32 l.val) 64#32 = if l.val < 64 then 1#1 else 0#1 := by
  decide +kernel

theorem qEven_apply (X : Vec Ideal S512x128 .bf16) (l : Fin 128) (x : Fin 512) :
    qEven X (ix3 0 l x) = if l.val < 64 then X (ix2 x l) else 0 := by
  unfold qEven firstHalf qT
  pointwise
  refine (congrArg (fun b => Scalar.select b _ _) (firstHalf_val l)).trans ?_
  by_cases h : l.val < 64
  · rw [if_pos h, if_pos h]; rfl
  · rw [if_neg h, if_neg h]; rfl

theorem qOdd_apply (X : Vec Ideal S512x128 .bf16) (l : Fin 128) (x : Fin 512) :
    qOdd X (ix3 0 l x) = if l.val < 64 then 0 else X (ix2 x l) := by
  unfold qOdd firstHalf qT
  pointwise
  refine (congrArg (fun b => Scalar.select b _ _) (firstHalf_val l)).trans ?_
  by_cases h : l.val < 64
  · rw [if_pos h, if_pos h]; rfl
  · rw [if_neg h, if_neg h]; rfl

end Cert.Attn

end
-- ==== Proof.Attn.Slabs.lean ====
/- A scratch buffer of sixteen slabs, one per head, read after whole slabs have been written: the slab last written
   reads its payload, every other slab what it read before. -/
module

public import Idealize.ShloMosaic.Lib.Pipeline.Value
public import Idealize.ShloMosaic.Lib.Pointwise

@[expose] public section

namespace Cert.Attn

open Idealize.ShloMosaic Idealize.SL.Sem

variable {sig : RefSig} {κ : Kind} {sp : Space} {e : EltTy} {Val : EltTy → Type} {N A B : ℕ}

/-- After slab `n` is written, slab `n` reads the payload and any other slab reads what it read before. -/
theorem read_slab (v : View sig κ sp ⟨3, ![N, A, B]⟩ e) (f : v.ty.Contents Val) (n : ℕ)
    (inb : ∀ a, (![n, 0, 0] : Fin 3 → ℕ) a + (![1, A, B] : Fin 3 → ℕ) a ≤ (![N, A, B] : Fin 3 → ℕ) a)
    (w : (⟨3, ![1, A, B]⟩ : Shape).Idx → Val e) (L : List (View.Piece Val ⟨3, ![N, A, B]⟩ e)) (h : Fin N) (d : Fin A) (x : Fin B) :
    v.read Val (v.writes Val f (⟨Rect.unit ![n, 0, 0] ![1, A, B] inb, w⟩ :: L)) (ix3 h d x) =
      if h.val = n then w (ix3 0 d x) else v.read Val (v.writes Val f L) (ix3 h d x) := by
  by_cases hn : h.val = n
  · rw [if_pos hn]
    refine View.read_writes_cons_hit_of_coords v f (Rect.unit (s := ⟨3, ![N, A, B]⟩) ![n, 0, 0] ![1, A, B] inb) w L
      (show (⟨3, ![1, A, B]⟩ : Shape).Idx from ix3 0 d x) _ ?_
    intro a
    match a with
    | ⟨0, _⟩ => show h.val = n + 1 * 0; omega
    | ⟨1, _⟩ => show d.val = 0 + 1 * d.val; omega
    | ⟨2, _⟩ => show x.val = 0 + 1 * x.val; omega
  · rw [if_neg hn]
    refine View.read_writes_cons_miss_of_axis v f _ L _ (0 : Fin 3) n 1 rfl rfl rfl ?_
    show h.val < n ∨ n + 1 ≤ h.val
    omega

/-- The slab just written. -/
theorem read_slab_hit (v : View sig κ sp ⟨3, ![N, A, B]⟩ e) (f : v.ty.Contents Val) (n : ℕ)
    (inb : ∀ a, (![n, 0, 0] : Fin 3 → ℕ) a + (![1, A, B] : Fin 3 → ℕ) a ≤ (![N, A, B] : Fin 3 → ℕ) a)
    (w : (⟨3, ![1, A, B]⟩ : Shape).Idx → Val e) (L : List (View.Piece Val ⟨3, ![N, A, B]⟩ e)) (h : Fin N) (d : Fin A) (x : Fin B)
    (hn : h.val = n) :
    v.read Val (v.writes Val f (⟨Rect.unit ![n, 0, 0] ![1, A, B] inb, w⟩ :: L)) (ix3 h d x) = w (ix3 0 d x) :=
  (read_slab v f n inb w L h d x).trans (if_pos hn)

/-- Another slab. -/
theorem read_slab_miss (v : View sig κ sp ⟨3, ![N, A, B]⟩ e) (f : v.ty.Contents Val) (n : ℕ)
    (inb : ∀ a, (![n, 0, 0] : Fin 3 → ℕ) a + (![1, A, B] : Fin 3 → ℕ) a ≤ (![N, A, B] : Fin 3 → ℕ) a)
    (w : (⟨3, ![1, A, B]⟩ : Shape).Idx → Val e) (L : List (View.Piece Val ⟨3, ![N, A, B]⟩ e)) (h : Fin N) (d : Fin A) (x : Fin B)
    (hn : h.val ≠ n) :
    v.read Val (v.writes Val f (⟨Rect.unit ![n, 0, 0] ![1, A, B] inb, w⟩ :: L)) (ix3 h d x) = v.read Val (v.writes Val f L) (ix3 h d x) :=
  (read_slab v f n inb w L h d x).trans (if_neg hn)

/-- A load of slab `n` reads that slab. -/
theorem load_slab (v : View sig κ sp ⟨3, ![N, A, B]⟩ e) (f : v.ty.Contents Val) (n : ℕ) (hn : n < N)
    (inb : ∀ a, (![n, 0, 0] : Fin 3 → ℕ) a + (![1, A, B] : Fin 3 → ℕ) a ≤ (![N, A, B] : Fin 3 → ℕ) a) (d : Fin A) (x : Fin B) :
    v.readAt Val (Rect.unit (s := ⟨3, ![N, A, B]⟩) ![n, 0, 0] ![1, A, B] inb).toLoadRect f (ix3 0 d x) = v.read Val f (ix3 ⟨n, hn⟩ d x) := by
  rw [View.readAt_apply]
  congr 1
  funext a
  apply Fin.ext
  match a with
  | ⟨0, _⟩ => show n + 1 * 0 = n; omega
  | ⟨1, _⟩ => show 0 + 1 * d.val = d.val; omega
  | ⟨2, _⟩ => show 0 + 1 * x.val = x.val; omega

/-- A load of one rectangle of one row reads the coordinates moved by the offsets. -/
theorem load_rect {P Q : ℕ} (v : View sig κ sp ⟨3, ![N, A, B]⟩ e) (f : v.ty.Contents Val) (o : Fin 3 → ℕ) (n p q : ℕ)
    (ho : o = ![n, p, q]) (hn : n < N) (hp : p + P ≤ A) (hq : q + Q ≤ B)
    (inb : ∀ a, o a + (![1, P, Q] : Fin 3 → ℕ) a ≤ (![N, A, B] : Fin 3 → ℕ) a) (d : Fin P) (x : Fin Q) :
    v.readAt Val (Rect.unit (s := ⟨3, ![N, A, B]⟩) o ![1, P, Q] inb).toLoadRect f (ix3 0 d x) =
      v.read Val f (ix3 ⟨n, hn⟩ ⟨p + d.val, by omega⟩ ⟨q + x.val, by omega⟩) := by
  subst ho
  rw [View.readAt_apply]
  congr 1
  funext a
  apply Fin.ext
  match a with
  | ⟨0, _⟩ => show n + 1 * 0 = n; omega
  | ⟨1, _⟩ => show p + 1 * d.val = p + d.val; omega
  | ⟨2, _⟩ => show q + 1 * x.val = q + x.val; omega

/-- The same for a rectangle of a table. -/
theorem load_rect₂ {P Q : ℕ} (v : View sig κ sp ⟨2, ![A, B]⟩ e) (f : v.ty.Contents Val) (p q : ℕ)
    (hp : p + P ≤ A) (hq : q + Q ≤ B)
    (inb : ∀ a, (![p, q] : Fin 2 → ℕ) a + (![P, Q] : Fin 2 → ℕ) a ≤ (![A, B] : Fin 2 → ℕ) a) (d : Fin P) (x : Fin Q) :
    v.readAt Val (Rect.unit (s := ⟨2, ![A, B]⟩) ![p, q] ![P, Q] inb).toLoadRect f (ix2 d x) =
      v.read Val f (ix2 ⟨p + d.val, by omega⟩ ⟨q + x.val, by omega⟩) := by
  rw [View.readAt_apply]
  congr 1
  funext a
  apply Fin.ext
  match a with
  | ⟨0, _⟩ => show p + 1 * d.val = p + d.val; omega
  | ⟨1, _⟩ => show q + 1 * x.val = q + x.val; omega

/-- After a band of columns is written, the band reads the payload; -/
theorem read_cols_hit {W : ℕ} (v : View sig κ sp ⟨2, ![A, B]⟩ e) (f : v.ty.Contents Val) (q : ℕ)
    (inb : ∀ a, (![0, q] : Fin 2 → ℕ) a + (![A, W] : Fin 2 → ℕ) a ≤ (![A, B] : Fin 2 → ℕ) a)
    (w : (⟨2, ![A, W]⟩ : Shape).Idx → Val e) (L : List (View.Piece Val ⟨2, ![A, B]⟩ e)) (x : Fin A) (l : Fin W) (y : Fin B)
    (hy : y.val = q + l.val) :
    v.read Val (v.writes Val f (⟨Rect.unit ![0, q] ![A, W] inb, w⟩ :: L)) (ix2 x y) = w (ix2 x l) := by
  refine View.read_writes_cons_hit_of_coords v f (Rect.unit (s := ⟨2, ![A, B]⟩) ![0, q] ![A, W] inb) w L
    (show (⟨2, ![A, W]⟩ : Shape).Idx from ix2 x l) _ ?_
  intro a
  match a with
  | ⟨0, _⟩ => show x.val = 0 + 1 * x.val; omega
  | ⟨1, _⟩ => show y.val = q + 1 * l.val; omega

/-- a column outside it reads what it read before. -/
theorem read_cols_miss {W : ℕ} (v : View sig κ sp ⟨2, ![A, B]⟩ e) (f : v.ty.Contents Val) (q : ℕ)
    (inb : ∀ a, (![0, q] : Fin 2 → ℕ) a + (![A, W] : Fin 2 → ℕ) a ≤ (![A, B] : Fin 2 → ℕ) a)
    (w : (⟨2, ![A, W]⟩ : Shape).Idx → Val e) (L : List (View.Piece Val ⟨2, ![A, B]⟩ e)) (x : Fin A) (y : Fin B)
    (hy : y.val < q ∨ q + W ≤ y.val) :
    v.read Val (v.writes Val f (⟨Rect.unit ![0, q] ![A, W] inb, w⟩ :: L)) (ix2 x y) = v.read Val (v.writes Val f L) (ix2 x y) :=
  View.read_writes_cons_miss_of_axis v f _ L _ (1 : Fin 2) q W rfl rfl rfl hy

end Cert.Attn
-- ==== Proof.Attn.Chunks.lean ====
/- What one grid point's chunks of keys add, head by head: the sums of weighted values and of weights, in terms of the
   block of keys, the block of values, the meta values and the sixteen slabs of queries. -/
module

public import proofs.«01_k».proof.Proof.Attn.Ops
public import proofs.«01_k».proof.Proof.Attn.Slabs

@[expose] public section

set_option maxRecDepth 16384

noncomputable section

namespace Cert.Attn

open Idealize.ShloMosaic Idealize.ShloMosaic.TcCoe Idealize.SL.Sem
open Cert.KernelIdeal Cert.KernelIdeal.Gen

/-- The lane of a key that lane `l` of head `hd` multiplies: heads come in pairs of 64 lanes. -/
def lane (hd : Fin 16) (l : Fin 128) : Fin 256 := ⟨hd.val / 8 * 128 + l.val, by omega⟩
/-- The row of the transposed values that coordinate `d` of head `hd` reads. -/
def vrow (hd : Fin 16) (d : Fin 64) : Fin 256 := ⟨(2 * (hd.val / 8) + hd.val % 2) * 64 + d.val, by omega⟩
/-- Key `κ` of chunk `c`. -/
def kpos (c : Fin 8) (κ : Fin 512) : Fin 4112 := ⟨512 * c.val + κ.val, by omega⟩
/-- The key the last chunk has at `κ`; from 512 on these are the meta keys. -/
def kposLast (κ : Fin 528) : Fin 4112 := ⟨3584 + κ.val, by omega⟩
/-- The meta key `κ`. -/
def kposMeta (κ : Fin 16) : Fin 4112 := ⟨4096 + κ.val, by omega⟩

variable (X3 : S1x4112x256.Idx → EReal) (X4 : S8x256x512.Idx → EReal) (X5 : S1x256x16.Idx → EReal) (Q : S16x128x512.Idx → EReal)

/-- The weight of key `s` for query `x` of head `hd`: two to the power of the scaled score. -/
def weight (hd : Fin 16) (s : Fin 4112) (x : Fin 512) : EReal :=
  Ideal.exp2 (∑ l : Fin 128, X3 (ix3 0 s (lane hd l)) * Q (ix3 hd l x))

/-- The values of chunk `c` summed with their weights. -/
def chunkAcc (c : Fin 8) (hd : Fin 16) (d : Fin 64) (x : Fin 512) : EReal :=
  ∑ κ : Fin 512, X4 (ix3 c (vrow hd d) κ) * weight X3 Q hd (kpos c κ) x

/-- The weights of chunk `c` summed. -/
def chunkSum (c : Fin 8) (hd : Fin 16) (x : Fin 512) : EReal := ∑ κ : Fin 512, weight X3 Q hd (kpos c κ) x

/-- The meta values summed with their weights. -/
def metaAcc (hd : Fin 16) (d : Fin 64) (x : Fin 512) : EReal :=
  ∑ κ : Fin 16, X5 (ix3 0 (vrow hd d) κ) * weight X3 Q hd (kposMeta κ) x

/-- The weights of the last chunk and the meta keys summed. -/
def lastSum (hd : Fin 16) (x : Fin 512) : EReal := ∑ κ : Fin 528, weight X3 Q hd (kposLast κ) x

section Loads
variable {κ3 κ4 κ5 κ7 κ9 : Kind} {sp3 sp4 sp5 sp7 sp9 : Space}
  (v3 : View sig κ3 sp3 S1x4112x256 .bf16) (v4 : View sig κ4 sp4 S8x256x512 .bf16) (v5 : View sig κ5 sp5 S1x256x16 .bf16)
  (v7 : View sig κ7 sp7 S16x128x512 .bf16)
  (f3 : v3.ty.Contents (Elt Ideal)) (f4 : v4.ty.Contents (Elt Ideal)) (f5 : v5.ty.Contents (Elt Ideal)) (f7 : v7.ty.Contents (Elt Ideal))

/-- The weights a chunk computes from its loads. -/
theorem wts_loads (o3 : Fin 3 → ℕ) (n : ℕ) (c : Fin 8) (hd : Fin 16) (inb3) (inb7)
    (ho : o3 = ![0, 512 * c.val, hd.val / 8 * 128]) (hn : n = hd.val) (k x : Fin 512) :
    wts (v3.readAt (Elt Ideal) (Rect.unit (s := S1x4112x256) o3 ![1, 512, 128] inb3).toLoadRect f3)
        (v7.readAt (Elt Ideal) (Rect.unit (s := S16x128x512) ![n, 0, 0] ![1, 128, 512] inb7).toLoadRect f7) (ix2 k x) =
      weight (v3.read (Elt Ideal) f3) (v7.read (Elt Ideal) f7) hd (kpos c k) x := by
  subst hn
  rw [wts_apply]
  refine congrArg Ideal.exp2 (Finset.sum_congr rfl fun l _ => ?_)
  exact congrArg₂ (· * ·) (load_rect v3 f3 o3 0 (512 * c.val) (hd.val / 8 * 128) ho (by omega) (by omega) (by omega) inb3 k l)
    (load_slab v7 f7 hd.val hd.isLt inb7 l x)

/-- The same for the last chunk. -/
theorem wtsLast_loads (o3 : Fin 3 → ℕ) (n : ℕ) (hd : Fin 16) (inb3) (inb7)
    (ho : o3 = ![0, 3584, hd.val / 8 * 128]) (hn : n = hd.val) (k : Fin 528) (x : Fin 512) :
    wtsLast (v3.readAt (Elt Ideal) (Rect.unit (s := S1x4112x256) o3 ![1, 528, 128] inb3).toLoadRect f3)
        (v7.readAt (Elt Ideal) (Rect.unit (s := S16x128x512) ![n, 0, 0] ![1, 128, 512] inb7).toLoadRect f7) (ix2 k x) =
      weight (v3.read (Elt Ideal) f3) (v7.read (Elt Ideal) f7) hd (kposLast k) x := by
  subst hn
  rw [wtsLast_apply]
  refine congrArg Ideal.exp2 (Finset.sum_congr rfl fun l _ => ?_)
  exact congrArg₂ (· * ·) (load_rect v3 f3 o3 0 3584 (hd.val / 8 * 128) ho (by omega) (by omega) (by omega) inb3 k l)
    (load_slab v7 f7 hd.val hd.isLt inb7 l x)

/-- A later chunk's stored sum of weighted values. -/
theorem accNext_loads (w : FVec Ideal S1x64x512 .f32) (A : Vec Ideal S1x64x512 .f32) (o3 o4 : Fin 3 → ℕ) (n : ℕ) (c : Fin 8) (hd : Fin 16)
    (inb3) (inb4) (inb7)
    (hw : w = accNext (wts (v3.readAt (Elt Ideal) (Rect.unit (s := S1x4112x256) o3 ![1, 512, 128] inb3).toLoadRect f3)
        (v7.readAt (Elt Ideal) (Rect.unit (s := S16x128x512) ![n, 0, 0] ![1, 128, 512] inb7).toLoadRect f7))
        (v4.readAt (Elt Ideal) (Rect.unit (s := S8x256x512) o4 ![1, 64, 512] inb4).toLoadRect f4) A)
    (ho3 : o3 = ![0, 512 * c.val, hd.val / 8 * 128]) (ho4 : o4 = ![c.val, (2 * (hd.val / 8) + hd.val % 2) * 64, 0]) (hn : n = hd.val)
    (d : Fin 64) (x : Fin 512) :
    w (ix3 0 d x) = A (ix3 0 d x) +
      chunkAcc (v3.read (Elt Ideal) f3) (v4.read (Elt Ideal) f4) (v7.read (Elt Ideal) f7) c hd d x := by
  rw [hw, accNext_apply]
  refine congrArg (A (ix3 0 d x) + ·) (Finset.sum_congr rfl fun k _ => ?_)
  refine congrArg₂ (· * ·) ?_ (wts_loads v3 v7 f3 f7 o3 n c hd inb3 inb7 ho3 hn k x)
  refine (load_rect v4 f4 o4 c.val ((2 * (hd.val / 8) + hd.val % 2) * 64) 0 ho4 c.isLt (by omega) (by omega) inb4 d k).trans ?_
  exact congrArg (fun z => v4.read (Elt Ideal) f4 (ix3 c (vrow hd d) z)) (Fin.ext (Nat.zero_add _))

/-- The first chunk's stored sum of weighted values. -/
theorem accFirst_loads (w : FVec Ideal S1x64x512 .f32) (o3 o4 : Fin 3 → ℕ) (n : ℕ) (c : Fin 8) (hd : Fin 16)
    (inb3) (inb4) (inb7)
    (hw : w = accFirst (wts (v3.readAt (Elt Ideal) (Rect.unit (s := S1x4112x256) o3 ![1, 512, 128] inb3).toLoadRect f3)
        (v7.readAt (Elt Ideal) (Rect.unit (s := S16x128x512) ![n, 0, 0] ![1, 128, 512] inb7).toLoadRect f7))
        (v4.readAt (Elt Ideal) (Rect.unit (s := S8x256x512) o4 ![1, 64, 512] inb4).toLoadRect f4))
    (ho3 : o3 = ![0, 512 * c.val, hd.val / 8 * 128]) (ho4 : o4 = ![c.val, (2 * (hd.val / 8) + hd.val % 2) * 64, 0]) (hn : n = hd.val)
    (d : Fin 64) (x : Fin 512) :
    w (ix3 0 d x) = chunkAcc (v3.read (Elt Ideal) f3) (v4.read (Elt Ideal) f4) (v7.read (Elt Ideal) f7) c hd d x := by
  rw [hw, accFirst_apply]
  refine Finset.sum_congr rfl fun k _ => ?_
  refine congrArg₂ (· * ·) ?_ (wts_loads v3 v7 f3 f7 o3 n c hd inb3 inb7 ho3 hn k x)
  refine (load_rect v4 f4 o4 c.val ((2 * (hd.val / 8) + hd.val % 2) * 64) 0 ho4 c.isLt (by omega) (by omega) inb4 d k).trans ?_
  exact congrArg (fun z => v4.read (Elt Ideal) f4 (ix3 c (vrow hd d) z)) (Fin.ext (Nat.zero_add _))

/-- A later chunk's stored total weight. -/
theorem sumNext_loads (w : FVec Ideal S1x1x512 .f32) (A : Vec Ideal S1x1x512 .f32) (o3 : Fin 3 → ℕ) (n : ℕ) (c : Fin 8) (hd : Fin 16)
    (inb3) (inb7)
    (hw : w = sumNext (wts (v3.readAt (Elt Ideal) (Rect.unit (s := S1x4112x256) o3 ![1, 512, 128] inb3).toLoadRect f3)
        (v7.readAt (Elt Ideal) (Rect.unit (s := S16x128x512) ![n, 0, 0] ![1, 128, 512] inb7).toLoadRect f7)) A)
    (ho3 : o3 = ![0, 512 * c.val, hd.val / 8 * 128]) (hn : n = hd.val) (x : Fin 512) :
    w (ix3 0 0 x) = A (ix3 0 0 x) + chunkSum (v3.read (Elt Ideal) f3) (v7.read (Elt Ideal) f7) c hd x := by
  rw [hw, sumNext_apply]
  exact congrArg (A (ix3 0 0 x) + ·) (Finset.sum_congr rfl fun k _ => wts_loads v3 v7 f3 f7 o3 n c hd inb3 inb7 ho3 hn k x)

/-- The first chunk's stored total weight. -/
theorem sumFirst_loads (w : FVec Ideal S1x1x512 .f32) (o3 : Fin 3 → ℕ) (n : ℕ) (c : Fin 8) (hd : Fin 16)
    (inb3) (inb7)
    (hw : w = sumFirst (wts (v3.readAt (Elt Ideal) (Rect.unit (s := S1x4112x256) o3 ![1, 512, 128] inb3).toLoadRect f3)
        (v7.readAt (Elt Ideal) (Rect.unit (s := S16x128x512) ![n, 0, 0] ![1, 128, 512] inb7).toLoadRect f7)))
    (ho3 : o3 = ![0, 512 * c.val, hd.val / 8 * 128]) (hn : n = hd.val) (x : Fin 512) :
    w (ix3 0 0 x) = chunkSum (v3.read (Elt Ideal) f3) (v7.read (Elt Ideal) f7) c hd x := by
  rw [hw, sumFirst_apply]
  exact Finset.sum_congr rfl fun k _ => wts_loads v3 v7 f3 f7 o3 n c hd inb3 inb7 ho3 hn k x

/-- The last chunk's stored sum of weighted values, the meta values among them. -/
theorem accLast_loads (w : FVec Ideal S1x64x512 .f32) (A : Vec Ideal S1x64x512 .f32) (o3 o4 o5 : Fin 3 → ℕ) (n : ℕ) (hd : Fin 16)
    (inb3) (inb4) (inb5) (inb7)
    (hw : w = accLast (wtsLast (v3.readAt (Elt Ideal) (Rect.unit (s := S1x4112x256) o3 ![1, 528, 128] inb3).toLoadRect f3)
        (v7.readAt (Elt Ideal) (Rect.unit (s := S16x128x512) ![n, 0, 0] ![1, 128, 512] inb7).toLoadRect f7))
        (v4.readAt (Elt Ideal) (Rect.unit (s := S8x256x512) o4 ![1, 64, 512] inb4).toLoadRect f4)
        (v5.readAt (Elt Ideal) (Rect.unit (s := S1x256x16) o5 ![1, 64, 16] inb5).toLoadRect f5) A)
    (ho3 : o3 = ![0, 3584, hd.val / 8 * 128]) (ho4 : o4 = ![7, (2 * (hd.val / 8) + hd.val % 2) * 64, 0])
    (ho5 : o5 = ![0, (2 * (hd.val / 8) + hd.val % 2) * 64, 0]) (hn : n = hd.val)
    (d : Fin 64) (x : Fin 512) :
    w (ix3 0 d x) = A (ix3 0 d x) +
      (chunkAcc (v3.read (Elt Ideal) f3) (v4.read (Elt Ideal) f4) (v7.read (Elt Ideal) f7) 7 hd d x +
        metaAcc (v3.read (Elt Ideal) f3) (v5.read (Elt Ideal) f5) (v7.read (Elt Ideal) f7) hd d x) := by
  rw [hw, accLast_apply]
  refine congrArg (A (ix3 0 d x) + ·) (congrArg₂ (· + ·) (Finset.sum_congr rfl fun k _ => ?_) (Finset.sum_congr rfl fun k _ => ?_))
  · refine congrArg₂ (· * ·) ?_ ((wtsLast_loads v3 v7 f3 f7 o3 n hd inb3 inb7 ho3 hn _ x).trans rfl)
    refine (load_rect v4 f4 o4 7 ((2 * (hd.val / 8) + hd.val % 2) * 64) 0 ho4 (by omega) (by omega) (by omega) inb4 d k).trans ?_
    exact congrArg (fun z => v4.read (Elt Ideal) f4 (ix3 7 (vrow hd d) z)) (Fin.ext (Nat.zero_add _))
  · refine congrArg₂ (· * ·) ?_ ((wtsLast_loads v3 v7 f3 f7 o3 n hd inb3 inb7 ho3 hn _ x).trans
      (congrArg (fun z => weight _ _ hd z x) (Fin.ext (by show 3584 + (512 + k.val) = 4096 + k.val; omega))))
    refine (load_rect v5 f5 o5 0 ((2 * (hd.val / 8) + hd.val % 2) * 64) 0 ho5 (by omega) (by omega) (by omega) inb5 d k).trans ?_
    exact congrArg (fun z => v5.read (Elt Ideal) f5 (ix3 0 (vrow hd d) z)) (Fin.ext (Nat.zero_add _))

/-- The last chunk's stored total weight. -/
theorem sumLast_loads (w : FVec Ideal S1x1x512 .f32) (A : Vec Ideal S1x1x512 .f32) (o3 : Fin 3 → ℕ) (n : ℕ) (hd : Fin 16)
    (inb3) (inb7)
    (hw : w = sumLast (wtsLast (v3.readAt (Elt Ideal) (Rect.unit (s := S1x4112x256) o3 ![1, 528, 128] inb3).toLoadRect f3)
        (v7.readAt (Elt Ideal) (Rect.unit (s := S16x128x512) ![n, 0, 0] ![1, 128, 512] inb7).toLoadRect f7)) A)
    (ho3 : o3 = ![0, 3584, hd.val / 8 * 128]) (hn : n = hd.val) (x : Fin 512) :
    w (ix3 0 0 x) = A (ix3 0 0 x) + lastSum (v3.read (Elt Ideal) f3) (v7.read (Elt Ideal) f7) hd x := by
  rw [hw, sumLast_apply]
  exact congrArg (A (ix3 0 0 x) + ·) (Finset.sum_congr rfl fun k _ => wtsLast_loads v3 v7 f3 f7 o3 n hd inb3 inb7 ho3 hn k x)

end Loads

end Cert.Attn

end
-- ==== Proof.Attn.Trip.lean ====
/- One trip of the loop over the middle chunks: what it leaves in each head's slab of the accumulator and of the running
   totals, from what the slab held before. -/
module

public import proofs.«01_k».proof.Proof.Attn.Chunks

@[expose] public section

set_option maxRecDepth 16384

noncomputable section

namespace Cert.Attn

open Idealize.ShloMosaic Idealize.ShloMosaic.TcCoe Idealize.SL.Sem
open Cert.KernelIdeal Cert.KernelIdeal.Gen

section Trip
variable (𝒱 : Variants) (c : Dev nD) (bd : Option 𝒱.V) (i : grid0.Coords) (arg2 : Memref sig .tc .vmem S512x1024 .bf16) (harg2 : arg2.IsWhole)
  (arg3 : Memref sig .tc .vmem S1x4112x256 .bf16) (harg3 : arg3.IsWhole) (arg4 : Memref sig .tc .vmem S8x256x512 .bf16) (harg4 : arg4.IsWhole)
  (arg5 : Memref sig .tc .vmem S1x256x16 .bf16) (harg5 : arg5.IsWhole) (arg6 : Memref sig .tc .vmem S512x1024 .bf16) (harg6 : arg6.IsWhole)
  (arg7 : Memref sig .tc .vmem S16x128x512 .bf16) (harg7 : arg7.IsWhole) (arg8 : Memref sig .tc .vmem S16x1x512 .f32) (harg8 : arg8.IsWhole)
  (arg9 : Memref sig .tc .vmem S16x64x512 .f32) (harg9 : arg9.IsWhole) (arg10 : Memref sig .tc .vmem S16x1x512 .f32) (harg10 : arg10.IsWhole)
  (v384 : FVec Ideal S512x512 .f32) (v387 : FVec Ideal S1x512 .f32) (v388 : FVec Ideal S512x512 .bf16) (v390 : FVec Ideal S64x512 .bf16)
  (X3 : BufTy.Contents (Elt Ideal) arg3.view.ty) (X4 : BufTy.Contents (Elt Ideal) arg4.view.ty) (X7 : BufTy.Contents (Elt Ideal) arg7.view.ty)

/-- The chunk the loop's trip `k` takes. -/
def tripChunk (k : Fin k0_t1_loop.trips) : Fin 8 := ⟨k.val + 1, by have := Nat.lt_of_lt_of_le k.isLt k0_t1_abs.2.1; omega⟩

theorem off1_chunk (k : Fin k0_t1_loop.trips) : k0_off1 k = ![0, 512 * (tripChunk k).val, 0] := by
  rw [k0_off1_eq]; show ![0, 512 * k.val + 512, 0] = ![0, 512 * (k.val + 1), 0]; rw [Nat.mul_succ]
theorem off4_chunk (k : Fin k0_t1_loop.trips) : k0_off4 k = ![0, 512 * (tripChunk k).val, 128] := by
  rw [k0_off4_eq]; show ![0, 512 * k.val + 512, 128] = ![0, 512 * (k.val + 1), 128]; rw [Nat.mul_succ]

/-- Head 0. -/
theorem trip_acc_0 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 0 d x) =
      arg9.view.read (Elt Ideal) f9 (ix3 0 d x) +
        chunkAcc (arg3.view.read (Elt Ideal) X3) (arg4.view.read (Elt Ideal) X4) (arg7.view.read (Elt Ideal) X7) (tripChunk k) 0 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 0 _ _ _ rfl (off1_chunk k) (k0_off2_eq k) rfl d x).trans ?_
  exact congrArg (· + _) (load_slab arg9.view f9 0 (by decide) _ d x)

theorem trip_sum_0 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 0 0 x) =
      arg10.view.read (Elt Ideal) f10 (ix3 0 0 x) +
        chunkSum (arg3.view.read (Elt Ideal) X3) (arg7.view.read (Elt Ideal) X7) (tripChunk k) 0 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 0 _ _ rfl (off1_chunk k) rfl x).trans ?_
  exact congrArg (· + _) (load_slab arg10.view f10 0 (by decide) _ 0 x)

/-- Head 1. -/
theorem trip_acc_1 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 1 d x) =
      arg9.view.read (Elt Ideal) f9 (ix3 1 d x) +
        chunkAcc (arg3.view.read (Elt Ideal) X3) (arg4.view.read (Elt Ideal) X4) (arg7.view.read (Elt Ideal) X7) (tripChunk k) 1 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 1 _ _ _ rfl (off1_chunk k) (k0_off3_eq k) rfl d x).trans ?_
  exact congrArg (· + _) (load_slab arg9.view f9 1 (by decide) _ d x)

theorem trip_sum_1 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 1 0 x) =
      arg10.view.read (Elt Ideal) f10 (ix3 1 0 x) +
        chunkSum (arg3.view.read (Elt Ideal) X3) (arg7.view.read (Elt Ideal) X7) (tripChunk k) 1 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 1 _ _ rfl (off1_chunk k) rfl x).trans ?_
  exact congrArg (· + _) (load_slab arg10.view f10 1 (by decide) _ 0 x)

/-- Head 2. -/
theorem trip_acc_2 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 2 d x) =
      arg9.view.read (Elt Ideal) f9 (ix3 2 d x) +
        chunkAcc (arg3.view.read (Elt Ideal) X3) (arg4.view.read (Elt Ideal) X4) (arg7.view.read (Elt Ideal) X7) (tripChunk k) 2 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 2 _ _ _ rfl (off1_chunk k) (k0_off2_eq k) rfl d x).trans ?_
  exact congrArg (· + _) (load_slab arg9.view f9 2 (by decide) _ d x)

theorem trip_sum_2 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 2 0 x) =
      arg10.view.read (Elt Ideal) f10 (ix3 2 0 x) +
        chunkSum (arg3.view.read (Elt Ideal) X3) (arg7.view.read (Elt Ideal) X7) (tripChunk k) 2 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 2 _ _ rfl (off1_chunk k) rfl x).trans ?_
  exact congrArg (· + _) (load_slab arg10.view f10 2 (by decide) _ 0 x)

/-- Head 3. -/
theorem trip_acc_3 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 3 d x) =
      arg9.view.read (Elt Ideal) f9 (ix3 3 d x) +
        chunkAcc (arg3.view.read (Elt Ideal) X3) (arg4.view.read (Elt Ideal) X4) (arg7.view.read (Elt Ideal) X7) (tripChunk k) 3 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 3 _ _ _ rfl (off1_chunk k) (k0_off3_eq k) rfl d x).trans ?_
  exact congrArg (· + _) (load_slab arg9.view f9 3 (by decide) _ d x)

theorem trip_sum_3 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 3 0 x) =
      arg10.view.read (Elt Ideal) f10 (ix3 3 0 x) +
        chunkSum (arg3.view.read (Elt Ideal) X3) (arg7.view.read (Elt Ideal) X7) (tripChunk k) 3 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 3 _ _ rfl (off1_chunk k) rfl x).trans ?_
  exact congrArg (· + _) (load_slab arg10.view f10 3 (by decide) _ 0 x)

/-- Head 4. -/
theorem trip_acc_4 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 4 d x) =
      arg9.view.read (Elt Ideal) f9 (ix3 4 d x) +
        chunkAcc (arg3.view.read (Elt Ideal) X3) (arg4.view.read (Elt Ideal) X4) (arg7.view.read (Elt Ideal) X7) (tripChunk k) 4 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 4 _ _ _ rfl (off1_chunk k) (k0_off2_eq k) rfl d x).trans ?_
  exact congrArg (· + _) (load_slab arg9.view f9 4 (by decide) _ d x)

theorem trip_sum_4 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 4 0 x) =
      arg10.view.read (Elt Ideal) f10 (ix3 4 0 x) +
        chunkSum (arg3.view.read (Elt Ideal) X3) (arg7.view.read (Elt Ideal) X7) (tripChunk k) 4 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 4 _ _ rfl (off1_chunk k) rfl x).trans ?_
  exact congrArg (· + _) (load_slab arg10.view f10 4 (by decide) _ 0 x)

/-- Head 5. -/
theorem trip_acc_5 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 5 d x) =
      arg9.view.read (Elt Ideal) f9 (ix3 5 d x) +
        chunkAcc (arg3.view.read (Elt Ideal) X3) (arg4.view.read (Elt Ideal) X4) (arg7.view.read (Elt Ideal) X7) (tripChunk k) 5 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 5 _ _ _ rfl (off1_chunk k) (k0_off3_eq k) rfl d x).trans ?_
  exact congrArg (· + _) (load_slab arg9.view f9 5 (by decide) _ d x)

theorem trip_sum_5 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 5 0 x) =
      arg10.view.read (Elt Ideal) f10 (ix3 5 0 x) +
        chunkSum (arg3.view.read (Elt Ideal) X3) (arg7.view.read (Elt Ideal) X7) (tripChunk k) 5 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 5 _ _ rfl (off1_chunk k) rfl x).trans ?_
  exact congrArg (· + _) (load_slab arg10.view f10 5 (by decide) _ 0 x)

/-- Head 6. -/
theorem trip_acc_6 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 6 d x) =
      arg9.view.read (Elt Ideal) f9 (ix3 6 d x) +
        chunkAcc (arg3.view.read (Elt Ideal) X3) (arg4.view.read (Elt Ideal) X4) (arg7.view.read (Elt Ideal) X7) (tripChunk k) 6 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 6 _ _ _ rfl (off1_chunk k) (k0_off2_eq k) rfl d x).trans ?_
  exact congrArg (· + _) (load_slab arg9.view f9 6 (by decide) _ d x)

theorem trip_sum_6 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 6 0 x) =
      arg10.view.read (Elt Ideal) f10 (ix3 6 0 x) +
        chunkSum (arg3.view.read (Elt Ideal) X3) (arg7.view.read (Elt Ideal) X7) (tripChunk k) 6 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 6 _ _ rfl (off1_chunk k) rfl x).trans ?_
  exact congrArg (· + _) (load_slab arg10.view f10 6 (by decide) _ 0 x)

/-- Head 7. -/
theorem trip_acc_7 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 7 d x) =
      arg9.view.read (Elt Ideal) f9 (ix3 7 d x) +
        chunkAcc (arg3.view.read (Elt Ideal) X3) (arg4.view.read (Elt Ideal) X4) (arg7.view.read (Elt Ideal) X7) (tripChunk k) 7 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 7 _ _ _ rfl (off1_chunk k) (k0_off3_eq k) rfl d x).trans ?_
  exact congrArg (· + _) (load_slab arg9.view f9 7 (by decide) _ d x)

theorem trip_sum_7 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 7 0 x) =
      arg10.view.read (Elt Ideal) f10 (ix3 7 0 x) +
        chunkSum (arg3.view.read (Elt Ideal) X3) (arg7.view.read (Elt Ideal) X7) (tripChunk k) 7 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 7 _ _ rfl (off1_chunk k) rfl x).trans ?_
  exact congrArg (· + _) (load_slab arg10.view f10 7 (by decide) _ 0 x)

/-- Head 8. -/
theorem trip_acc_8 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 8 d x) =
      arg9.view.read (Elt Ideal) f9 (ix3 8 d x) +
        chunkAcc (arg3.view.read (Elt Ideal) X3) (arg4.view.read (Elt Ideal) X4) (arg7.view.read (Elt Ideal) X7) (tripChunk k) 8 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 8 _ _ _ rfl (off4_chunk k) (k0_off5_eq k) rfl d x).trans ?_
  exact congrArg (· + _) (load_slab arg9.view f9 8 (by decide) _ d x)

theorem trip_sum_8 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 8 0 x) =
      arg10.view.read (Elt Ideal) f10 (ix3 8 0 x) +
        chunkSum (arg3.view.read (Elt Ideal) X3) (arg7.view.read (Elt Ideal) X7) (tripChunk k) 8 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 8 _ _ rfl (off4_chunk k) rfl x).trans ?_
  exact congrArg (· + _) (load_slab arg10.view f10 8 (by decide) _ 0 x)

/-- Head 9. -/
theorem trip_acc_9 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 9 d x) =
      arg9.view.read (Elt Ideal) f9 (ix3 9 d x) +
        chunkAcc (arg3.view.read (Elt Ideal) X3) (arg4.view.read (Elt Ideal) X4) (arg7.view.read (Elt Ideal) X7) (tripChunk k) 9 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 9 _ _ _ rfl (off4_chunk k) (k0_off6_eq k) rfl d x).trans ?_
  exact congrArg (· + _) (load_slab arg9.view f9 9 (by decide) _ d x)

theorem trip_sum_9 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 9 0 x) =
      arg10.view.read (Elt Ideal) f10 (ix3 9 0 x) +
        chunkSum (arg3.view.read (Elt Ideal) X3) (arg7.view.read (Elt Ideal) X7) (tripChunk k) 9 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 9 _ _ rfl (off4_chunk k) rfl x).trans ?_
  exact congrArg (· + _) (load_slab arg10.view f10 9 (by decide) _ 0 x)

/-- Head 10. -/
theorem trip_acc_10 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 10 d x) =
      arg9.view.read (Elt Ideal) f9 (ix3 10 d x) +
        chunkAcc (arg3.view.read (Elt Ideal) X3) (arg4.view.read (Elt Ideal) X4) (arg7.view.read (Elt Ideal) X7) (tripChunk k) 10 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 10 _ _ _ rfl (off4_chunk k) (k0_off5_eq k) rfl d x).trans ?_
  exact congrArg (· + _) (load_slab arg9.view f9 10 (by decide) _ d x)

theorem trip_sum_10 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 10 0 x) =
      arg10.view.read (Elt Ideal) f10 (ix3 10 0 x) +
        chunkSum (arg3.view.read (Elt Ideal) X3) (arg7.view.read (Elt Ideal) X7) (tripChunk k) 10 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 10 _ _ rfl (off4_chunk k) rfl x).trans ?_
  exact congrArg (· + _) (load_slab arg10.view f10 10 (by decide) _ 0 x)

/-- Head 11. -/
theorem trip_acc_11 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 11 d x) =
      arg9.view.read (Elt Ideal) f9 (ix3 11 d x) +
        chunkAcc (arg3.view.read (Elt Ideal) X3) (arg4.view.read (Elt Ideal) X4) (arg7.view.read (Elt Ideal) X7) (tripChunk k) 11 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 11 _ _ _ rfl (off4_chunk k) (k0_off6_eq k) rfl d x).trans ?_
  exact congrArg (· + _) (load_slab arg9.view f9 11 (by decide) _ d x)

theorem trip_sum_11 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 11 0 x) =
      arg10.view.read (Elt Ideal) f10 (ix3 11 0 x) +
        chunkSum (arg3.view.read (Elt Ideal) X3) (arg7.view.read (Elt Ideal) X7) (tripChunk k) 11 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 11 _ _ rfl (off4_chunk k) rfl x).trans ?_
  exact congrArg (· + _) (load_slab arg10.view f10 11 (by decide) _ 0 x)

/-- Head 12. -/
theorem trip_acc_12 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 12 d x) =
      arg9.view.read (Elt Ideal) f9 (ix3 12 d x) +
        chunkAcc (arg3.view.read (Elt Ideal) X3) (arg4.view.read (Elt Ideal) X4) (arg7.view.read (Elt Ideal) X7) (tripChunk k) 12 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 12 _ _ _ rfl (off4_chunk k) (k0_off5_eq k) rfl d x).trans ?_
  exact congrArg (· + _) (load_slab arg9.view f9 12 (by decide) _ d x)

theorem trip_sum_12 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 12 0 x) =
      arg10.view.read (Elt Ideal) f10 (ix3 12 0 x) +
        chunkSum (arg3.view.read (Elt Ideal) X3) (arg7.view.read (Elt Ideal) X7) (tripChunk k) 12 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 12 _ _ rfl (off4_chunk k) rfl x).trans ?_
  exact congrArg (· + _) (load_slab arg10.view f10 12 (by decide) _ 0 x)

/-- Head 13. -/
theorem trip_acc_13 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 13 d x) =
      arg9.view.read (Elt Ideal) f9 (ix3 13 d x) +
        chunkAcc (arg3.view.read (Elt Ideal) X3) (arg4.view.read (Elt Ideal) X4) (arg7.view.read (Elt Ideal) X7) (tripChunk k) 13 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 13 _ _ _ rfl (off4_chunk k) (k0_off6_eq k) rfl d x).trans ?_
  exact congrArg (· + _) (load_slab arg9.view f9 13 (by decide) _ d x)

theorem trip_sum_13 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 13 0 x) =
      arg10.view.read (Elt Ideal) f10 (ix3 13 0 x) +
        chunkSum (arg3.view.read (Elt Ideal) X3) (arg7.view.read (Elt Ideal) X7) (tripChunk k) 13 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 13 _ _ rfl (off4_chunk k) rfl x).trans ?_
  exact congrArg (· + _) (load_slab arg10.view f10 13 (by decide) _ 0 x)

/-- Head 14. -/
theorem trip_acc_14 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 14 d x) =
      arg9.view.read (Elt Ideal) f9 (ix3 14 d x) +
        chunkAcc (arg3.view.read (Elt Ideal) X3) (arg4.view.read (Elt Ideal) X4) (arg7.view.read (Elt Ideal) X7) (tripChunk k) 14 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 14 _ _ _ rfl (off4_chunk k) (k0_off5_eq k) rfl d x).trans ?_
  exact congrArg (· + _) (load_slab arg9.view f9 14 (by decide) _ d x)

theorem trip_sum_14 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 14 0 x) =
      arg10.view.read (Elt Ideal) f10 (ix3 14 0 x) +
        chunkSum (arg3.view.read (Elt Ideal) X3) (arg7.view.read (Elt Ideal) X7) (tripChunk k) 14 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 14 _ _ rfl (off4_chunk k) rfl x).trans ?_
  exact congrArg (· + _) (load_slab arg10.view f10 14 (by decide) _ 0 x)

/-- Head 15. -/
theorem trip_acc_15 (k : Fin k0_t1_loop.trips) (f9 : BufTy.Contents (Elt Ideal) arg9.view.ty) (f10 : BufTy.Contents (Elt Ideal) arg10.view.ty)
    (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 15 d x) =
      arg9.view.read (Elt Ideal) f9 (ix3 15 d x) +
        chunkAcc (arg3.view.read (Elt Ideal) X3) (arg4.view.read (Elt Ideal) X4) (arg7.view.read (Elt Ideal) X7) (tripChunk k) 15 d x := by
  delta trip_k0_t1
  dsimp only
  repeat refine (read_slab_miss _ _ _ _ _ _ _ _ _ (by decide)).trans ?_
  refine (read_slab_hit _ _ _ _ _ _ _ _ _ (by decide)).trans ?_
  refine (accNext_loads arg3.view arg4.view arg7.view X3 X4 X7 _ _ _ _ _ (tripChunk k) 15 _ _ _ rfl (off4_chunk k) (k0_off6_eq k) rfl d x).trans ?_
  exact congrArg (· + _) (load_slab arg9.view f9 15 (by decide) _ d x)

theorem trip_sum_15 (k : Fin k0_t1_loop.trips) (f9 : BufTy.Contents (Elt Ideal) arg9.view.ty) (f10 : BufTy.Contents (Elt Ideal) arg10.view.ty)
    (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 15 0 x) =
      arg10.view.read (Elt Ideal) f10 (ix3 15 0 x) +
        chunkSum (arg3.view.read (Elt Ideal) X3) (arg7.view.read (Elt Ideal) X7) (tripChunk k) 15 x := by
  delta trip_k0_t1
  dsimp only
  repeat refine (read_slab_miss _ _ _ _ _ _ _ _ _ (by decide)).trans ?_
  refine (read_slab_hit _ _ _ _ _ _ _ _ _ (by decide)).trans ?_
  refine (sumNext_loads arg3.view arg7.view X3 X7 _ _ _ _ (tripChunk k) 15 _ _ rfl (off4_chunk k) rfl x).trans ?_
  exact congrArg (· + _) (load_slab arg10.view f10 15 (by decide) _ 0 x)

/-- One trip adds its chunk's weighted values to every head's accumulator, -/
theorem trip_acc (k : Fin k0_t1_loop.trips) (f9 : BufTy.Contents (Elt Ideal) arg9.view.ty) (f10 : BufTy.Contents (Elt Ideal) arg10.view.ty)
    (hd : Fin 16) (d : Fin 64) (x : Fin 512) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).1 f9 f10)) (ix3 hd d x) =
      arg9.view.read (Elt Ideal) f9 (ix3 hd d x) +
        chunkAcc (arg3.view.read (Elt Ideal) X3) (arg4.view.read (Elt Ideal) X4) (arg7.view.read (Elt Ideal) X7) (tripChunk k) hd d x := by
  match hd with
  | ⟨0, _⟩ => exact trip_acc_0 𝒱 c bd i arg2 harg2 arg3 harg3 arg4 harg4 arg5 harg5 arg6 harg6 arg7 harg7 arg8 harg8 arg9 harg9 arg10 harg10 v384 v387 v388 v390 X3 X4 X7 k f9 f10 d x
  | ⟨1, _⟩ => exact trip_acc_1 𝒱 c bd i arg2 harg2 arg3 harg3 arg4 harg4 arg5 harg5 arg6 harg6 arg7 harg7 arg8 harg8 arg9 harg9 arg10 harg10 v384 v387 v388 v390 X3 X4 X7 k f9 f10 d x
  | ⟨2, _⟩ => exact trip_acc_2 𝒱 c bd i arg2 harg2 arg3 harg3 arg4 harg4 arg5 harg5 arg6 harg6 arg7 harg7 arg8 harg8 arg9 harg9 arg10 harg10 v384 v387 v388 v390 X3 X4 X7 k f9 f10 d x
  | ⟨3, _⟩ => exact trip_acc_3 𝒱 c bd i arg2 harg2 arg3 harg3 arg4 harg4 arg5 harg5 arg6 harg6 arg7 harg7 arg8 harg8 arg9 harg9 arg10 harg10 v384 v387 v388 v390 X3 X4 X7 k f9 f10 d x
  | ⟨4, _⟩ => exact trip_acc_4 𝒱 c bd i arg2 harg2 arg3 harg3 arg4 harg4 arg5 harg5 arg6 harg6 arg7 harg7 arg8 harg8 arg9 harg9 arg10 harg10 v384 v387 v388 v390 X3 X4 X7 k f9 f10 d x
  | ⟨5, _⟩ => exact trip_acc_5 𝒱 c bd i arg2 harg2 arg3 harg3 arg4 harg4 arg5 harg5 arg6 harg6 arg7 harg7 arg8 harg8 arg9 harg9 arg10 harg10 v384 v387 v388 v390 X3 X4 X7 k f9 f10 d x
  | ⟨6, _⟩ => exact trip_acc_6 𝒱 c bd i arg2 harg2 arg3 harg3 arg4 harg4 arg5 harg5 arg6 harg6 arg7 harg7 arg8 harg8 arg9 harg9 arg10 harg10 v384 v387 v388 v390 X3 X4 X7 k f9 f10 d x
  | ⟨7, _⟩ => exact trip_acc_7 𝒱 c bd i arg2 harg2 arg3 harg3 arg4 harg4 arg5 harg5 arg6 harg6 arg7 harg7 arg8 harg8 arg9 harg9 arg10 harg10 v384 v387 v388 v390 X3 X4 X7 k f9 f10 d x
  | ⟨8, _⟩ => exact trip_acc_8 𝒱 c bd i arg2 harg2 arg3 harg3 arg4 harg4 arg5 harg5 arg6 harg6 arg7 harg7 arg8 harg8 arg9 harg9 arg10 harg10 v384 v387 v388 v390 X3 X4 X7 k f9 f10 d x
  | ⟨9, _⟩ => exact trip_acc_9 𝒱 c bd i arg2 harg2 arg3 harg3 arg4 harg4 arg5 harg5 arg6 harg6 arg7 harg7 arg8 harg8 arg9 harg9 arg10 harg10 v384 v387 v388 v390 X3 X4 X7 k f9 f10 d x
  | ⟨10, _⟩ => exact trip_acc_10 𝒱 c bd i arg2 harg2 arg3 harg3 arg4 harg4 arg5 harg5 arg6 harg6 arg7 harg7 arg8 harg8 arg9 harg9 arg10 harg10 v384 v387 v388 v390 X3 X4 X7 k f9 f10 d x
  | ⟨11, _⟩ => exact trip_acc_11 𝒱 c bd i arg2 harg2 arg3 harg3 arg4 harg4 arg5 harg5 arg6 harg6 arg7 harg7 arg8 harg8 arg9 harg9 arg10 harg10 v384 v387 v388 v390 X3 X4 X7 k f9 f10 d x
  | ⟨12, _⟩ => exact trip_acc_12 𝒱 c bd i arg2 harg2 arg3 harg3 arg4 harg4 arg5 harg5 arg6 harg6 arg7 harg7 arg8 harg8 arg9 harg9 arg10 harg10 v384 v387 v388 v390 X3 X4 X7 k f9 f10 d x
  | ⟨13, _⟩ => exact trip_acc_13 𝒱 c bd i arg2 harg2 arg3 harg3 arg4 harg4 arg5 harg5 arg6 harg6 arg7 harg7 arg8 harg8 arg9 harg9 arg10 harg10 v384 v387 v388 v390 X3 X4 X7 k f9 f10 d x
  | ⟨14, _⟩ => exact trip_acc_14 𝒱 c bd i arg2 harg2 arg3 harg3 arg4 harg4 arg5 harg5 arg6 harg6 arg7 harg7 arg8 harg8 arg9 harg9 arg10 harg10 v384 v387 v388 v390 X3 X4 X7 k f9 f10 d x
  | ⟨15, _⟩ => exact trip_acc_15 𝒱 c bd i arg2 harg2 arg3 harg3 arg4 harg4 arg5 harg5 arg6 harg6 arg7 harg7 arg8 harg8 arg9 harg9 arg10 harg10 v384 v387 v388 v390 X3 X4 X7 k f9 f10 d x
  | ⟨n + 16, h⟩ => exact absurd h (by omega)

/-- and its chunk's weights to every head's total. -/
theorem trip_sum (k : Fin k0_t1_loop.trips) (f9 : BufTy.Contents (Elt Ideal) arg9.view.ty) (f10 : BufTy.Contents (Elt Ideal) arg10.view.ty)
    (hd : Fin 16) (x : Fin 512) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v384 v387 v388 v390 X3 X4 X7 k).2.1 f9 f10)) (ix3 hd 0 x) =
      arg10.view.read (Elt Ideal) f10 (ix3 hd 0 x) +
        chunkSum (arg3.view.read (Elt Ideal) X3) (arg7.view.read (Elt Ideal) X7) (tripChunk k) hd x := by
  match hd with
  | ⟨0, _⟩ => exact trip_sum_0 𝒱 c bd i arg2 harg2 arg3 harg3 arg4 harg4 arg5 harg5 arg6 harg6 arg7 harg7 arg8 harg8 arg9 harg9 arg10 harg10 v384 v387 v388 v390 X3 X4 X7 k f9 f10 x
  | ⟨1, _⟩ => exact trip_sum_1 𝒱 c bd i arg2 harg2 arg3 harg3 arg4 harg4 arg5 harg5 arg6 harg6 arg7 harg7 arg8 harg8 arg9 harg9 arg10 harg10 v384 v387 v388 v390 X3 X4 X7 k f9 f10 x
  | ⟨2, _⟩ => exact trip_sum_2 𝒱 c bd i arg2 harg2 arg3 harg3 arg4 harg4 arg5 harg5 arg6 harg6 arg7 harg7 arg8 harg8 arg9 harg9 arg10 harg10 v384 v387 v388 v390 X3 X4 X7 k f9 f10 x
  | ⟨3, _⟩ => exact trip_sum_3 𝒱 c bd i arg2 harg2 arg3 harg3 arg4 harg4 arg5 harg5 arg6 harg6 arg7 harg7 arg8 harg8 arg9 harg9 arg10 harg10 v384 v387 v388 v390 X3 X4 X7 k f9 f10 x
  | ⟨4, _⟩ => exact trip_sum_4 𝒱 c bd i arg2 harg2 arg3 harg3 arg4 harg4 arg5 harg5 arg6 harg6 arg7 harg7 arg8 harg8 arg9 harg9 arg10 harg10 v384 v387 v388 v390 X3 X4 X7 k f9 f10 x
  | ⟨5, _⟩ => exact trip_sum_5 𝒱 c bd i arg2 harg2 arg3 harg3 arg4 harg4 arg5 harg5 arg6 harg6 arg7 harg7 arg8 harg8 arg9 harg9 arg10 harg10 v384 v387 v388 v390 X3 X4 X7 k f9 f10 x
  | ⟨6, _⟩ => exact trip_sum_6 𝒱 c bd i arg2 harg2 arg3 harg3 arg4 harg4 arg5 harg5 arg6 harg6 arg7 harg7 arg8 harg8 arg9 harg9 arg10 harg10 v384 v387 v388 v390 X3 X4 X7 k f9 f10 x
  | ⟨7, _⟩ => exact trip_sum_7 𝒱 c bd i arg2 harg2 arg3 harg3 arg4 harg4 arg5 harg5 arg6 harg6 arg7 harg7 arg8 harg8 arg9 harg9 arg10 harg10 v384 v387 v388 v390 X3 X4 X7 k f9 f10 x
  | ⟨8, _⟩ => exact trip_sum_8 𝒱 c bd i arg2 harg2 arg3 harg3 arg4 harg4 arg5 harg5 arg6 harg6 arg7 harg7 arg8 harg8 arg9 harg9 arg10 harg10 v384 v387 v388 v390 X3 X4 X7 k f9 f10 x
  | ⟨9, _⟩ => exact trip_sum_9 𝒱 c bd i arg2 harg2 arg3 harg3 arg4 harg4 arg5 harg5 arg6 harg6 arg7 harg7 arg8 harg8 arg9 harg9 arg10 harg10 v384 v387 v388 v390 X3 X4 X7 k f9 f10 x
  | ⟨10, _⟩ => exact trip_sum_10 𝒱 c bd i arg2 harg2 arg3 harg3 arg4 harg4 arg5 harg5 arg6 harg6 arg7 harg7 arg8 harg8 arg9 harg9 arg10 harg10 v384 v387 v388 v390 X3 X4 X7 k f9 f10 x
  | ⟨11, _⟩ => exact trip_sum_11 𝒱 c bd i arg2 harg2 arg3 harg3 arg4 harg4 arg5 harg5 arg6 harg6 arg7 harg7 arg8 harg8 arg9 harg9 arg10 harg10 v384 v387 v388 v390 X3 X4 X7 k f9 f10 x
  | ⟨12, _⟩ => exact trip_sum_12 𝒱 c bd i arg2 harg2 arg3 harg3 arg4 harg4 arg5 harg5 arg6 harg6 arg7 harg7 arg8 harg8 arg9 harg9 arg10 harg10 v384 v387 v388 v390 X3 X4 X7 k f9 f10 x
  | ⟨13, _⟩ => exact trip_sum_13 𝒱 c bd i arg2 harg2 arg3 harg3 arg4 harg4 arg5 harg5 arg6 harg6 arg7 harg7 arg8 harg8 arg9 harg9 arg10 harg10 v384 v387 v388 v390 X3 X4 X7 k f9 f10 x
  | ⟨14, _⟩ => exact trip_sum_14 𝒱 c bd i arg2 harg2 arg3 harg3 arg4 harg4 arg5 harg5 arg6 harg6 arg7 harg7 arg8 harg8 arg9 harg9 arg10 harg10 v384 v387 v388 v390 X3 X4 X7 k f9 f10 x
  | ⟨15, _⟩ => exact trip_sum_15 𝒱 c bd i arg2 harg2 arg3 harg3 arg4 harg4 arg5 harg5 arg6 harg6 arg7 harg7 arg8 harg8 arg9 harg9 arg10 harg10 v384 v387 v388 v390 X3 X4 X7 k f9 f10 x
  | ⟨n + 16, h⟩ => exact absurd h (by omega)

end Trip

end Cert.Attn

end
-- ==== Proof.Attn.Loop.lean ====
/- The loop over the middle chunks, whole: after its trips every head's accumulator and total hold what they held before
   the loop and the six middle chunks' contributions. -/
module

public import proofs.«01_k».proof.Proof.Attn.Trip

@[expose] public section

set_option maxRecDepth 16384

noncomputable section

namespace Cert.Attn

open Idealize.ShloMosaic Idealize.ShloMosaic.TcCoe Idealize.SL.Sem
open Cert.KernelIdeal Cert.KernelIdeal.Gen

section Run
variable (𝒱 : Variants) (c : Dev nD) (bd : Option 𝒱.V) (i : grid0.Coords) (arg2 : Memref sig .tc .vmem S512x1024 .bf16) (harg2 : arg2.IsWhole)
  (arg3 : Memref sig .tc .vmem S1x4112x256 .bf16) (harg3 : arg3.IsWhole) (arg4 : Memref sig .tc .vmem S8x256x512 .bf16) (harg4 : arg4.IsWhole)
  (arg5 : Memref sig .tc .vmem S1x256x16 .bf16) (harg5 : arg5.IsWhole) (arg6 : Memref sig .tc .vmem S512x1024 .bf16) (harg6 : arg6.IsWhole)
  (arg7 : Memref sig .tc .vmem S16x128x512 .bf16) (harg7 : arg7.IsWhole) (arg8 : Memref sig .tc .vmem S16x1x512 .f32) (harg8 : arg8.IsWhole)
  (arg9 : Memref sig .tc .vmem S16x64x512 .f32) (harg9 : arg9.IsWhole) (arg10 : Memref sig .tc .vmem S16x1x512 .f32) (harg10 : arg10.IsWhole)
  (v384 : FVec Ideal S512x512 .f32) (v387 : FVec Ideal S1x512 .f32) (v388 : FVec Ideal S512x512 .bf16) (v390 : FVec Ideal S64x512 .bf16)
  (X3 : BufTy.Contents (Elt Ideal) arg3.view.ty) (X4 : BufTy.Contents (Elt Ideal) arg4.view.ty) (X7 : BufTy.Contents (Elt Ideal) arg7.view.ty)

variable (G9 : BufTy.Contents (Elt Ideal) arg9.view.ty) (G10 : BufTy.Contents (Elt Ideal) arg10.view.ty)

theorem trips_eq : k0_t1_loop.trips = 6 := Nat.le_antisymm k0_t1_abs.2.1 (by decide +kernel)

/-- The middle chunk `k`. -/
def midChunk {n : ℕ} (hn : n ≤ 6) (k : Fin n) : Fin 8 := ⟨k.val + 1, by omega⟩

/-- The accumulator after the first `n` trips. -/
theorem loop_acc (hd : Fin 16) (d : Fin 64) (x : Fin 512) : ∀ n : ℕ, ∀ hn : n ≤ 6,
    arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 v384 v387 v388 v390 X3 X4 X7 G9 G10 n).1) (ix3 hd d x) =
      arg9.view.read (Elt Ideal) G9 (ix3 hd d x) + ∑ k : Fin n,
        chunkAcc (arg3.view.read (Elt Ideal) X3) (arg4.view.read (Elt Ideal) X4) (arg7.view.read (Elt Ideal) X7) (midChunk hn k) hd d x
  | 0, _ => by
    show arg9.view.read (Elt Ideal) G9 (ix3 hd d x) = _
    rw [Finset.univ_eq_empty, Finset.sum_empty, add_zero]
  | n + 1, hn => by
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 v384 v387 v388 v390 X3 X4 X7 G9 G10 ⟨n, hk⟩
    rw [show (⟨n, hk⟩ : Fin k0_t1_loop.trips).val + 1 = n + 1 from rfl] at e
    rw [e]
    dsimp only
    rw [View.writes_append, trip_acc, loop_acc hd d x n (by omega), Fin.sum_univ_castSucc, add_assoc]
    rfl

/-- The totals after the first `n` trips. -/
theorem loop_sum (hd : Fin 16) (x : Fin 512) : ∀ n : ℕ, ∀ hn : n ≤ 6,
    arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 v384 v387 v388 v390 X3 X4 X7 G9 G10 n).2) (ix3 hd 0 x) =
      arg10.view.read (Elt Ideal) G10 (ix3 hd 0 x) + ∑ k : Fin n,
        chunkSum (arg3.view.read (Elt Ideal) X3) (arg7.view.read (Elt Ideal) X7) (midChunk hn k) hd x
  | 0, _ => by
    show arg10.view.read (Elt Ideal) G10 (ix3 hd 0 x) = _
    rw [Finset.univ_eq_empty, Finset.sum_empty, add_zero]
  | n + 1, hn => by
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 v384 v387 v388 v390 X3 X4 X7 G9 G10 ⟨n, hk⟩
    rw [show (⟨n, hk⟩ : Fin k0_t1_loop.trips).val + 1 = n + 1 from rfl] at e
    rw [e]
    dsimp only
    rw [View.writes_append, trip_sum, loop_sum hd x n (by omega), Fin.sum_univ_castSucc, add_assoc]
    rfl

end Run

end Cert.Attn

end
-- ==== Proof.Attn.First.lean ====
/- Before the loop: the sixteen slabs of queries the body lays out, and what the first chunk leaves in the accumulator and
   the totals. -/
module

public import proofs.«01_k».proof.Proof.Attn.Chunks

@[expose] public section

set_option maxRecDepth 16384

noncomputable section

namespace Cert.Attn

open Idealize.ShloMosaic Idealize.ShloMosaic.TcCoe Idealize.SL.Sem
open Cert.KernelIdeal Cert.KernelIdeal.Gen

section Run
variable (c : Dev nD) (i : grid0.Coords) (arg2 : Memref sig .tc .vmem S512x1024 .bf16) (harg2 : arg2.IsWhole)
  (arg3 : Memref sig .tc .vmem S1x4112x256 .bf16) (harg3 : arg3.IsWhole) (arg4 : Memref sig .tc .vmem S8x256x512 .bf16) (harg4 : arg4.IsWhole)
  (arg5 : Memref sig .tc .vmem S1x256x16 .bf16) (harg5 : arg5.IsWhole) (arg6 : Memref sig .tc .vmem S512x1024 .bf16) (harg6 : arg6.IsWhole)
  (arg7 : Memref sig .tc .vmem S16x128x512 .bf16) (harg7 : arg7.IsWhole) (arg8 : Memref sig .tc .vmem S16x1x512 .f32) (harg8 : arg8.IsWhole)
  (arg9 : Memref sig .tc .vmem S16x64x512 .f32) (harg9 : arg9.IsWhole) (arg10 : Memref sig .tc .vmem S16x1x512 .f32) (harg10 : arg10.IsWhole)
  (x0 : Vec Ideal S512x1024 .bf16) (x1 : Vec Ideal S1x4112x256 .bf16) (x2 : Vec Ideal S8x256x512 .bf16) (x3 : Vec Ideal S1x256x16 .bf16)

/-- The queries as the body lays them out: head `hd` keeps its half of the 128 lanes of its pair, the other half zero. -/
def qSlab (X : Vec Ideal S512x1024 .bf16) (hd : Fin 16) (l : Fin 128) (x : Fin 512) : EReal :=
  if (l.val < 64) = (hd.val % 2 = 0) then X (ix2 x ⟨hd.val / 2 * 128 + l.val, by omega⟩) else 0

theorem qEven_loads (w : FVec Ideal S1x128x512 .bf16) (q : ℕ) (inb) (hd : Fin 16)
    (hw : w = qEven (arg2.view.readAt (Elt Ideal) (Rect.unit (s := S512x1024) ![0, q] ![512, 128] inb).toLoadRect (harg2.unread x0)))
    (hq : q = hd.val / 2 * 128) (he : hd.val % 2 = 0) (l : Fin 128) (x : Fin 512) : w (ix3 0 l x) = qSlab x0 hd l x := by
  subst hq
  rw [hw, qEven_apply, load_rect₂ arg2.view (harg2.unread x0) 0 (hd.val / 2 * 128) (by omega) (by omega) inb x l, harg2.read_unread]
  unfold qSlab
  by_cases h : l.val < 64
  · rw [if_pos h, if_pos (by simp [h, he])]
    exact congrArg (fun z => x0 (ix2 z _)) (Fin.ext (Nat.zero_add _))
  · rw [if_neg h, if_neg (by simp [h, he])]

theorem qOdd_loads (w : FVec Ideal S1x128x512 .bf16) (q : ℕ) (inb) (hd : Fin 16)
    (hw : w = qOdd (arg2.view.readAt (Elt Ideal) (Rect.unit (s := S512x1024) ![0, q] ![512, 128] inb).toLoadRect (harg2.unread x0)))
    (hq : q = hd.val / 2 * 128) (he : hd.val % 2 = 1) (l : Fin 128) (x : Fin 512) : w (ix3 0 l x) = qSlab x0 hd l x := by
  subst hq
  rw [hw, qOdd_apply, load_rect₂ arg2.view (harg2.unread x0) 0 (hd.val / 2 * 128) (by omega) (by omega) inb x l, harg2.read_unread]
  unfold qSlab
  by_cases h : l.val < 64
  · rw [if_pos h, if_neg (by simp [h, he])]
  · rw [if_neg h, if_pos (by simp [h, he])]
    exact congrArg (fun z => x0 (ix2 z _)) (Fin.ext (Nat.zero_add _))

theorem qt_0 (l : Fin 128) (x : Fin 512) :
    arg7.view.read (Elt Ideal) (arg7.view.writes (Elt Ideal) arg7.view.junk (kernelRun0_A.sl.HS0_16 c arg2 harg2 x0)) (ix3 0 l x) = qSlab x0 0 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 0 rfl rfl rfl l x

theorem qt_1 (l : Fin 128) (x : Fin 512) :
    arg7.view.read (Elt Ideal) (arg7.view.writes (Elt Ideal) arg7.view.junk (kernelRun0_A.sl.HS0_16 c arg2 harg2 x0)) (ix3 1 l x) = qSlab x0 1 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 1 rfl rfl rfl l x

theorem qt_2 (l : Fin 128) (x : Fin 512) :
    arg7.view.read (Elt Ideal) (arg7.view.writes (Elt Ideal) arg7.view.junk (kernelRun0_A.sl.HS0_16 c arg2 harg2 x0)) (ix3 2 l x) = qSlab x0 2 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 2 rfl rfl rfl l x

theorem qt_3 (l : Fin 128) (x : Fin 512) :
    arg7.view.read (Elt Ideal) (arg7.view.writes (Elt Ideal) arg7.view.junk (kernelRun0_A.sl.HS0_16 c arg2 harg2 x0)) (ix3 3 l x) = qSlab x0 3 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 3 rfl rfl rfl l x

theorem qt_4 (l : Fin 128) (x : Fin 512) :
    arg7.view.read (Elt Ideal) (arg7.view.writes (Elt Ideal) arg7.view.junk (kernelRun0_A.sl.HS0_16 c arg2 harg2 x0)) (ix3 4 l x) = qSlab x0 4 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 4 rfl rfl rfl l x

theorem qt_5 (l : Fin 128) (x : Fin 512) :
    arg7.view.read (Elt Ideal) (arg7.view.writes (Elt Ideal) arg7.view.junk (kernelRun0_A.sl.HS0_16 c arg2 harg2 x0)) (ix3 5 l x) = qSlab x0 5 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 5 rfl rfl rfl l x

theorem qt_6 (l : Fin 128) (x : Fin 512) :
    arg7.view.read (Elt Ideal) (arg7.view.writes (Elt Ideal) arg7.view.junk (kernelRun0_A.sl.HS0_16 c arg2 harg2 x0)) (ix3 6 l x) = qSlab x0 6 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 6 rfl rfl rfl l x

theorem qt_7 (l : Fin 128) (x : Fin 512) :
    arg7.view.read (Elt Ideal) (arg7.view.writes (Elt Ideal) arg7.view.junk (kernelRun0_A.sl.HS0_16 c arg2 harg2 x0)) (ix3 7 l x) = qSlab x0 7 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 7 rfl rfl rfl l x

theorem qt_8 (l : Fin 128) (x : Fin 512) :
    arg7.view.read (Elt Ideal) (arg7.view.writes (Elt Ideal) arg7.view.junk (kernelRun0_A.sl.HS0_16 c arg2 harg2 x0)) (ix3 8 l x) = qSlab x0 8 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 8 rfl rfl rfl l x

theorem qt_9 (l : Fin 128) (x : Fin 512) :
    arg7.view.read (Elt Ideal) (arg7.view.writes (Elt Ideal) arg7.view.junk (kernelRun0_A.sl.HS0_16 c arg2 harg2 x0)) (ix3 9 l x) = qSlab x0 9 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 9 rfl rfl rfl l x

theorem qt_10 (l : Fin 128) (x : Fin 512) :
    arg7.view.read (Elt Ideal) (arg7.view.writes (Elt Ideal) arg7.view.junk (kernelRun0_A.sl.HS0_16 c arg2 harg2 x0)) (ix3 10 l x) = qSlab x0 10 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 10 rfl rfl rfl l x

theorem qt_11 (l : Fin 128) (x : Fin 512) :
    arg7.view.read (Elt Ideal) (arg7.view.writes (Elt Ideal) arg7.view.junk (kernelRun0_A.sl.HS0_16 c arg2 harg2 x0)) (ix3 11 l x) = qSlab x0 11 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 11 rfl rfl rfl l x

theorem qt_12 (l : Fin 128) (x : Fin 512) :
    arg7.view.read (Elt Ideal) (arg7.view.writes (Elt Ideal) arg7.view.junk (kernelRun0_A.sl.HS0_16 c arg2 harg2 x0)) (ix3 12 l x) = qSlab x0 12 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qEven_loads arg2 harg2 x0 _ _ _ 12 rfl rfl rfl l x

theorem qt_13 (l : Fin 128) (x : Fin 512) :
    arg7.view.read (Elt Ideal) (arg7.view.writes (Elt Ideal) arg7.view.junk (kernelRun0_A.sl.HS0_16 c arg2 harg2 x0)) (ix3 13 l x) = qSlab x0 13 l x := by
  delta kernelRun0_A.sl.HS0_16
  dsimp only
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  exact qOdd_loads arg2 harg2 x0 _ _ _ 13 rfl rfl rfl l x

theorem qt_14 (l : Fin 128) (x : Fin 512) :
    arg7.view.read (Elt Ideal) (arg7.view.writes (Elt Ideal) arg7.view.junk (kernelRun0_A.sl.HS0_16 c arg2 harg2 x0)) (ix3 14 l x) = qSlab x0 14 l x := by
  delta kernelRun0_A.sl.HS0_16
  dsimp only
  refine (read_slab_miss _ _ _ _ _ _ _ _ _ (by decide)).trans ?_
  refine (read_slab_hit _ _ _ _ _ _ _ _ _ (by decide)).trans ?_
  exact qEven_loads arg2 harg2 x0 _ _ _ 14 rfl rfl rfl l x

theorem qt_15 (l : Fin 128) (x : Fin 512) :
    arg7.view.read (Elt Ideal) (arg7.view.writes (Elt Ideal) arg7.view.junk (kernelRun0_A.sl.HS0_16 c arg2 harg2 x0)) (ix3 15 l x) = qSlab x0 15 l x := by
  delta kernelRun0_A.sl.HS0_16
  dsimp only
  refine (read_slab_hit _ _ _ _ _ _ _ _ _ (by decide)).trans ?_
  exact qOdd_loads arg2 harg2 x0 _ _ _ 15 rfl rfl rfl l x

/-- The sixteen slabs of queries. -/
theorem qt_read (hd : Fin 16) (l : Fin 128) (x : Fin 512) :
    arg7.view.read (Elt Ideal) (arg7.view.writes (Elt Ideal) arg7.view.junk (kernelRun0_A.sl.HS0_16 c arg2 harg2 x0)) (ix3 hd l x) = qSlab x0 hd l x := by
  match hd with
  | ⟨0, _⟩ => exact qt_0 c arg2 harg2 arg7 x0 l x
  | ⟨1, _⟩ => exact qt_1 c arg2 harg2 arg7 x0 l x
  | ⟨2, _⟩ => exact qt_2 c arg2 harg2 arg7 x0 l x
  | ⟨3, _⟩ => exact qt_3 c arg2 harg2 arg7 x0 l x
  | ⟨4, _⟩ => exact qt_4 c arg2 harg2 arg7 x0 l x
  | ⟨5, _⟩ => exact qt_5 c arg2 harg2 arg7 x0 l x
  | ⟨6, _⟩ => exact qt_6 c arg2 harg2 arg7 x0 l x
  | ⟨7, _⟩ => exact qt_7 c arg2 harg2 arg7 x0 l x
  | ⟨8, _⟩ => exact qt_8 c arg2 harg2 arg7 x0 l x
  | ⟨9, _⟩ => exact qt_9 c arg2 harg2 arg7 x0 l x
  | ⟨10, _⟩ => exact qt_10 c arg2 harg2 arg7 x0 l x
  | ⟨11, _⟩ => exact qt_11 c arg2 harg2 arg7 x0 l x
  | ⟨12, _⟩ => exact qt_12 c arg2 harg2 arg7 x0 l x
  | ⟨13, _⟩ => exact qt_13 c arg2 harg2 arg7 x0 l x
  | ⟨14, _⟩ => exact qt_14 c arg2 harg2 arg7 x0 l x
  | ⟨15, _⟩ => exact qt_15 c arg2 harg2 arg7 x0 l x
  | ⟨n + 16, h⟩ => exact absurd h (by omega)

/-- The slabs of queries as one array. -/
def qArr : S16x128x512.Idx → EReal := fun j => qSlab x0 (j 0) (j 1) (j 2)

theorem qt_arr :
    arg7.view.read (Elt Ideal) (arg7.view.writes (Elt Ideal) arg7.view.junk (kernelRun0_A.sl.HS0_16 c arg2 harg2 x0)) = qArr x0 := by
  funext j
  rw [Idealize.ShloMosaic.ValueIdx.eq_ix3 j]
  exact qt_read c arg2 harg2 arg7 x0 (j 0) (j 1) (j 2)

theorem first_acc_0 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 0 d x) =
      chunkAcc x1 x2 (qArr x0) 0 0 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 0 _ _ _ rfl rfl rfl rfl d x).trans ?_
  rw [harg3.read_unread, harg4.read_unread, qt_arr]

theorem first_sum_0 (x : Fin 512) :
    arg10.view.read (Elt Ideal) (arg10.view.writes (Elt Ideal) arg10.view.junk (kernelRun0_A.sl.HS3_16 c arg2 harg2 arg3 harg3 arg7 x0 x1)) (ix3 0 0 x) =
      chunkSum x1 (qArr x0) 0 0 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 0 _ _ rfl rfl rfl x).trans ?_
  rw [harg3.read_unread, qt_arr]

theorem first_acc_1 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 1 d x) =
      chunkAcc x1 x2 (qArr x0) 0 1 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 1 _ _ _ rfl rfl rfl rfl d x).trans ?_
  rw [harg3.read_unread, harg4.read_unread, qt_arr]

theorem first_sum_1 (x : Fin 512) :
    arg10.view.read (Elt Ideal) (arg10.view.writes (Elt Ideal) arg10.view.junk (kernelRun0_A.sl.HS3_16 c arg2 harg2 arg3 harg3 arg7 x0 x1)) (ix3 1 0 x) =
      chunkSum x1 (qArr x0) 0 1 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 1 _ _ rfl rfl rfl x).trans ?_
  rw [harg3.read_unread, qt_arr]

theorem first_acc_2 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 2 d x) =
      chunkAcc x1 x2 (qArr x0) 0 2 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 2 _ _ _ rfl rfl rfl rfl d x).trans ?_
  rw [harg3.read_unread, harg4.read_unread, qt_arr]

theorem first_sum_2 (x : Fin 512) :
    arg10.view.read (Elt Ideal) (arg10.view.writes (Elt Ideal) arg10.view.junk (kernelRun0_A.sl.HS3_16 c arg2 harg2 arg3 harg3 arg7 x0 x1)) (ix3 2 0 x) =
      chunkSum x1 (qArr x0) 0 2 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 2 _ _ rfl rfl rfl x).trans ?_
  rw [harg3.read_unread, qt_arr]

theorem first_acc_3 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 3 d x) =
      chunkAcc x1 x2 (qArr x0) 0 3 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 3 _ _ _ rfl rfl rfl rfl d x).trans ?_
  rw [harg3.read_unread, harg4.read_unread, qt_arr]

theorem first_sum_3 (x : Fin 512) :
    arg10.view.read (Elt Ideal) (arg10.view.writes (Elt Ideal) arg10.view.junk (kernelRun0_A.sl.HS3_16 c arg2 harg2 arg3 harg3 arg7 x0 x1)) (ix3 3 0 x) =
      chunkSum x1 (qArr x0) 0 3 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 3 _ _ rfl rfl rfl x).trans ?_
  rw [harg3.read_unread, qt_arr]

theorem first_acc_4 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 4 d x) =
      chunkAcc x1 x2 (qArr x0) 0 4 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 4 _ _ _ rfl rfl rfl rfl d x).trans ?_
  rw [harg3.read_unread, harg4.read_unread, qt_arr]

theorem first_sum_4 (x : Fin 512) :
    arg10.view.read (Elt Ideal) (arg10.view.writes (Elt Ideal) arg10.view.junk (kernelRun0_A.sl.HS3_16 c arg2 harg2 arg3 harg3 arg7 x0 x1)) (ix3 4 0 x) =
      chunkSum x1 (qArr x0) 0 4 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 4 _ _ rfl rfl rfl x).trans ?_
  rw [harg3.read_unread, qt_arr]

theorem first_acc_5 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 5 d x) =
      chunkAcc x1 x2 (qArr x0) 0 5 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 5 _ _ _ rfl rfl rfl rfl d x).trans ?_
  rw [harg3.read_unread, harg4.read_unread, qt_arr]

theorem first_sum_5 (x : Fin 512) :
    arg10.view.read (Elt Ideal) (arg10.view.writes (Elt Ideal) arg10.view.junk (kernelRun0_A.sl.HS3_16 c arg2 harg2 arg3 harg3 arg7 x0 x1)) (ix3 5 0 x) =
      chunkSum x1 (qArr x0) 0 5 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 5 _ _ rfl rfl rfl x).trans ?_
  rw [harg3.read_unread, qt_arr]

theorem first_acc_6 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 6 d x) =
      chunkAcc x1 x2 (qArr x0) 0 6 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 6 _ _ _ rfl rfl rfl rfl d x).trans ?_
  rw [harg3.read_unread, harg4.read_unread, qt_arr]

theorem first_sum_6 (x : Fin 512) :
    arg10.view.read (Elt Ideal) (arg10.view.writes (Elt Ideal) arg10.view.junk (kernelRun0_A.sl.HS3_16 c arg2 harg2 arg3 harg3 arg7 x0 x1)) (ix3 6 0 x) =
      chunkSum x1 (qArr x0) 0 6 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 6 _ _ rfl rfl rfl x).trans ?_
  rw [harg3.read_unread, qt_arr]

theorem first_acc_7 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 7 d x) =
      chunkAcc x1 x2 (qArr x0) 0 7 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 7 _ _ _ rfl rfl rfl rfl d x).trans ?_
  rw [harg3.read_unread, harg4.read_unread, qt_arr]

theorem first_sum_7 (x : Fin 512) :
    arg10.view.read (Elt Ideal) (arg10.view.writes (Elt Ideal) arg10.view.junk (kernelRun0_A.sl.HS3_16 c arg2 harg2 arg3 harg3 arg7 x0 x1)) (ix3 7 0 x) =
      chunkSum x1 (qArr x0) 0 7 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 7 _ _ rfl rfl rfl x).trans ?_
  rw [harg3.read_unread, qt_arr]

theorem first_acc_8 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 8 d x) =
      chunkAcc x1 x2 (qArr x0) 0 8 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 8 _ _ _ rfl rfl rfl rfl d x).trans ?_
  rw [harg3.read_unread, harg4.read_unread, qt_arr]

theorem first_sum_8 (x : Fin 512) :
    arg10.view.read (Elt Ideal) (arg10.view.writes (Elt Ideal) arg10.view.junk (kernelRun0_A.sl.HS3_16 c arg2 harg2 arg3 harg3 arg7 x0 x1)) (ix3 8 0 x) =
      chunkSum x1 (qArr x0) 0 8 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 8 _ _ rfl rfl rfl x).trans ?_
  rw [harg3.read_unread, qt_arr]

theorem first_acc_9 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 9 d x) =
      chunkAcc x1 x2 (qArr x0) 0 9 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 9 _ _ _ rfl rfl rfl rfl d x).trans ?_
  rw [harg3.read_unread, harg4.read_unread, qt_arr]

theorem first_sum_9 (x : Fin 512) :
    arg10.view.read (Elt Ideal) (arg10.view.writes (Elt Ideal) arg10.view.junk (kernelRun0_A.sl.HS3_16 c arg2 harg2 arg3 harg3 arg7 x0 x1)) (ix3 9 0 x) =
      chunkSum x1 (qArr x0) 0 9 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 9 _ _ rfl rfl rfl x).trans ?_
  rw [harg3.read_unread, qt_arr]

theorem first_acc_10 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 10 d x) =
      chunkAcc x1 x2 (qArr x0) 0 10 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 10 _ _ _ rfl rfl rfl rfl d x).trans ?_
  rw [harg3.read_unread, harg4.read_unread, qt_arr]

theorem first_sum_10 (x : Fin 512) :
    arg10.view.read (Elt Ideal) (arg10.view.writes (Elt Ideal) arg10.view.junk (kernelRun0_A.sl.HS3_16 c arg2 harg2 arg3 harg3 arg7 x0 x1)) (ix3 10 0 x) =
      chunkSum x1 (qArr x0) 0 10 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 10 _ _ rfl rfl rfl x).trans ?_
  rw [harg3.read_unread, qt_arr]

theorem first_acc_11 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 11 d x) =
      chunkAcc x1 x2 (qArr x0) 0 11 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 11 _ _ _ rfl rfl rfl rfl d x).trans ?_
  rw [harg3.read_unread, harg4.read_unread, qt_arr]

theorem first_sum_11 (x : Fin 512) :
    arg10.view.read (Elt Ideal) (arg10.view.writes (Elt Ideal) arg10.view.junk (kernelRun0_A.sl.HS3_16 c arg2 harg2 arg3 harg3 arg7 x0 x1)) (ix3 11 0 x) =
      chunkSum x1 (qArr x0) 0 11 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 11 _ _ rfl rfl rfl x).trans ?_
  rw [harg3.read_unread, qt_arr]

theorem first_acc_12 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 12 d x) =
      chunkAcc x1 x2 (qArr x0) 0 12 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 12 _ _ _ rfl rfl rfl rfl d x).trans ?_
  rw [harg3.read_unread, harg4.read_unread, qt_arr]

theorem first_sum_12 (x : Fin 512) :
    arg10.view.read (Elt Ideal) (arg10.view.writes (Elt Ideal) arg10.view.junk (kernelRun0_A.sl.HS3_16 c arg2 harg2 arg3 harg3 arg7 x0 x1)) (ix3 12 0 x) =
      chunkSum x1 (qArr x0) 0 12 x := by
  delta kernelRun0_A.sl.HS3_16
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 12 _ _ rfl rfl rfl x).trans ?_
  rw [harg3.read_unread, qt_arr]

theorem first_acc_13 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 13 d x) =
      chunkAcc x1 x2 (qArr x0) 0 13 d x := by
  delta kernelRun0_A.sl.HS2_16
  dsimp only
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 13 _ _ _ rfl rfl rfl rfl d x).trans ?_
  rw [harg3.read_unread, harg4.read_unread, qt_arr]

theorem first_sum_13 (x : Fin 512) :
    arg10.view.read (Elt Ideal) (arg10.view.writes (Elt Ideal) arg10.view.junk (kernelRun0_A.sl.HS3_16 c arg2 harg2 arg3 harg3 arg7 x0 x1)) (ix3 13 0 x) =
      chunkSum x1 (qArr x0) 0 13 x := by
  delta kernelRun0_A.sl.HS3_16
  dsimp only
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 13 _ _ rfl rfl rfl x).trans ?_
  rw [harg3.read_unread, qt_arr]

theorem first_acc_14 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 14 d x) =
      chunkAcc x1 x2 (qArr x0) 0 14 d x := by
  delta kernelRun0_A.sl.HS2_16
  dsimp only
  refine (read_slab_miss _ _ _ _ _ _ _ _ _ (by decide)).trans ?_
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 14 _ _ _ rfl rfl rfl rfl d x).trans ?_
  rw [harg3.read_unread, harg4.read_unread, qt_arr]

theorem first_sum_14 (x : Fin 512) :
    arg10.view.read (Elt Ideal) (arg10.view.writes (Elt Ideal) arg10.view.junk (kernelRun0_A.sl.HS3_16 c arg2 harg2 arg3 harg3 arg7 x0 x1)) (ix3 14 0 x) =
      chunkSum x1 (qArr x0) 0 14 x := by
  delta kernelRun0_A.sl.HS3_16
  dsimp only
  refine (read_slab_miss _ _ _ _ _ _ _ _ _ (by decide)).trans ?_
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 14 _ _ rfl rfl rfl x).trans ?_
  rw [harg3.read_unread, qt_arr]

theorem first_acc_15 (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 15 d x) =
      chunkAcc x1 x2 (qArr x0) 0 15 d x := by
  delta kernelRun0_A.sl.HS2_16
  dsimp only
  refine (read_slab_hit _ _ _ _ _ _ _ _ _ (by decide)).trans ?_
  refine (accFirst_loads arg3.view arg4.view arg7.view (harg3.unread x1) (harg4.unread x2) (arg7.view.writes (Elt Ideal) arg7.view.junk (kernelRun0_A.sl.HS0_16 c arg2 harg2 x0))
    _ _ _ _ 0 15 _ _ _ rfl rfl rfl rfl d x).trans ?_
  rw [harg3.read_unread, harg4.read_unread, qt_arr]

theorem first_sum_15 (x : Fin 512) :
    arg10.view.read (Elt Ideal) (arg10.view.writes (Elt Ideal) arg10.view.junk (kernelRun0_A.sl.HS3_16 c arg2 harg2 arg3 harg3 arg7 x0 x1)) (ix3 15 0 x) =
      chunkSum x1 (qArr x0) 0 15 x := by
  delta kernelRun0_A.sl.HS3_16
  dsimp only
  refine (read_slab_hit _ _ _ _ _ _ _ _ _ (by decide)).trans ?_
  refine (sumFirst_loads arg3.view arg7.view (harg3.unread x1) (arg7.view.writes (Elt Ideal) arg7.view.junk (kernelRun0_A.sl.HS0_16 c arg2 harg2 x0))
    _ _ _ 0 15 _ _ rfl rfl rfl x).trans ?_
  rw [harg3.read_unread, qt_arr]

/-- The accumulator after the first chunk, -/
theorem first_acc (hd : Fin 16) (d : Fin 64) (x : Fin 512) :
    arg9.view.read (Elt Ideal) (arg9.view.writes (Elt Ideal) arg9.view.junk (kernelRun0_A.sl.HS2_16 c arg2 harg2 arg3 harg3 arg4 harg4 arg7 x0 x1 x2)) (ix3 hd d x) =
      chunkAcc x1 x2 (qArr x0) 0 hd d x := by
  match hd with
  | ⟨0, _⟩ => exact first_acc_0 c arg2 harg2 arg3 harg3 arg4 harg4 arg7 arg9 x0 x1 x2 d x
  | ⟨1, _⟩ => exact first_acc_1 c arg2 harg2 arg3 harg3 arg4 harg4 arg7 arg9 x0 x1 x2 d x
  | ⟨2, _⟩ => exact first_acc_2 c arg2 harg2 arg3 harg3 arg4 harg4 arg7 arg9 x0 x1 x2 d x
  | ⟨3, _⟩ => exact first_acc_3 c arg2 harg2 arg3 harg3 arg4 harg4 arg7 arg9 x0 x1 x2 d x
  | ⟨4, _⟩ => exact first_acc_4 c arg2 harg2 arg3 harg3 arg4 harg4 arg7 arg9 x0 x1 x2 d x
  | ⟨5, _⟩ => exact first_acc_5 c arg2 harg2 arg3 harg3 arg4 harg4 arg7 arg9 x0 x1 x2 d x
  | ⟨6, _⟩ => exact first_acc_6 c arg2 harg2 arg3 harg3 arg4 harg4 arg7 arg9 x0 x1 x2 d x
  | ⟨7, _⟩ => exact first_acc_7 c arg2 harg2 arg3 harg3 arg4 harg4 arg7 arg9 x0 x1 x2 d x
  | ⟨8, _⟩ => exact first_acc_8 c arg2 harg2 arg3 harg3 arg4 harg4 arg7 arg9 x0 x1 x2 d x
  | ⟨9, _⟩ => exact first_acc_9 c arg2 harg2 arg3 harg3 arg4 harg4 arg7 arg9 x0 x1 x2 d x
  | ⟨10, _⟩ => exact first_acc_10 c arg2 harg2 arg3 harg3 arg4 harg4 arg7 arg9 x0 x1 x2 d x
  | ⟨11, _⟩ => exact first_acc_11 c arg2 harg2 arg3 harg3 arg4 harg4 arg7 arg9 x0 x1 x2 d x
  | ⟨12, _⟩ => exact first_acc_12 c arg2 harg2 arg3 harg3 arg4 harg4 arg7 arg9 x0 x1 x2 d x
  | ⟨13, _⟩ => exact first_acc_13 c arg2 harg2 arg3 harg3 arg4 harg4 arg7 arg9 x0 x1 x2 d x
  | ⟨14, _⟩ => exact first_acc_14 c arg2 harg2 arg3 harg3 arg4 harg4 arg7 arg9 x0 x1 x2 d x
  | ⟨15, _⟩ => exact first_acc_15 c arg2 harg2 arg3 harg3 arg4 harg4 arg7 arg9 x0 x1 x2 d x
  | ⟨n + 16, h⟩ => exact absurd h (by omega)

/-- and the totals. -/
theorem first_sum (hd : Fin 16) (x : Fin 512) :
    arg10.view.read (Elt Ideal) (arg10.view.writes (Elt Ideal) arg10.view.junk (kernelRun0_A.sl.HS3_16 c arg2 harg2 arg3 harg3 arg7 x0 x1)) (ix3 hd 0 x) =
      chunkSum x1 (qArr x0) 0 hd x := by
  match hd with
  | ⟨0, _⟩ => exact first_sum_0 c arg2 harg2 arg3 harg3 arg7 arg10 x0 x1 x
  | ⟨1, _⟩ => exact first_sum_1 c arg2 harg2 arg3 harg3 arg7 arg10 x0 x1 x
  | ⟨2, _⟩ => exact first_sum_2 c arg2 harg2 arg3 harg3 arg7 arg10 x0 x1 x
  | ⟨3, _⟩ => exact first_sum_3 c arg2 harg2 arg3 harg3 arg7 arg10 x0 x1 x
  | ⟨4, _⟩ => exact first_sum_4 c arg2 harg2 arg3 harg3 arg7 arg10 x0 x1 x
  | ⟨5, _⟩ => exact first_sum_5 c arg2 harg2 arg3 harg3 arg7 arg10 x0 x1 x
  | ⟨6, _⟩ => exact first_sum_6 c arg2 harg2 arg3 harg3 arg7 arg10 x0 x1 x
  | ⟨7, _⟩ => exact first_sum_7 c arg2 harg2 arg3 harg3 arg7 arg10 x0 x1 x
  | ⟨8, _⟩ => exact first_sum_8 c arg2 harg2 arg3 harg3 arg7 arg10 x0 x1 x
  | ⟨9, _⟩ => exact first_sum_9 c arg2 harg2 arg3 harg3 arg7 arg10 x0 x1 x
  | ⟨10, _⟩ => exact first_sum_10 c arg2 harg2 arg3 harg3 arg7 arg10 x0 x1 x
  | ⟨11, _⟩ => exact first_sum_11 c arg2 harg2 arg3 harg3 arg7 arg10 x0 x1 x
  | ⟨12, _⟩ => exact first_sum_12 c arg2 harg2 arg3 harg3 arg7 arg10 x0 x1 x
  | ⟨13, _⟩ => exact first_sum_13 c arg2 harg2 arg3 harg3 arg7 arg10 x0 x1 x
  | ⟨14, _⟩ => exact first_sum_14 c arg2 harg2 arg3 harg3 arg7 arg10 x0 x1 x
  | ⟨15, _⟩ => exact first_sum_15 c arg2 harg2 arg3 harg3 arg7 arg10 x0 x1 x
  | ⟨n + 16, h⟩ => exact absurd h (by omega)

end Run

end Cert.Attn

end
-- ==== Proof.Attn.Last.lean ====
/- After the loop: what the last chunk leaves in every head's accumulator and total, and the output block the body
   stores from them. -/
module

public import proofs.«01_k».proof.Proof.Attn.Loop
public import proofs.«01_k».proof.Proof.Attn.First

@[expose] public section

set_option maxRecDepth 16384

noncomputable section

namespace Cert.Attn

open Idealize.ShloMosaic Idealize.ShloMosaic.TcCoe Idealize.SL.Sem
open Cert.KernelIdeal Cert.KernelIdeal.Gen

section Run
variable (c : Dev nD) (i : grid0.Coords) (arg2 : Memref sig .tc .vmem S512x1024 .bf16) (harg2 : arg2.IsWhole)
  (arg3 : Memref sig .tc .vmem S1x4112x256 .bf16) (harg3 : arg3.IsWhole) (arg4 : Memref sig .tc .vmem S8x256x512 .bf16) (harg4 : arg4.IsWhole)
  (arg5 : Memref sig .tc .vmem S1x256x16 .bf16) (harg5 : arg5.IsWhole) (arg6 : Memref sig .tc .vmem S512x1024 .bf16) (harg6 : arg6.IsWhole)
  (arg7 : Memref sig .tc .vmem S16x128x512 .bf16) (harg7 : arg7.IsWhole) (arg8 : Memref sig .tc .vmem S16x1x512 .f32) (harg8 : arg8.IsWhole)
  (arg9 : Memref sig .tc .vmem S16x64x512 .f32) (harg9 : arg9.IsWhole) (arg10 : Memref sig .tc .vmem S16x1x512 .f32) (harg10 : arg10.IsWhole)
  (x0 : Vec Ideal S512x1024 .bf16) (x1 : Vec Ideal S1x4112x256 .bf16) (x2 : Vec Ideal S8x256x512 .bf16) (x3 : Vec Ideal S1x256x16 .bf16)

/-- A head's sum of weighted values before the last chunk, -/
def accMid (x0 : Vec Ideal S512x1024 .bf16) (x1 : Vec Ideal S1x4112x256 .bf16) (x2 : Vec Ideal S8x256x512 .bf16)
    (hd : Fin 16) (d : Fin 64) (x : Fin 512) : EReal :=
  chunkAcc x1 x2 (qArr x0) 0 hd d x + ∑ k : Fin 6, chunkAcc x1 x2 (qArr x0) (midChunk (le_refl 6) k) hd d x

/-- its total weight, -/
def sumMid (x0 : Vec Ideal S512x1024 .bf16) (x1 : Vec Ideal S1x4112x256 .bf16) (hd : Fin 16) (x : Fin 512) : EReal :=
  chunkSum x1 (qArr x0) 0 hd x + ∑ k : Fin 6, chunkSum x1 (qArr x0) (midChunk (le_refl 6) k) hd x

/-- and both over all the keys. -/
def accTot (x0 : Vec Ideal S512x1024 .bf16) (x1 : Vec Ideal S1x4112x256 .bf16) (x2 : Vec Ideal S8x256x512 .bf16)
    (x3 : Vec Ideal S1x256x16 .bf16) (hd : Fin 16) (d : Fin 64) (x : Fin 512) : EReal :=
  accMid x0 x1 x2 hd d x + (chunkAcc x1 x2 (qArr x0) 7 hd d x + metaAcc x1 x3 (qArr x0) hd d x)

def sumTot (x0 : Vec Ideal S512x1024 .bf16) (x1 : Vec Ideal S1x4112x256 .bf16) (hd : Fin 16) (x : Fin 512) : EReal :=
  sumMid x0 x1 hd x + lastSum x1 (qArr x0) hd x

/-- After the loop the accumulator holds all but the last chunk. -/
theorem mid_acc (n : ℕ) (hn : n = 6) (v384 : FVec Ideal S512x512 .f32) (v387 : FVec Ideal S1x512 .f32) (v388 : FVec Ideal S512x512 .bf16) (v390 : FVec Ideal S64x512 .bf16)
    (hd : Fin 16) (d : Fin 64) (x : Fin 512) :
    arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 v384 v387 v388 v390 (harg3.unread x1) (harg4.unread x2) (arg7.view.writes (Elt Ideal) arg7.view.junk (kernelRun0_A.sl.HS0_16 c arg2 harg2 x0)) (arg9.view.writes (Elt Ideal) arg9.view.junk (kernelRun0_A.sl.HS2_16 c arg2 harg2 arg3 harg3 arg4 harg4 arg7 x0 x1 x2)) (arg10.view.writes (Elt Ideal) arg10.view.junk (kernelRun0_A.sl.HS3_16 c arg2 harg2 arg3 harg3 arg7 x0 x1)) n).1 ++ (kernelRun0_A.sl.HS2_16 c arg2 harg2 arg3 harg3 arg4 harg4 arg7 x0 x1 x2))) (ix3 hd d x) = accMid x0 x1 x2 hd d x := by
  subst hn
  rw [View.writes_append, loop_acc (hn := le_refl 6), first_acc, harg3.read_unread, harg4.read_unread, qt_arr]
  rfl

theorem mid_sum (n : ℕ) (hn : n = 6) (v384 : FVec Ideal S512x512 .f32) (v387 : FVec Ideal S1x512 .f32) (v388 : FVec Ideal S512x512 .bf16) (v390 : FVec Ideal S64x512 .bf16)
    (hd : Fin 16) (x : Fin 512) :
    arg10.view.read (Elt Ideal) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 v384 v387 v388 v390 (harg3.unread x1) (harg4.unread x2) (arg7.view.writes (Elt Ideal) arg7.view.junk (kernelRun0_A.sl.HS0_16 c arg2 harg2 x0)) (arg9.view.writes (Elt Ideal) arg9.view.junk (kernelRun0_A.sl.HS2_16 c arg2 harg2 arg3 harg3 arg4 harg4 arg7 x0 x1 x2)) (arg10.view.writes (Elt Ideal) arg10.view.junk (kernelRun0_A.sl.HS3_16 c arg2 harg2 arg3 harg3 arg7 x0 x1)) n).2 ++ (kernelRun0_A.sl.HS3_16 c arg2 harg2 arg3 harg3 arg7 x0 x1))) (ix3 hd 0 x) = sumMid x0 x1 hd x := by
  subst hn
  rw [View.writes_append, loop_sum (hn := le_refl 6), first_sum, harg3.read_unread, qt_arr]
  rfl

theorem last_acc_0 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 0 d x) = accTot x0 x1 x2 x3 0 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 0 _ _ _ _ rfl rfl rfl rfl rfl d x).trans ?_
  rw [harg3.read_unread, harg4.read_unread, harg5.read_unread, qt_arr]
  refine congrArg (· + _) ?_
  exact (load_slab arg9.view _ 0 (by decide) _ d x).trans (mid_acc c i arg2 harg2 arg3 harg3 arg4 harg4 arg5 harg5 arg6 harg6 arg7 harg7 arg8 harg8 arg9 harg9 arg10 harg10 x0 x1 x2 _ trips_eq _ _ _ _ 0 d x)

theorem last_sum_0 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 0 0 x) = sumTot x0 x1 0 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 0 _ _ rfl rfl rfl x).trans ?_
  rw [harg3.read_unread, qt_arr]
  refine congrArg (· + _) ?_
  exact (load_slab arg10.view _ 0 (by decide) _ 0 x).trans (mid_sum c i arg2 harg2 arg3 harg3 arg4 harg4 arg5 harg5 arg6 harg6 arg7 harg7 arg8 harg8 arg9 harg9 arg10 harg10 x0 x1 x2 _ trips_eq _ _ _ _ 0 x)

theorem before_acc_1 (d : Fin 64) (x : Fin 512) :
    arg9.view.read (Elt Ideal) (arg9.view.writes (Elt Ideal) arg9.view.junk (kernelRun0_A.sl.HS2_1 c i arg2 harg2 arg3 harg3 arg4 harg4 arg5 harg5 arg6 harg6 arg7 harg7 arg8 harg8 arg9 harg9 arg10 harg10 x0 x1 x2 x3)) (ix3 1 d x) = accMid x0 x1 x2 1 d x := by
  delta kernelRun0_A.sl.HS2_1
  dsimp only
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 1 d x

theorem before_sum_1 (x : Fin 512) :
    arg10.view.read (Elt Ideal) (arg10.view.writes (Elt Ideal) arg10.view.junk (kernelRun0_A.sl.HS3_1 c i arg2 harg2 arg3 harg3 arg4 harg4 arg5 harg5 arg6 harg6 arg7 harg7 arg8 harg8 arg9 harg9 arg10 harg10 x0 x1 x2)) (ix3 1 0 x) = sumMid x0 x1 1 x := by
  delta kernelRun0_A.sl.HS3_1
  dsimp only
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 1 x

theorem last_acc_1 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 1 d x) = accTot x0 x1 x2 x3 1 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 1 _ _ _ _ rfl rfl rfl rfl rfl d x).trans ?_
  rw [harg3.read_unread, harg4.read_unread, harg5.read_unread, qt_arr]
  refine congrArg (· + _) ?_
  exact (load_slab arg9.view _ 1 (by decide) _ d x).trans (before_acc_1 c i arg2 harg2 arg3 harg3 arg4 harg4 arg5 harg5 arg6 harg6 arg7 harg7 arg8 harg8 arg9 harg9 arg10 harg10 x0 x1 x2 x3 d x)

theorem last_sum_1 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 1 0 x) = sumTot x0 x1 1 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 1 _ _ rfl rfl rfl x).trans ?_
  rw [harg3.read_unread, qt_arr]
  refine congrArg (· + _) ?_
  exact (load_slab arg10.view _ 1 (by decide) _ 0 x).trans (before_sum_1 c i arg2 harg2 arg3 harg3 arg4 harg4 arg5 harg5 arg6 harg6 arg7 harg7 arg8 harg8 arg9 harg9 arg10 harg10 x0 x1 x2 x)

theorem before_acc_2 (d : Fin 64) (x : Fin 512) :
    arg9.view.read (Elt Ideal) (arg9.view.writes (Elt Ideal) arg9.view.junk (kernelRun0_A.sl.HS2_2 c i arg2 harg2 arg3 harg3 arg4 harg4 arg5 harg5 arg6 harg6 arg7 harg7 arg8 harg8 arg9 harg9 arg10 harg10 x0 x1 x2 x3)) (ix3 2 d x) = accMid x0 x1 x2 2 d x := by
  delta kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 2 d x

theorem before_sum_2 (x : Fin 512) :
    arg10.view.read (Elt Ideal) (arg10.view.writes (Elt Ideal) arg10.view.junk (kernelRun0_A.sl.HS3_2 c i arg2 harg2 arg3 harg3 arg4 harg4 arg5 harg5 arg6 harg6 arg7 harg7 arg8 harg8 arg9 harg9 arg10 harg10 x0 x1 x2)) (ix3 2 0 x) = sumMid x0 x1 2 x := by
  delta kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 2 x

theorem last_acc_2 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 2 d x) = accTot x0 x1 x2 x3 2 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 2 _ _ _ _ rfl rfl rfl rfl rfl d x).trans ?_
  rw [harg3.read_unread, harg4.read_unread, harg5.read_unread, qt_arr]
  refine congrArg (· + _) ?_
  exact (load_slab arg9.view _ 2 (by decide) _ d x).trans (before_acc_2 c i arg2 harg2 arg3 harg3 arg4 harg4 arg5 harg5 arg6 harg6 arg7 harg7 arg8 harg8 arg9 harg9 arg10 harg10 x0 x1 x2 x3 d x)

theorem last_sum_2 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 2 0 x) = sumTot x0 x1 2 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 2 _ _ rfl rfl rfl x).trans ?_
  rw [harg3.read_unread, qt_arr]
  refine congrArg (· + _) ?_
  exact (load_slab arg10.view _ 2 (by decide) _ 0 x).trans (before_sum_2 c i arg2 harg2 arg3 harg3 arg4 harg4 arg5 harg5 arg6 harg6 arg7 harg7 arg8 harg8 arg9 harg9 arg10 harg10 x0 x1 x2 x)

theorem before_acc_3 (d : Fin 64) (x : Fin 512) :
    arg9.view.read (Elt Ideal) (arg9.view.writes (Elt Ideal) arg9.view.junk (kernelRun0_A.sl.HS2_3 c i arg2 harg2 arg3 harg3 arg4 harg4 arg5 harg5 arg6 harg6 arg7 harg7 arg8 harg8 arg9 harg9 arg10 harg10 x0 x1 x2 x3)) (ix3 3 d x) = accMid x0 x1 x2 3 d x := by
  delta kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 3 d x

theorem before_sum_3 (x : Fin 512) :
    arg10.view.read (Elt Ideal) (arg10.view.writes (Elt Ideal) arg10.view.junk (kernelRun0_A.sl.HS3_3 c i arg2 harg2 arg3 harg3 arg4 harg4 arg5 harg5 arg6 harg6 arg7 harg7 arg8 harg8 arg9 harg9 arg10 harg10 x0 x1 x2)) (ix3 3 0 x) = sumMid x0 x1 3 x := by
  delta kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 3 x

theorem last_acc_3 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 3 d x) = accTot x0 x1 x2 x3 3 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 3 _ _ _ _ rfl rfl rfl rfl rfl d x).trans ?_
  rw [harg3.read_unread, harg4.read_unread, harg5.read_unread, qt_arr]
  refine congrArg (· + _) ?_
  exact (load_slab arg9.view _ 3 (by decide) _ d x).trans (before_acc_3 c i arg2 harg2 arg3 harg3 arg4 harg4 arg5 harg5 arg6 harg6 arg7 harg7 arg8 harg8 arg9 harg9 arg10 harg10 x0 x1 x2 x3 d x)

theorem last_sum_3 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 3 0 x) = sumTot x0 x1 3 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 3 _ _ rfl rfl rfl x).trans ?_
  rw [harg3.read_unread, qt_arr]
  refine congrArg (· + _) ?_
  exact (load_slab arg10.view _ 3 (by decide) _ 0 x).trans (before_sum_3 c i arg2 harg2 arg3 harg3 arg4 harg4 arg5 harg5 arg6 harg6 arg7 harg7 arg8 harg8 arg9 harg9 arg10 harg10 x0 x1 x2 x)

theorem before_acc_4 (d : Fin 64) (x : Fin 512) :
    arg9.view.read (Elt Ideal) (arg9.view.writes (Elt Ideal) arg9.view.junk (kernelRun0_A.sl.HS2_4 c i arg2 harg2 arg3 harg3 arg4 harg4 arg5 harg5 arg6 harg6 arg7 harg7 arg8 harg8 arg9 harg9 arg10 harg10 x0 x1 x2 x3)) (ix3 4 d x) = accMid x0 x1 x2 4 d x := by
  delta kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 4 d x

theorem before_sum_4 (x : Fin 512) :
    arg10.view.read (Elt Ideal) (arg10.view.writes (Elt Ideal) arg10.view.junk (kernelRun0_A.sl.HS3_4 c i arg2 harg2 arg3 harg3 arg4 harg4 arg5 harg5 arg6 harg6 arg7 harg7 arg8 harg8 arg9 harg9 arg10 harg10 x0 x1 x2)) (ix3 4 0 x) = sumMid x0 x1 4 x := by
  delta kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 4 x

theorem last_acc_4 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 4 d x) = accTot x0 x1 x2 x3 4 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 4 _ _ _ _ rfl rfl rfl rfl rfl d x).trans ?_
  rw [harg3.read_unread, harg4.read_unread, harg5.read_unread, qt_arr]
  refine congrArg (· + _) ?_
  exact (load_slab arg9.view _ 4 (by decide) _ d x).trans (before_acc_4 c i arg2 harg2 arg3 harg3 arg4 harg4 arg5 harg5 arg6 harg6 arg7 harg7 arg8 harg8 arg9 harg9 arg10 harg10 x0 x1 x2 x3 d x)

theorem last_sum_4 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 4 0 x) = sumTot x0 x1 4 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 4 _ _ rfl rfl rfl x).trans ?_
  rw [harg3.read_unread, qt_arr]
  refine congrArg (· + _) ?_
  exact (load_slab arg10.view _ 4 (by decide) _ 0 x).trans (before_sum_4 c i arg2 harg2 arg3 harg3 arg4 harg4 arg5 harg5 arg6 harg6 arg7 harg7 arg8 harg8 arg9 harg9 arg10 harg10 x0 x1 x2 x)

theorem before_acc_5 (d : Fin 64) (x : Fin 512) :
    arg9.view.read (Elt Ideal) (arg9.view.writes (Elt Ideal) arg9.view.junk (kernelRun0_A.sl.HS2_5 c i arg2 harg2 arg3 harg3 arg4 harg4 arg5 harg5 arg6 harg6 arg7 harg7 arg8 harg8 arg9 harg9 arg10 harg10 x0 x1 x2 x3)) (ix3 5 d x) = accMid x0 x1 x2 5 d x := by
  delta kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 5 d x

theorem before_sum_5 (x : Fin 512) :
    arg10.view.read (Elt Ideal) (arg10.view.writes (Elt Ideal) arg10.view.junk (kernelRun0_A.sl.HS3_5 c i arg2 harg2 arg3 harg3 arg4 harg4 arg5 harg5 arg6 harg6 arg7 harg7 arg8 harg8 arg9 harg9 arg10 harg10 x0 x1 x2)) (ix3 5 0 x) = sumMid x0 x1 5 x := by
  delta kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 5 x

theorem last_acc_5 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 5 d x) = accTot x0 x1 x2 x3 5 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 5 _ _ _ _ rfl rfl rfl rfl rfl d x).trans ?_
  rw [harg3.read_unread, harg4.read_unread, harg5.read_unread, qt_arr]
  refine congrArg (· + _) ?_
  exact (load_slab arg9.view _ 5 (by decide) _ d x).trans (before_acc_5 c i arg2 harg2 arg3 harg3 arg4 harg4 arg5 harg5 arg6 harg6 arg7 harg7 arg8 harg8 arg9 harg9 arg10 harg10 x0 x1 x2 x3 d x)

theorem last_sum_5 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 5 0 x) = sumTot x0 x1 5 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 5 _ _ rfl rfl rfl x).trans ?_
  rw [harg3.read_unread, qt_arr]
  refine congrArg (· + _) ?_
  exact (load_slab arg10.view _ 5 (by decide) _ 0 x).trans (before_sum_5 c i arg2 harg2 arg3 harg3 arg4 harg4 arg5 harg5 arg6 harg6 arg7 harg7 arg8 harg8 arg9 harg9 arg10 harg10 x0 x1 x2 x)

theorem before_acc_6 (d : Fin 64) (x : Fin 512) :
    arg9.view.read (Elt Ideal) (arg9.view.writes (Elt Ideal) arg9.view.junk (kernelRun0_A.sl.HS2_6 c i arg2 harg2 arg3 harg3 arg4 harg4 arg5 harg5 arg6 harg6 arg7 harg7 arg8 harg8 arg9 harg9 arg10 harg10 x0 x1 x2 x3)) (ix3 6 d x) = accMid x0 x1 x2 6 d x := by
  delta kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 6 d x

theorem before_sum_6 (x : Fin 512) :
    arg10.view.read (Elt Ideal) (arg10.view.writes (Elt Ideal) arg10.view.junk (kernelRun0_A.sl.HS3_6 c i arg2 harg2 arg3 harg3 arg4 harg4 arg5 harg5 arg6 harg6 arg7 harg7 arg8 harg8 arg9 harg9 arg10 harg10 x0 x1 x2)) (ix3 6 0 x) = sumMid x0 x1 6 x := by
  delta kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 6 x

theorem last_acc_6 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 6 d x) = accTot x0 x1 x2 x3 6 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 6 _ _ _ _ rfl rfl rfl rfl rfl d x).trans ?_
  rw [harg3.read_unread, harg4.read_unread, harg5.read_unread, qt_arr]
  refine congrArg (· + _) ?_
  exact (load_slab arg9.view _ 6 (by decide) _ d x).trans (before_acc_6 c i arg2 harg2 arg3 harg3 arg4 harg4 arg5 harg5 arg6 harg6 arg7 harg7 arg8 harg8 arg9 harg9 arg10 harg10 x0 x1 x2 x3 d x)

theorem last_sum_6 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 6 0 x) = sumTot x0 x1 6 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 6 _ _ rfl rfl rfl x).trans ?_
  rw [harg3.read_unread, qt_arr]
  refine congrArg (· + _) ?_
  exact (load_slab arg10.view _ 6 (by decide) _ 0 x).trans (before_sum_6 c i arg2 harg2 arg3 harg3 arg4 harg4 arg5 harg5 arg6 harg6 arg7 harg7 arg8 harg8 arg9 harg9 arg10 harg10 x0 x1 x2 x)

theorem before_acc_7 (d : Fin 64) (x : Fin 512) :
    arg9.view.read (Elt Ideal) (arg9.view.writes (Elt Ideal) arg9.view.junk (kernelRun0_A.sl.HS2_7 c i arg2 harg2 arg3 harg3 arg4 harg4 arg5 harg5 arg6 harg6 arg7 harg7 arg8 harg8 arg9 harg9 arg10 harg10 x0 x1 x2 x3)) (ix3 7 d x) = accMid x0 x1 x2 7 d x := by
  delta kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 7 d x

theorem before_sum_7 (x : Fin 512) :
    arg10.view.read (Elt Ideal) (arg10.view.writes (Elt Ideal) arg10.view.junk (kernelRun0_A.sl.HS3_7 c i arg2 harg2 arg3 harg3 arg4 harg4 arg5 harg5 arg6 harg6 arg7 harg7 arg8 harg8 arg9 harg9 arg10 harg10 x0 x1 x2)) (ix3 7 0 x) = sumMid x0 x1 7 x := by
  delta kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 7 x

theorem last_acc_7 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 7 d x) = accTot x0 x1 x2 x3 7 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 7 _ _ _ _ rfl rfl rfl rfl rfl d x).trans ?_
  rw [harg3.read_unread, harg4.read_unread, harg5.read_unread, qt_arr]
  refine congrArg (· + _) ?_
  exact (load_slab arg9.view _ 7 (by decide) _ d x).trans (before_acc_7 c i arg2 harg2 arg3 harg3 arg4 harg4 arg5 harg5 arg6 harg6 arg7 harg7 arg8 harg8 arg9 harg9 arg10 harg10 x0 x1 x2 x3 d x)

theorem last_sum_7 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 7 0 x) = sumTot x0 x1 7 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 7 _ _ rfl rfl rfl x).trans ?_
  rw [harg3.read_unread, qt_arr]
  refine congrArg (· + _) ?_
  exact (load_slab arg10.view _ 7 (by decide) _ 0 x).trans (before_sum_7 c i arg2 harg2 arg3 harg3 arg4 harg4 arg5 harg5 arg6 harg6 arg7 harg7 arg8 harg8 arg9 harg9 arg10 harg10 x0 x1 x2 x)

theorem before_acc_8 (d : Fin 64) (x : Fin 512) :
    arg9.view.read (Elt Ideal) (arg9.view.writes (Elt Ideal) arg9.view.junk (kernelRun0_A.sl.HS2_8 c i arg2 harg2 arg3 harg3 arg4 harg4 arg5 harg5 arg6 harg6 arg7 harg7 arg8 harg8 arg9 harg9 arg10 harg10 x0 x1 x2 x3)) (ix3 8 d x) = accMid x0 x1 x2 8 d x := by
  delta kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 8 d x

theorem before_sum_8 (x : Fin 512) :
    arg10.view.read (Elt Ideal) (arg10.view.writes (Elt Ideal) arg10.view.junk (kernelRun0_A.sl.HS3_8 c i arg2 harg2 arg3 harg3 arg4 harg4 arg5 harg5 arg6 harg6 arg7 harg7 arg8 harg8 arg9 harg9 arg10 harg10 x0 x1 x2)) (ix3 8 0 x) = sumMid x0 x1 8 x := by
  delta kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 8 x

theorem last_acc_8 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 8 d x) = accTot x0 x1 x2 x3 8 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 8 _ _ _ _ rfl rfl rfl rfl rfl d x).trans ?_
  rw [harg3.read_unread, harg4.read_unread, harg5.read_unread, qt_arr]
  refine congrArg (· + _) ?_
  exact (load_slab arg9.view _ 8 (by decide) _ d x).trans (before_acc_8 c i arg2 harg2 arg3 harg3 arg4 harg4 arg5 harg5 arg6 harg6 arg7 harg7 arg8 harg8 arg9 harg9 arg10 harg10 x0 x1 x2 x3 d x)

theorem last_sum_8 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 8 0 x) = sumTot x0 x1 8 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 8 _ _ rfl rfl rfl x).trans ?_
  rw [harg3.read_unread, qt_arr]
  refine congrArg (· + _) ?_
  exact (load_slab arg10.view _ 8 (by decide) _ 0 x).trans (before_sum_8 c i arg2 harg2 arg3 harg3 arg4 harg4 arg5 harg5 arg6 harg6 arg7 harg7 arg8 harg8 arg9 harg9 arg10 harg10 x0 x1 x2 x)

theorem before_acc_9 (d : Fin 64) (x : Fin 512) :
    arg9.view.read (Elt Ideal) (arg9.view.writes (Elt Ideal) arg9.view.junk (kernelRun0_A.sl.HS2_9 c i arg2 harg2 arg3 harg3 arg4 harg4 arg5 harg5 arg6 harg6 arg7 harg7 arg8 harg8 arg9 harg9 arg10 harg10 x0 x1 x2 x3)) (ix3 9 d x) = accMid x0 x1 x2 9 d x := by
  delta kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 9 d x

theorem before_sum_9 (x : Fin 512) :
    arg10.view.read (Elt Ideal) (arg10.view.writes (Elt Ideal) arg10.view.junk (kernelRun0_A.sl.HS3_9 c i arg2 harg2 arg3 harg3 arg4 harg4 arg5 harg5 arg6 harg6 arg7 harg7 arg8 harg8 arg9 harg9 arg10 harg10 x0 x1 x2)) (ix3 9 0 x) = sumMid x0 x1 9 x := by
  delta kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 9 x

theorem last_acc_9 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 9 d x) = accTot x0 x1 x2 x3 9 d x := by
  delta kernelRun0_A.sl.HS2_16_1 kernelRun0_A.sl.HS2_15 kernelRun0_A.sl.HS2_14 kernelRun0_A.sl.HS2_13 kernelRun0_A.sl.HS2_12 kernelRun0_A.sl.HS2_11 kernelRun0_A.sl.HS2_10
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 9 _ _ _ _ rfl rfl rfl rfl rfl d x).trans ?_
  rw [harg3.read_unread, harg4.read_unread, harg5.read_unread, qt_arr]
  refine congrArg (· + _) ?_
  exact (load_slab arg9.view _ 9 (by decide) _ d x).trans (before_acc_9 c i arg2 harg2 arg3 harg3 arg4 harg4 arg5 harg5 arg6 harg6 arg7 harg7 arg8 harg8 arg9 harg9 arg10 harg10 x0 x1 x2 x3 d x)

theorem last_sum_9 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 9 0 x) = sumTot x0 x1 9 x := by
  delta kernelRun0_A.sl.HS3_16_1 kernelRun0_A.sl.HS3_15 kernelRun0_A.sl.HS3_14 kernelRun0_A.sl.HS3_13 kernelRun0_A.sl.HS3_12 kernelRun0_A.sl.HS3_11 kernelRun0_A.sl.HS3_10
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 9 _ _ rfl rfl rfl x).trans ?_
  rw [harg3.read_unread, qt_arr]
  refine congrArg (· + _) ?_
  exact (load_slab arg10.view _ 9 (by decide) _ 0 x).trans (before_sum_9 c i arg2 harg2 arg3 harg3 arg4 harg4 arg5 harg5 arg6 harg6 arg7 harg7 arg8 harg8 arg9 harg9 arg10 harg10 x0 x1 x2 x)

theorem before_acc_10 (d : Fin 64) (x : Fin 512) :
    arg9.view.read (Elt Ideal) (arg9.view.writes (Elt Ideal) arg9.view.junk (kernelRun0_A.sl.HS2_10 c i arg2 harg2 arg3 harg3 arg4 harg4 arg5 harg5 arg6 harg6 arg7 harg7 arg8 harg8 arg9 harg9 arg10 harg10 x0 x1 x2 x3)) (ix3 10 d x) = accMid x0 x1 x2 10 d x := by
  delta kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 10 d x

theorem before_sum_10 (x : Fin 512) :
    arg10.view.read (Elt Ideal) (arg10.view.writes (Elt Ideal) arg10.view.junk (kernelRun0_A.sl.HS3_10 c i arg2 harg2 arg3 harg3 arg4 harg4 arg5 harg5 arg6 harg6 arg7 harg7 arg8 harg8 arg9 harg9 arg10 harg10 x0 x1 x2)) (ix3 10 0 x) = sumMid x0 x1 10 x := by
  delta kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 10 x

theorem last_acc_10 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 10 d x) = accTot x0 x1 x2 x3 10 d x := by
  delta kernelRun0_A.sl.HS2_16_1 kernelRun0_A.sl.HS2_15 kernelRun0_A.sl.HS2_14 kernelRun0_A.sl.HS2_13 kernelRun0_A.sl.HS2_12 kernelRun0_A.sl.HS2_11
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 10 _ _ _ _ rfl rfl rfl rfl rfl d x).trans ?_
  rw [harg3.read_unread, harg4.read_unread, harg5.read_unread, qt_arr]
  refine congrArg (· + _) ?_
  exact (load_slab arg9.view _ 10 (by decide) _ d x).trans (before_acc_10 c i arg2 harg2 arg3 harg3 arg4 harg4 arg5 harg5 arg6 harg6 arg7 harg7 arg8 harg8 arg9 harg9 arg10 harg10 x0 x1 x2 x3 d x)

theorem last_sum_10 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 10 0 x) = sumTot x0 x1 10 x := by
  delta kernelRun0_A.sl.HS3_16_1 kernelRun0_A.sl.HS3_15 kernelRun0_A.sl.HS3_14 kernelRun0_A.sl.HS3_13 kernelRun0_A.sl.HS3_12 kernelRun0_A.sl.HS3_11
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 10 _ _ rfl rfl rfl x).trans ?_
  rw [harg3.read_unread, qt_arr]
  refine congrArg (· + _) ?_
  exact (load_slab arg10.view _ 10 (by decide) _ 0 x).trans (before_sum_10 c i arg2 harg2 arg3 harg3 arg4 harg4 arg5 harg5 arg6 harg6 arg7 harg7 arg8 harg8 arg9 harg9 arg10 harg10 x0 x1 x2 x)

theorem before_acc_11 (d : Fin 64) (x : Fin 512) :
    arg9.view.read (Elt Ideal) (arg9.view.writes (Elt Ideal) arg9.view.junk (kernelRun0_A.sl.HS2_11 c i arg2 harg2 arg3 harg3 arg4 harg4 arg5 harg5 arg6 harg6 arg7 harg7 arg8 harg8 arg9 harg9 arg10 harg10 x0 x1 x2 x3)) (ix3 11 d x) = accMid x0 x1 x2 11 d x := by
  delta kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 11 d x

theorem before_sum_11 (x : Fin 512) :
    arg10.view.read (Elt Ideal) (arg10.view.writes (Elt Ideal) arg10.view.junk (kernelRun0_A.sl.HS3_11 c i arg2 harg2 arg3 harg3 arg4 harg4 arg5 harg5 arg6 harg6 arg7 harg7 arg8 harg8 arg9 harg9 arg10 harg10 x0 x1 x2)) (ix3 11 0 x) = sumMid x0 x1 11 x := by
  delta kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 11 x

theorem last_acc_11 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 11 d x) = accTot x0 x1 x2 x3 11 d x := by
  delta kernelRun0_A.sl.HS2_16_1 kernelRun0_A.sl.HS2_15 kernelRun0_A.sl.HS2_14 kernelRun0_A.sl.HS2_13 kernelRun0_A.sl.HS2_12
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 11 _ _ _ _ rfl rfl rfl rfl rfl d x).trans ?_
  rw [harg3.read_unread, harg4.read_unread, harg5.read_unread, qt_arr]
  refine congrArg (· + _) ?_
  exact (load_slab arg9.view _ 11 (by decide) _ d x).trans (before_acc_11 c i arg2 harg2 arg3 harg3 arg4 harg4 arg5 harg5 arg6 harg6 arg7 harg7 arg8 harg8 arg9 harg9 arg10 harg10 x0 x1 x2 x3 d x)

theorem last_sum_11 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 11 0 x) = sumTot x0 x1 11 x := by
  delta kernelRun0_A.sl.HS3_16_1 kernelRun0_A.sl.HS3_15 kernelRun0_A.sl.HS3_14 kernelRun0_A.sl.HS3_13 kernelRun0_A.sl.HS3_12
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 11 _ _ rfl rfl rfl x).trans ?_
  rw [harg3.read_unread, qt_arr]
  refine congrArg (· + _) ?_
  exact (load_slab arg10.view _ 11 (by decide) _ 0 x).trans (before_sum_11 c i arg2 harg2 arg3 harg3 arg4 harg4 arg5 harg5 arg6 harg6 arg7 harg7 arg8 harg8 arg9 harg9 arg10 harg10 x0 x1 x2 x)

theorem before_acc_12 (d : Fin 64) (x : Fin 512) :
    arg9.view.read (Elt Ideal) (arg9.view.writes (Elt Ideal) arg9.view.junk (kernelRun0_A.sl.HS2_12 c i arg2 harg2 arg3 harg3 arg4 harg4 arg5 harg5 arg6 harg6 arg7 harg7 arg8 harg8 arg9 harg9 arg10 harg10 x0 x1 x2 x3)) (ix3 12 d x) = accMid x0 x1 x2 12 d x := by
  delta kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 12 d x

theorem before_sum_12 (x : Fin 512) :
    arg10.view.read (Elt Ideal) (arg10.view.writes (Elt Ideal) arg10.view.junk (kernelRun0_A.sl.HS3_12 c i arg2 harg2 arg3 harg3 arg4 harg4 arg5 harg5 arg6 harg6 arg7 harg7 arg8 harg8 arg9 harg9 arg10 harg10 x0 x1 x2)) (ix3 12 0 x) = sumMid x0 x1 12 x := by
  delta kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 12 x

theorem last_acc_12 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 12 d x) = accTot x0 x1 x2 x3 12 d x := by
  delta kernelRun0_A.sl.HS2_16_1 kernelRun0_A.sl.HS2_15 kernelRun0_A.sl.HS2_14 kernelRun0_A.sl.HS2_13
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 12 _ _ _ _ rfl rfl rfl rfl rfl d x).trans ?_
  rw [harg3.read_unread, harg4.read_unread, harg5.read_unread, qt_arr]
  refine congrArg (· + _) ?_
  exact (load_slab arg9.view _ 12 (by decide) _ d x).trans (before_acc_12 c i arg2 harg2 arg3 harg3 arg4 harg4 arg5 harg5 arg6 harg6 arg7 harg7 arg8 harg8 arg9 harg9 arg10 harg10 x0 x1 x2 x3 d x)

theorem last_sum_12 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 12 0 x) = sumTot x0 x1 12 x := by
  delta kernelRun0_A.sl.HS3_16_1 kernelRun0_A.sl.HS3_15 kernelRun0_A.sl.HS3_14 kernelRun0_A.sl.HS3_13
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 12 _ _ rfl rfl rfl x).trans ?_
  rw [harg3.read_unread, qt_arr]
  refine congrArg (· + _) ?_
  exact (load_slab arg10.view _ 12 (by decide) _ 0 x).trans (before_sum_12 c i arg2 harg2 arg3 harg3 arg4 harg4 arg5 harg5 arg6 harg6 arg7 harg7 arg8 harg8 arg9 harg9 arg10 harg10 x0 x1 x2 x)

theorem before_acc_13 (d : Fin 64) (x : Fin 512) :
    arg9.view.read (Elt Ideal) (arg9.view.writes (Elt Ideal) arg9.view.junk (kernelRun0_A.sl.HS2_13 c i arg2 harg2 arg3 harg3 arg4 harg4 arg5 harg5 arg6 harg6 arg7 harg7 arg8 harg8 arg9 harg9 arg10 harg10 x0 x1 x2 x3)) (ix3 13 d x) = accMid x0 x1 x2 13 d x := by
  delta kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 13 d x

theorem before_sum_13 (x : Fin 512) :
    arg10.view.read (Elt Ideal) (arg10.view.writes (Elt Ideal) arg10.view.junk (kernelRun0_A.sl.HS3_13 c i arg2 harg2 arg3 harg3 arg4 harg4 arg5 harg5 arg6 harg6 arg7 harg7 arg8 harg8 arg9 harg9 arg10 harg10 x0 x1 x2)) (ix3 13 0 x) = sumMid x0 x1 13 x := by
  delta kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 13 x

theorem last_acc_13 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 13 d x) = accTot x0 x1 x2 x3 13 d x := by
  delta kernelRun0_A.sl.HS2_16_1 kernelRun0_A.sl.HS2_15 kernelRun0_A.sl.HS2_14
  dsimp only
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 13 _ _ _ _ rfl rfl rfl rfl rfl d x).trans ?_
  rw [harg3.read_unread, harg4.read_unread, harg5.read_unread, qt_arr]
  refine congrArg (· + _) ?_
  exact (load_slab arg9.view _ 13 (by decide) _ d x).trans (before_acc_13 c i arg2 harg2 arg3 harg3 arg4 harg4 arg5 harg5 arg6 harg6 arg7 harg7 arg8 harg8 arg9 harg9 arg10 harg10 x0 x1 x2 x3 d x)

theorem last_sum_13 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 13 0 x) = sumTot x0 x1 13 x := by
  delta kernelRun0_A.sl.HS3_16_1 kernelRun0_A.sl.HS3_15 kernelRun0_A.sl.HS3_14
  dsimp only
  refine (read_slab_miss _ _ _ _ _ _ _ _ _ (by decide)).trans ?_
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 13 _ _ rfl rfl rfl x).trans ?_
  rw [harg3.read_unread, qt_arr]
  refine congrArg (· + _) ?_
  exact (load_slab arg10.view _ 13 (by decide) _ 0 x).trans (before_sum_13 c i arg2 harg2 arg3 harg3 arg4 harg4 arg5 harg5 arg6 harg6 arg7 harg7 arg8 harg8 arg9 harg9 arg10 harg10 x0 x1 x2 x)

theorem before_acc_14 (d : Fin 64) (x : Fin 512) :
    arg9.view.read (Elt Ideal) (arg9.view.writes (Elt Ideal) arg9.view.junk (kernelRun0_A.sl.HS2_14 c i arg2 harg2 arg3 harg3 arg4 harg4 arg5 harg5 arg6 harg6 arg7 harg7 arg8 harg8 arg9 harg9 arg10 harg10 x0 x1 x2 x3)) (ix3 14 d x) = accMid x0 x1 x2 14 d x := by
  delta kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 14 d x

theorem before_sum_14 (x : Fin 512) :
    arg10.view.read (Elt Ideal) (arg10.view.writes (Elt Ideal) arg10.view.junk (kernelRun0_A.sl.HS3_14 c i arg2 harg2 arg3 harg3 arg4 harg4 arg5 harg5 arg6 harg6 arg7 harg7 arg8 harg8 arg9 harg9 arg10 harg10 x0 x1 x2)) (ix3 14 0 x) = sumMid x0 x1 14 x := by
  delta kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 14 x

theorem last_acc_14 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 14 d x) = accTot x0 x1 x2 x3 14 d x := by
  delta kernelRun0_A.sl.HS2_16_1 kernelRun0_A.sl.HS2_15
  dsimp only
  refine (read_slab_miss _ _ _ _ _ _ _ _ _ (by decide)).trans ?_
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 14 _ _ _ _ rfl rfl rfl rfl rfl d x).trans ?_
  rw [harg3.read_unread, harg4.read_unread, harg5.read_unread, qt_arr]
  refine congrArg (· + _) ?_
  exact (load_slab arg9.view _ 14 (by decide) _ d x).trans (before_acc_14 c i arg2 harg2 arg3 harg3 arg4 harg4 arg5 harg5 arg6 harg6 arg7 harg7 arg8 harg8 arg9 harg9 arg10 harg10 x0 x1 x2 x3 d x)

theorem last_sum_14 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 14 0 x) = sumTot x0 x1 14 x := by
  delta kernelRun0_A.sl.HS3_16_1 kernelRun0_A.sl.HS3_15
  dsimp only
  refine (read_slab_miss _ _ _ _ _ _ _ _ _ (by decide)).trans ?_
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 14 _ _ rfl rfl rfl x).trans ?_
  rw [harg3.read_unread, qt_arr]
  refine congrArg (· + _) ?_
  exact (load_slab arg10.view _ 14 (by decide) _ 0 x).trans (before_sum_14 c i arg2 harg2 arg3 harg3 arg4 harg4 arg5 harg5 arg6 harg6 arg7 harg7 arg8 harg8 arg9 harg9 arg10 harg10 x0 x1 x2 x)

theorem before_acc_15 (d : Fin 64) (x : Fin 512) :
    arg9.view.read (Elt Ideal) (arg9.view.writes (Elt Ideal) arg9.view.junk (kernelRun0_A.sl.HS2_15 c i arg2 harg2 arg3 harg3 arg4 harg4 arg5 harg5 arg6 harg6 arg7 harg7 arg8 harg8 arg9 harg9 arg10 harg10 x0 x1 x2 x3)) (ix3 15 d x) = accMid x0 x1 x2 15 d x := by
  delta kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_acc c i arg2 harg2 arg3 harg3 arg4 harg4 arg5 harg5 arg6 harg6 arg7 harg7 arg8 harg8 arg9 harg9 arg10 harg10 x0 x1 x2 _ trips_eq _ _ _ _ 15 d x

theorem before_sum_15 (x : Fin 512) :
    arg10.view.read (Elt Ideal) (arg10.view.writes (Elt Ideal) arg10.view.junk (kernelRun0_A.sl.HS3_15 c i arg2 harg2 arg3 harg3 arg4 harg4 arg5 harg5 arg6 harg6 arg7 harg7 arg8 harg8 arg9 harg9 arg10 harg10 x0 x1 x2)) (ix3 15 0 x) = sumMid x0 x1 15 x := by
  delta kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  dsimp only
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  refine (read_slab_miss _ _ _ _ _ _ _ _ _ (by decide)).trans ?_
  exact mid_sum c i arg2 harg2 arg3 harg3 arg4 harg4 arg5 harg5 arg6 harg6 arg7 harg7 arg8 harg8 arg9 harg9 arg10 harg10 x0 x1 x2 _ trips_eq _ _ _ _ 15 x

theorem last_acc_15 (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 15 d x) = accTot x0 x1 x2 x3 15 d x := by
  delta kernelRun0_A.sl.HS2_16_1
  dsimp only
  refine (read_slab_hit _ _ _ _ _ _ _ _ _ (by decide)).trans ?_
  refine (accLast_loads arg3.view arg4.view arg5.view arg7.view (harg3.unread x1) (harg4.unread x2) (harg5.unread x3) (arg7.view.writes (Elt Ideal) arg7.view.junk (kernelRun0_A.sl.HS0_16 c arg2 harg2 x0))
    _ _ _ _ _ _ 15 _ _ _ _ rfl rfl rfl rfl rfl d x).trans ?_
  rw [harg3.read_unread, harg4.read_unread, harg5.read_unread, qt_arr]
  refine congrArg (· + _) ?_
  exact (load_slab arg9.view _ 15 (by decide) _ d x).trans (before_acc_15 c i arg2 harg2 arg3 harg3 arg4 harg4 arg5 harg5 arg6 harg6 arg7 harg7 arg8 harg8 arg9 harg9 arg10 harg10 x0 x1 x2 x3 d x)

theorem last_sum_15 (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 15 0 x) = sumTot x0 x1 15 x := by
  delta kernelRun0_A.sl.HS3_16_1
  dsimp only
  refine (read_slab_hit _ _ _ _ _ _ _ _ _ (by decide)).trans ?_
  refine (sumLast_loads arg3.view arg7.view (harg3.unread x1) (arg7.view.writes (Elt Ideal) arg7.view.junk (kernelRun0_A.sl.HS0_16 c arg2 harg2 x0))
    _ _ _ _ 15 _ _ rfl rfl rfl x).trans ?_
  rw [harg3.read_unread, qt_arr]
  refine congrArg (· + _) ?_
  exact (load_slab arg10.view _ 15 (by decide) _ 0 x).trans (before_sum_15 c i arg2 harg2 arg3 harg3 arg4 harg4 arg5 harg5 arg6 harg6 arg7 harg7 arg8 harg8 arg9 harg9 arg10 harg10 x0 x1 x2 x)

/-- Every head's sum of weighted values when the body normalises, -/
theorem last_acc (hd : Fin 16) (d : Fin 64) (x : Fin 512) :
    arg9.view.read (Elt Ideal) (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (ix3 hd d x) = accTot x0 x1 x2 x3 hd d x := by
  match hd with
  | ⟨0, _⟩ => exact last_acc_0 c i arg2 harg2 arg3 harg3 arg4 harg4 arg5 harg5 arg6 harg6 arg7 harg7 arg8 harg8 arg9 harg9 arg10 harg10 x0 x1 x2 x3 d x
  | ⟨1, _⟩ => exact last_acc_1 c i arg2 harg2 arg3 harg3 arg4 harg4 arg5 harg5 arg6 harg6 arg7 harg7 arg8 harg8 arg9 harg9 arg10 harg10 x0 x1 x2 x3 d x
  | ⟨2, _⟩ => exact last_acc_2 c i arg2 harg2 arg3 harg3 arg4 harg4 arg5 harg5 arg6 harg6 arg7 harg7 arg8 harg8 arg9 harg9 arg10 harg10 x0 x1 x2 x3 d x
  | ⟨3, _⟩ => exact last_acc_3 c i arg2 harg2 arg3 harg3 arg4 harg4 arg5 harg5 arg6 harg6 arg7 harg7 arg8 harg8 arg9 harg9 arg10 harg10 x0 x1 x2 x3 d x
  | ⟨4, _⟩ => exact last_acc_4 c i arg2 harg2 arg3 harg3 arg4 harg4 arg5 harg5 arg6 harg6 arg7 harg7 arg8 harg8 arg9 harg9 arg10 harg10 x0 x1 x2 x3 d x
  | ⟨5, _⟩ => exact last_acc_5 c i arg2 harg2 arg3 harg3 arg4 harg4 arg5 harg5 arg6 harg6 arg7 harg7 arg8 harg8 arg9 harg9 arg10 harg10 x0 x1 x2 x3 d x
  | ⟨6, _⟩ => exact last_acc_6 c i arg2 harg2 arg3 harg3 arg4 harg4 arg5 harg5 arg6 harg6 arg7 harg7 arg8 harg8 arg9 harg9 arg10 harg10 x0 x1 x2 x3 d x
  | ⟨7, _⟩ => exact last_acc_7 c i arg2 harg2 arg3 harg3 arg4 harg4 arg5 harg5 arg6 harg6 arg7 harg7 arg8 harg8 arg9 harg9 arg10 harg10 x0 x1 x2 x3 d x
  | ⟨8, _⟩ => exact last_acc_8 c i arg2 harg2 arg3 harg3 arg4 harg4 arg5 harg5 arg6 harg6 arg7 harg7 arg8 harg8 arg9 harg9 arg10 harg10 x0 x1 x2 x3 d x
  | ⟨9, _⟩ => exact last_acc_9 c i arg2 harg2 arg3 harg3 arg4 harg4 arg5 harg5 arg6 harg6 arg7 harg7 arg8 harg8 arg9 harg9 arg10 harg10 x0 x1 x2 x3 d x
  | ⟨10, _⟩ => exact last_acc_10 c i arg2 harg2 arg3 harg3 arg4 harg4 arg5 harg5 arg6 harg6 arg7 harg7 arg8 harg8 arg9 harg9 arg10 harg10 x0 x1 x2 x3 d x
  | ⟨11, _⟩ => exact last_acc_11 c i arg2 harg2 arg3 harg3 arg4 harg4 arg5 harg5 arg6 harg6 arg7 harg7 arg8 harg8 arg9 harg9 arg10 harg10 x0 x1 x2 x3 d x
  | ⟨12, _⟩ => exact last_acc_12 c i arg2 harg2 arg3 harg3 arg4 harg4 arg5 harg5 arg6 harg6 arg7 harg7 arg8 harg8 arg9 harg9 arg10 harg10 x0 x1 x2 x3 d x
  | ⟨13, _⟩ => exact last_acc_13 c i arg2 harg2 arg3 harg3 arg4 harg4 arg5 harg5 arg6 harg6 arg7 harg7 arg8 harg8 arg9 harg9 arg10 harg10 x0 x1 x2 x3 d x
  | ⟨14, _⟩ => exact last_acc_14 c i arg2 harg2 arg3 harg3 arg4 harg4 arg5 harg5 arg6 harg6 arg7 harg7 arg8 harg8 arg9 harg9 arg10 harg10 x0 x1 x2 x3 d x
  | ⟨15, _⟩ => exact last_acc_15 c i arg2 harg2 arg3 harg3 arg4 harg4 arg5 harg5 arg6 harg6 arg7 harg7 arg8 harg8 arg9 harg9 arg10 harg10 x0 x1 x2 x3 d x
  | ⟨n + 16, h⟩ => exact absurd h (by omega)

/-- and its total weight. -/
theorem last_sum (hd : Fin 16) (x : Fin 512) :
    arg10.view.read (Elt Ideal) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) (ix3 hd 0 x) = sumTot x0 x1 hd x := by
  match hd with
  | ⟨0, _⟩ => exact last_sum_0 c i arg2 harg2 arg3 harg3 arg4 harg4 arg5 harg5 arg6 harg6 arg7 harg7 arg8 harg8 arg9 harg9 arg10 harg10 x0 x1 x2 x
  | ⟨1, _⟩ => exact last_sum_1 c i arg2 harg2 arg3 harg3 arg4 harg4 arg5 harg5 arg6 harg6 arg7 harg7 arg8 harg8 arg9 harg9 arg10 harg10 x0 x1 x2 x
  | ⟨2, _⟩ => exact last_sum_2 c i arg2 harg2 arg3 harg3 arg4 harg4 arg5 harg5 arg6 harg6 arg7 harg7 arg8 harg8 arg9 harg9 arg10 harg10 x0 x1 x2 x
  | ⟨3, _⟩ => exact last_sum_3 c i arg2 harg2 arg3 harg3 arg4 harg4 arg5 harg5 arg6 harg6 arg7 harg7 arg8 harg8 arg9 harg9 arg10 harg10 x0 x1 x2 x
  | ⟨4, _⟩ => exact last_sum_4 c i arg2 harg2 arg3 harg3 arg4 harg4 arg5 harg5 arg6 harg6 arg7 harg7 arg8 harg8 arg9 harg9 arg10 harg10 x0 x1 x2 x
  | ⟨5, _⟩ => exact last_sum_5 c i arg2 harg2 arg3 harg3 arg4 harg4 arg5 harg5 arg6 harg6 arg7 harg7 arg8 harg8 arg9 harg9 arg10 harg10 x0 x1 x2 x
  | ⟨6, _⟩ => exact last_sum_6 c i arg2 harg2 arg3 harg3 arg4 harg4 arg5 harg5 arg6 harg6 arg7 harg7 arg8 harg8 arg9 harg9 arg10 harg10 x0 x1 x2 x
  | ⟨7, _⟩ => exact last_sum_7 c i arg2 harg2 arg3 harg3 arg4 harg4 arg5 harg5 arg6 harg6 arg7 harg7 arg8 harg8 arg9 harg9 arg10 harg10 x0 x1 x2 x
  | ⟨8, _⟩ => exact last_sum_8 c i arg2 harg2 arg3 harg3 arg4 harg4 arg5 harg5 arg6 harg6 arg7 harg7 arg8 harg8 arg9 harg9 arg10 harg10 x0 x1 x2 x
  | ⟨9, _⟩ => exact last_sum_9 c i arg2 harg2 arg3 harg3 arg4 harg4 arg5 harg5 arg6 harg6 arg7 harg7 arg8 harg8 arg9 harg9 arg10 harg10 x0 x1 x2 x
  | ⟨10, _⟩ => exact last_sum_10 c i arg2 harg2 arg3 harg3 arg4 harg4 arg5 harg5 arg6 harg6 arg7 harg7 arg8 harg8 arg9 harg9 arg10 harg10 x0 x1 x2 x
  | ⟨11, _⟩ => exact last_sum_11 c i arg2 harg2 arg3 harg3 arg4 harg4 arg5 harg5 arg6 harg6 arg7 harg7 arg8 harg8 arg9 harg9 arg10 harg10 x0 x1 x2 x
  | ⟨12, _⟩ => exact last_sum_12 c i arg2 harg2 arg3 harg3 arg4 harg4 arg5 harg5 arg6 harg6 arg7 harg7 arg8 harg8 arg9 harg9 arg10 harg10 x0 x1 x2 x
  | ⟨13, _⟩ => exact last_sum_13 c i arg2 harg2 arg3 harg3 arg4 harg4 arg5 harg5 arg6 harg6 arg7 harg7 arg8 harg8 arg9 harg9 arg10 harg10 x0 x1 x2 x
  | ⟨14, _⟩ => exact last_sum_14 c i arg2 harg2 arg3 harg3 arg4 harg4 arg5 harg5 arg6 harg6 arg7 harg7 arg8 harg8 arg9 harg9 arg10 harg10 x0 x1 x2 x
  | ⟨15, _⟩ => exact last_sum_15 c i arg2 harg2 arg3 harg3 arg4 harg4 arg5 harg5 arg6 harg6 arg7 harg7 arg8 harg8 arg9 harg9 arg10 harg10 x0 x1 x2 x
  | ⟨n + 16, h⟩ => exact absurd h (by omega)

/-- A stored pair of heads at an index, from the loads of their accumulators and totals. -/
theorem out_loads (w : FVec Ideal S512x128 .bf16) (h₀ h₁ : ℕ) (b₀ : h₀ < 16) (b₁ : h₁ < 16) (i₀) (i₁) (j₀) (j₁)
    (f9 : arg9.view.ty.Contents (Elt Ideal)) (f10 : arg10.view.ty.Contents (Elt Ideal))
    (hw : w = outPair
      (norm (arg9.view.readAt (Elt Ideal) (Rect.unit (s := S16x64x512) ![h₀, 0, 0] ![1, 64, 512] i₀).toLoadRect f9)
        (arg10.view.readAt (Elt Ideal) (Rect.unit (s := S16x1x512) ![h₀, 0, 0] ![1, 1, 512] j₀).toLoadRect f10))
      (norm (arg9.view.readAt (Elt Ideal) (Rect.unit (s := S16x64x512) ![h₁, 0, 0] ![1, 64, 512] i₁).toLoadRect f9)
        (arg10.view.readAt (Elt Ideal) (Rect.unit (s := S16x1x512) ![h₁, 0, 0] ![1, 1, 512] j₁).toLoadRect f10)))
    (x : Fin 512) (l : Fin 128) :
    w (ix2 x l) = if h : l.val < 64 then
        Ideal.div (arg9.view.read (Elt Ideal) f9 (ix3 ⟨h₀, b₀⟩ ⟨l.val, h⟩ x)) (arg10.view.read (Elt Ideal) f10 (ix3 ⟨h₀, b₀⟩ 0 x))
      else
        Ideal.div (arg9.view.read (Elt Ideal) f9 (ix3 ⟨h₁, b₁⟩ ⟨l.val - 64, by omega⟩ x)) (arg10.view.read (Elt Ideal) f10 (ix3 ⟨h₁, b₁⟩ 0 x)) := by
  rw [hw, outPair_apply]
  by_cases h : l.val < 64
  · rw [dif_pos h, dif_pos h, norm_apply]
    exact congrArg₂ Ideal.div (load_slab arg9.view f9 h₀ b₀ i₀ _ x) (load_slab arg10.view f10 h₀ b₀ j₀ 0 x)
  · rw [dif_neg h, dif_neg h, norm_apply]
    exact congrArg₂ Ideal.div (load_slab arg9.view f9 h₁ b₁ i₁ _ x) (load_slab arg10.view f10 h₁ b₁ j₁ 0 x)

/-- The head an output lane belongs to. -/
def headOf (y : Fin 1024) : Fin 16 := ⟨y.val / 64, by omega⟩
/-- Its coordinate in the head. -/
def coordOf (y : Fin 1024) : Fin 64 := ⟨y.val % 64, by omega⟩

theorem out_0 (x : Fin 512) (y : Fin 1024) (hy : 0 ≤ y.val ∧ y.val < 128) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_hit _ _ _ _ _ _ x ⟨y.val - 0, by omega⟩ y (by show y.val = 0 + (y.val - 0); omega)).trans ?_
  refine (out_loads arg9 arg10 _ 0 1 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 0, by omega⟩).trans ?_
  by_cases h : y.val - 0 < 64
  · rw [dif_pos h, last_acc, last_sum]
    rw [show headOf y = ⟨0, by decide⟩ from Fin.ext (by show y.val / 64 = 0; omega),
      show coordOf y = ⟨y.val - 0, h⟩ from Fin.ext (by show y.val % 64 = y.val - 0; omega)]
  · rw [dif_neg h, last_acc, last_sum]
    rw [show headOf y = ⟨1, by decide⟩ from Fin.ext (by show y.val / 64 = 1; omega),
      show coordOf y = ⟨y.val - 0 - 64, by omega⟩ from Fin.ext (by show y.val % 64 = y.val - 0 - 64; omega)]

theorem out_1 (x : Fin 512) (y : Fin 1024) (hy : 128 ≤ y.val ∧ y.val < 256) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_hit _ _ _ _ _ _ x ⟨y.val - 128, by omega⟩ y (by show y.val = 128 + (y.val - 128); omega)).trans ?_
  refine (out_loads arg9 arg10 _ 2 3 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 128, by omega⟩).trans ?_
  by_cases h : y.val - 128 < 64
  · rw [dif_pos h, last_acc, last_sum]
    rw [show headOf y = ⟨2, by decide⟩ from Fin.ext (by show y.val / 64 = 2; omega),
      show coordOf y = ⟨y.val - 128, h⟩ from Fin.ext (by show y.val % 64 = y.val - 128; omega)]
  · rw [dif_neg h, last_acc, last_sum]
    rw [show headOf y = ⟨3, by decide⟩ from Fin.ext (by show y.val / 64 = 3; omega),
      show coordOf y = ⟨y.val - 128 - 64, by omega⟩ from Fin.ext (by show y.val % 64 = y.val - 128 - 64; omega)]

theorem out_2 (x : Fin 512) (y : Fin 1024) (hy : 256 ≤ y.val ∧ y.val < 384) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_hit _ _ _ _ _ _ x ⟨y.val - 256, by omega⟩ y (by show y.val = 256 + (y.val - 256); omega)).trans ?_
  refine (out_loads arg9 arg10 _ 4 5 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 256, by omega⟩).trans ?_
  by_cases h : y.val - 256 < 64
  · rw [dif_pos h, last_acc, last_sum]
    rw [show headOf y = ⟨4, by decide⟩ from Fin.ext (by show y.val / 64 = 4; omega),
      show coordOf y = ⟨y.val - 256, h⟩ from Fin.ext (by show y.val % 64 = y.val - 256; omega)]
  · rw [dif_neg h, last_acc, last_sum]
    rw [show headOf y = ⟨5, by decide⟩ from Fin.ext (by show y.val / 64 = 5; omega),
      show coordOf y = ⟨y.val - 256 - 64, by omega⟩ from Fin.ext (by show y.val % 64 = y.val - 256 - 64; omega)]

theorem out_3 (x : Fin 512) (y : Fin 1024) (hy : 384 ≤ y.val ∧ y.val < 512) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_hit _ _ _ _ _ _ x ⟨y.val - 384, by omega⟩ y (by show y.val = 384 + (y.val - 384); omega)).trans ?_
  refine (out_loads arg9 arg10 _ 6 7 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 384, by omega⟩).trans ?_
  by_cases h : y.val - 384 < 64
  · rw [dif_pos h, last_acc, last_sum]
    rw [show headOf y = ⟨6, by decide⟩ from Fin.ext (by show y.val / 64 = 6; omega),
      show coordOf y = ⟨y.val - 384, h⟩ from Fin.ext (by show y.val % 64 = y.val - 384; omega)]
  · rw [dif_neg h, last_acc, last_sum]
    rw [show headOf y = ⟨7, by decide⟩ from Fin.ext (by show y.val / 64 = 7; omega),
      show coordOf y = ⟨y.val - 384 - 64, by omega⟩ from Fin.ext (by show y.val % 64 = y.val - 384 - 64; omega)]

theorem out_4 (x : Fin 512) (y : Fin 1024) (hy : 512 ≤ y.val ∧ y.val < 640) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_miss _ _ _ _ _ _ _ _ (by omega)).trans ?_
  refine (read_cols_hit _ _ _ _ _ _ x ⟨y.val - 512, by omega⟩ y (by show y.val = 512 + (y.val - 512); omega)).trans ?_
  refine (out_loads arg9 arg10 _ 8 9 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 512, by omega⟩).trans ?_
  by_cases h : y.val - 512 < 64
  · rw [dif_pos h, last_acc, last_sum]
    rw [show headOf y = ⟨8, by decide⟩ from Fin.ext (by show y.val / 64 = 8; omega),
      show coordOf y = ⟨y.val - 512, h⟩ from Fin.ext (by show y.val % 64 = y.val - 512; omega)]
  · rw [dif_neg h, last_acc, last_sum]
    rw [show headOf y = ⟨9, by decide⟩ from Fin.ext (by show y.val / 64 = 9; omega),
      show coordOf y = ⟨y.val - 512 - 64, by omega⟩ from Fin.ext (by show y.val % 64 = y.val - 512 - 64; omega)]

theorem out_5 (x : Fin 512) (y : Fin 1024) (hy : 640 ≤ y.val ∧ y.val < 768) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_miss _ _ _ _ _ _ _ _ (by omega)).trans ?_
  refine (read_cols_hit _ _ _ _ _ _ x ⟨y.val - 640, by omega⟩ y (by show y.val = 640 + (y.val - 640); omega)).trans ?_
  refine (out_loads arg9 arg10 _ 10 11 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 640, by omega⟩).trans ?_
  by_cases h : y.val - 640 < 64
  · rw [dif_pos h, last_acc, last_sum]
    rw [show headOf y = ⟨10, by decide⟩ from Fin.ext (by show y.val / 64 = 10; omega),
      show coordOf y = ⟨y.val - 640, h⟩ from Fin.ext (by show y.val % 64 = y.val - 640; omega)]
  · rw [dif_neg h, last_acc, last_sum]
    rw [show headOf y = ⟨11, by decide⟩ from Fin.ext (by show y.val / 64 = 11; omega),
      show coordOf y = ⟨y.val - 640 - 64, by omega⟩ from Fin.ext (by show y.val % 64 = y.val - 640 - 64; omega)]

theorem out_6 (x : Fin 512) (y : Fin 1024) (hy : 768 ≤ y.val ∧ y.val < 896) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_miss _ _ _ _ _ _ _ _ (by omega)).trans ?_
  refine (read_cols_hit _ _ _ _ _ _ x ⟨y.val - 768, by omega⟩ y (by show y.val = 768 + (y.val - 768); omega)).trans ?_
  refine (out_loads arg9 arg10 _ 12 13 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 768, by omega⟩).trans ?_
  by_cases h : y.val - 768 < 64
  · rw [dif_pos h, last_acc, last_sum]
    rw [show headOf y = ⟨12, by decide⟩ from Fin.ext (by show y.val / 64 = 12; omega),
      show coordOf y = ⟨y.val - 768, h⟩ from Fin.ext (by show y.val % 64 = y.val - 768; omega)]
  · rw [dif_neg h, last_acc, last_sum]
    rw [show headOf y = ⟨13, by decide⟩ from Fin.ext (by show y.val / 64 = 13; omega),
      show coordOf y = ⟨y.val - 768 - 64, by omega⟩ from Fin.ext (by show y.val % 64 = y.val - 768 - 64; omega)]

theorem out_7 (x : Fin 512) (y : Fin 1024) (hy : 896 ≤ y.val ∧ y.val < 1024) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  delta kernelRun0_A
  dsimp only
  refine (read_cols_hit _ _ _ _ _ _ x ⟨y.val - 896, by omega⟩ y (by show y.val = 896 + (y.val - 896); omega)).trans ?_
  refine (out_loads arg9 arg10 _ 14 15 (by decide) (by decide) _ _ _ _
    (arg9.view.writes (Elt Ideal) arg9.view.junk (kernelRun0_A.sl.HS2_16_1 c i arg2 harg2 arg3 harg3 arg4 harg4 arg5 harg5 arg6 harg6 arg7 harg7 arg8 harg8 arg9 harg9 arg10 harg10 x0 x1 x2 x3)) (arg10.view.writes (Elt Ideal) arg10.view.junk (kernelRun0_A.sl.HS3_16_1 c i arg2 harg2 arg3 harg3 arg4 harg4 arg5 harg5 arg6 harg6 arg7 harg7 arg8 harg8 arg9 harg9 arg10 harg10 x0 x1 x2)) rfl x
    ⟨y.val - 896, by omega⟩).trans ?_
  by_cases h : y.val - 896 < 64
  · rw [dif_pos h, last_acc, last_sum]
    rw [show headOf y = ⟨14, by decide⟩ from Fin.ext (by show y.val / 64 = 14; omega),
      show coordOf y = ⟨y.val - 896, h⟩ from Fin.ext (by show y.val % 64 = y.val - 896; omega)]
  · rw [dif_neg h, last_acc, last_sum]
    rw [show headOf y = ⟨15, by decide⟩ from Fin.ext (by show y.val / 64 = 15; omega),
      show coordOf y = ⟨y.val - 896 - 64, by omega⟩ from Fin.ext (by show y.val % 64 = y.val - 896 - 64; omega)]

/-- The block the body stores: each lane its head's sum of weighted values over its total weight. -/
theorem out_read (x : Fin 512) (y : Fin 1024) :
    VO0_4.read (Elt Ideal) (VO0_4.writes (Elt Ideal) VO0_4.junk (kernelRun0_A (F := Ideal) c i arg2 harg2 arg3 harg3 arg4 harg4 arg5 harg5 arg6 harg6 arg7 harg7 arg8 harg8 arg9 harg9 arg10 harg10 x0 x1 x2 x3).1) (ix2 x y) =
      Ideal.div (accTot x0 x1 x2 x3 (headOf y) (coordOf y) x) (sumTot x0 x1 (headOf y) x) := by
  have hy := y.isLt
  by_cases h0 : y.val < 128
  · exact out_0 c i arg2 harg2 arg3 harg3 arg4 harg4 arg5 harg5 arg6 harg6 arg7 harg7 arg8 harg8 arg9 harg9 arg10 harg10 x0 x1 x2 x3 x y ⟨by omega, by omega⟩
  by_cases h1 : y.val < 256
  · exact out_1 c i arg2 harg2 arg3 harg3 arg4 harg4 arg5 harg5 arg6 harg6 arg7 harg7 arg8 harg8 arg9 harg9 arg10 harg10 x0 x1 x2 x3 x y ⟨by omega, by omega⟩
  by_cases h2 : y.val < 384
  · exact out_2 c i arg2 harg2 arg3 harg3 arg4 harg4 arg5 harg5 arg6 harg6 arg7 harg7 arg8 harg8 arg9 harg9 arg10 harg10 x0 x1 x2 x3 x y ⟨by omega, by omega⟩
  by_cases h3 : y.val < 512
  · exact out_3 c i arg2 harg2 arg3 harg3 arg4 harg4 arg5 harg5 arg6 harg6 arg7 harg7 arg8 harg8 arg9 harg9 arg10 harg10 x0 x1 x2 x3 x y ⟨by omega, by omega⟩
  by_cases h4 : y.val < 640
  · exact out_4 c i arg2 harg2 arg3 harg3 arg4 harg4 arg5 harg5 arg6 harg6 arg7 harg7 arg8 harg8 arg9 harg9 arg10 harg10 x0 x1 x2 x3 x y ⟨by omega, by omega⟩
  by_cases h5 : y.val < 768
  · exact out_5 c i arg2 harg2 arg3 harg3 arg4 harg4 arg5 harg5 arg6 harg6 arg7 harg7 arg8 harg8 arg9 harg9 arg10 harg10 x0 x1 x2 x3 x y ⟨by omega, by omega⟩
  by_cases h6 : y.val < 896
  · exact out_6 c i arg2 harg2 arg3 harg3 arg4 harg4 arg5 harg5 arg6 harg6 arg7 harg7 arg8 harg8 arg9 harg9 arg10 harg10 x0 x1 x2 x3 x y ⟨by omega, by omega⟩
  exact out_7 c i arg2 harg2 arg3 harg3 arg4 harg4 arg5 harg5 arg6 harg6 arg7 harg7 arg8 harg8 arg9 harg9 arg10 harg10 x0 x1 x2 x3 x y ⟨by omega, by omega⟩

end Run

end Cert.Attn

end
-- ==== Proof.Attn.Array.lean ====
/- From the body's block to the result array: entry (row, lane) of the array after the run, over the four arrays the
   host code prepares. -/
module

public import proofs.«01_k».proof.Proof.Attn.Last
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![t.val / 8, 0, 0] := (by decide +kernel : ∀ t : Fin grid0.N, win0_1.index t = ![t.val / 8, 0, 0])
theorem index_2 : ∀ t : Fin cfg0.N, win0_2.index t = ![t.val / 8, 0, 0] := (by decide +kernel : ∀ t : Fin grid0.N, win0_2.index t = ![t.val / 8, 0, 0])
theorem index_3 : ∀ t : Fin cfg0.N, win0_3.index t = ![t.val / 8, 0, 0] := (by decide +kernel : ∀ t : Fin grid0.N, win0_3.index t = ![t.val / 8, 0, 0])
theorem index_4 : ∀ t : Fin cfg0.N, win0_4.index t = ![t.val, 0] := (by decide +kernel : ∀ t : Fin grid0.N, win0_4.index t = ![t.val, 0])

/-- The block of queries that row `r` of the result belongs to. -/
def qBlock (Q : Vec Ideal S65536x1024 .bf16) (r : Fin 65536) : Vec Ideal S512x1024 .bf16 :=
  fun j => Q (ix2 ⟨512 * (r.val / 512) + (j 0).val, by have := r.isLt; have : (j 0).val < 512 := (j 0).isLt; omega⟩ (j 1))

/-- The keys of the batch entry that row `r` belongs to. -/
def kBlock (K : Vec Ideal S16x4112x256 .bf16) (r : Fin 65536) : Vec Ideal S1x4112x256 .bf16 :=
  fun j => K (ix3 ⟨r.val / 4096, by have := r.isLt; omega⟩ (j 1) (j 2))

/-- The transposed values of that batch entry, chunk by chunk. -/
def vBlock (V : Vec Ideal S128x256x512 .bf16) (r : Fin 65536) : Vec Ideal S8x256x512 .bf16 :=
  fun j => V (ix3 ⟨8 * (r.val / 4096) + (j 0).val, by have := r.isLt; have : (j 0).val < 8 := (j 0).isLt; omega⟩ (j 1) (j 2))

/-- The transposed values of that batch entry's meta tokens. -/
def mBlock (M : Vec Ideal S16x256x16 .bf16) (r : Fin 65536) : Vec Ideal S1x256x16 .bf16 :=
  fun j => M (ix3 ⟨r.val / 4096, by have := r.isLt; omega⟩ (j 1) (j 2))

/-- Row `r` within its block of queries. -/
def inBlock (r : Fin 65536) : Fin 512 := ⟨r.val % 512, Nat.mod_lt _ (by decide)⟩

/-- The result array, entry by entry. -/
def result (Q : Vec Ideal S65536x1024 .bf16) (K : Vec Ideal S16x4112x256 .bf16) (V : Vec Ideal S128x256x512 .bf16)
    (M : Vec Ideal S16x256x16 .bf16) : Vec Ideal S65536x1024 .bf16 := fun i =>
  Ideal.div
    (accTot (qBlock Q (i 0)) (kBlock K (i 0)) (vBlock V (i 0)) (mBlock M (i 0)) (headOf (i 1)) (coordOf (i 1)) (inBlock (i 0)))
    (sumTot (qBlock Q (i 0)) (kBlock K (i 0)) (headOf (i 1)) (inBlock (i 0)))

variable (c : Dev nD)

theorem iblk_0 (t : Fin cfg0.N) (r : Fin 65536) (h : r.val / 512 = t.val) :
    (iblk m c 0 t : Vec Ideal S512x1024 .bf16) = qBlock (V m c main_v12) r := by
  funext j
  show _ = V m c main_v12 _
  blk_simp [iblk]
  refine congrArg _ ?_
  blk_ext [index_0 t]

theorem iblk_1 (t : Fin cfg0.N) (r : Fin 65536) (h : r.val / 512 = t.val) :
    (iblk m c 1 t : Vec Ideal S1x4112x256 .bf16) = kBlock (V m c main_v18) r := by
  funext j
  show _ = V m c main_v18 _
  blk_simp [iblk]
  refine congrArg _ ?_
  blk_ext [index_1 t]

theorem iblk_2 (t : Fin cfg0.N) (r : Fin 65536) (h : r.val / 512 = t.val) :
    (iblk m c 2 t : Vec Ideal S8x256x512 .bf16) = vBlock (V m c main_v22) r := by
  funext j
  show _ = V m c main_v22 _
  blk_simp [iblk]
  refine congrArg _ ?_
  blk_ext [index_2 t]

theorem iblk_3 (t : Fin cfg0.N) (r : Fin 65536) (h : r.val / 512 = t.val) :
    (iblk m c 3 t : Vec Ideal S1x256x16 .bf16) = mBlock (V m c main_v26) r := by
  funext j
  show _ = V m c main_v26 _
  blk_simp [iblk]
  refine congrArg _ ?_
  blk_ext [index_3 t]

/-- Entry by entry, the block a grid point stores. -/
theorem block (t : Fin cfg0.N) (x : Fin 512) (y : Fin 1024) :
    outsAt0 m c t (ix2 x y) =
      Ideal.div (accTot (iblk m c 0 t) (iblk m c 1 t) (iblk m c 2 t) (iblk m c 3 t) (headOf y) (coordOf y) x)
        (sumTot (iblk m c 0 t) (iblk m c 1 t) (headOf y) x) := by
  unfold outsAt0 out0_A_4
  exact out_read c _ _ _ _ _ _ _ _ _ _ _ _ _ _ _ _ _ _ _ _ _ _ _ x y

/-- Where the result array has what a grid point stores at `(x, y)`. -/
def place (t : Fin cfg0.N) (x : Fin 512) (y : Fin 1024) : S65536x1024.Idx :=
  ix2 ⟨512 * t.val + x.val, by have := t.isLt; have : cfg0.N = 128 := N_0; omega⟩ y

theorem result_place (t : Fin cfg0.N) (x : Fin 512) (y : Fin 1024) :
    result (V m c main_v12) (V m c main_v18) (V m c main_v22) (V m c main_v26) (place t x y) = outsAt0 m c t (ix2 x y) := by
  have hx := x.isLt
  have h : (place t x y 0).val / 512 = t.val := by show (512 * t.val + x.val) / 512 = t.val; omega
  have hi : inBlock (place t x y 0) = x := Fin.ext (by show (512 * t.val + x.val) % 512 = x.val; omega)
  rw [block, iblk_0 m c t _ h, iblk_1 m c t _ h, iblk_2 m c t _ h, iblk_3 m c t _ h]
  unfold result
  rw [hi]
  rfl

/-- The kernel's result array after the run. -/
theorem final : (dats m 0 c).arrAt 4 cfg0.N = result (V m c main_v12) (V m c main_v18) (V m c main_v22) (V m c main_v26) := by
  refine (dats m 0 c).arrAt_eq_of_covers 4 _ (by decide +kernel) fun t hf y => ?_
  blk_simp
  rw [after0_4]
  refine (congrArg _ (ValueIdx.eq_ix2 y)).trans ?_
  refine (result_place m c t (y 0) (y 1)).symm.trans ?_
  refine congrArg _ ?_
  unfold place
  blk_ext [index_4 t]

end Cert.Attn

end
-- ==== Proof.Attn.Host.lean ====
/- The four arrays the host code prepares, entry by entry over the program's arguments. -/
module

public import proofs.«01_k».proof.Proof.Attn.Array
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The program's arguments: queries, keys, values. -/
abbrev argQ : Vec Ideal S16x4096x16x64 .f32 := m (c.tc.loc main_arg0)
abbrev argK : Vec Ideal S16x4112x4x64 .f32 := m (c.tc.loc main_arg1)
abbrev argV : Vec Ideal S16x4112x4x64 .f32 := m (c.tc.loc main_arg2)

/-- Keys: the sequence's own positions come first, the sixteen meta tokens last. -/
theorem host_keys (b : Fin 16) (s : Fin 4112) (y : Fin 256) :
    (V m c main_v18 : Vec Ideal S16x4112x256 .bf16) (ix3 b s y) =
      argK m c (ix4 b ⟨if s.val < 4096 then 16 + s.val else s.val - 4096, by have := s.isLt; split <;> omega⟩
        ⟨y.val / 64, by have := y.isLt; omega⟩ ⟨y.val % 64, Nat.mod_lt _ (by decide)⟩) := by
  entry_read
  pointwise
  by_cases h : s.val < 4096
  · simp only [h, dif_pos, if_true]
  · simp only [h, dif_neg, not_false_eq_true, if_false]

/-- Values: eight chunks of 512 positions per batch entry, each transposed. -/
theorem host_values (b : Fin 128) (s : Fin 256) (y : Fin 512) :
    (V m c main_v22 : Vec Ideal S128x256x512 .bf16) (ix3 b s y) =
      argV m c (ix4 ⟨b.val / 8, by have := b.isLt; omega⟩ ⟨16 + (b.val % 8 * 512 + y.val), by have := y.isLt; omega⟩
        ⟨s.val / 64, by have := s.isLt; omega⟩ ⟨s.val % 64, Nat.mod_lt _ (by decide)⟩) := by
  entry_read
  pointwise

/-- The meta tokens' values, transposed. -/
theorem host_meta (b : Fin 16) (s : Fin 256) (y : Fin 16) :
    (V m c main_v26 : Vec Ideal S16x256x16 .bf16) (ix3 b s y) =
      argV m c (ix4 b ⟨y.val, by have := y.isLt; omega⟩
        ⟨s.val / 64, by have := s.isLt; omega⟩ ⟨s.val % 64, Nat.mod_lt _ (by decide)⟩) := by
  entry_read
  pointwise

/-- The head the kernel keeps in slot `h`: the slots of one pair of lanes belong to two key heads. -/
def headAt (h : Fin 16) : Fin 16 := ⟨8 * (h.val / 8) + 4 * (h.val % 2) + h.val % 8 / 2, by have := h.isLt; omega⟩

/-- The start indices of the gather that orders the heads. -/
theorem start_indices (h : Fin 16) :
    (broadcastInDim S16x1 ![0] bcast_S16_S16x1_0
        (select (constantI S16 1 0#1)
          (addi (fun i => lit0 (S16.rowMajor i)) (broadcastInDim S16 ![] bcast_S_S16 (constantI S_ 32 16#32))) fun i =>
          lit0 (S16.rowMajor i)) : IVec S16x1 32) (ix2 h 0) = BitVec.ofNat 32 (headAt h).val := by
  revert h
  decide +kernel

/-- A gather along the head axis reads the head its start index names. -/
theorem gather_heads {α : Type} (x : S16x4096x16x64.Idx → α) (idx : IVec S16x1 32)
    (hidx : ∀ h : Fin 16, idx (ix2 h 0) = BitVec.ofNat 32 (headAt h).val) (b : Fin 16) (s : Fin 4096) (h : Fin 16) (d : Fin 64) :
    Host.gather gather_S16x4096x16x64_S16x1_S16x4096x16x64_013_2_n_n_2_1_164096164 x idx (ix4 b s h d) =
      x (ix4 b s (headAt h) d) := by
  unfold Host.gather
  refine congrArg x ?_
  funext a
  match a with
  | ⟨0, _⟩ => exact Fin.ext (Nat.zero_add _)
  | ⟨1, _⟩ => exact Fin.ext (Nat.zero_add _)
  | ⟨3, _⟩ => exact Fin.ext (Nat.zero_add _)
  | ⟨2, _⟩ =>
    refine Fin.ext ?_
    show min (idx _).toInt.toNat 15 = (headAt h).val
    have e : ∀ j, j = (ix2 h 0 : S16x1.Idx) → min (idx j).toInt.toNat 15 = (headAt h).val := by
      rintro j rfl
      rw [hidx]
      revert h
      decide
    refine e _ ?_
    funext b
    match b with
    | ⟨0, _⟩ => exact Fin.ext rfl
    | ⟨1, _⟩ => exact Fin.ext rfl

/-- Queries: scaled, in units of log 2, with the heads in the order of the slots. -/
theorem host_queries (r : Fin 65536) (y : Fin 1024) :
    (V m c main_v12 : Vec Ideal S65536x1024 .bf16) (ix2 r y) =
      Ideal.div (argQ m c (ix4 ⟨r.val / 4096, by have := r.isLt; omega⟩ ⟨r.val % 4096, Nat.mod_lt _ (by decide)⟩
        (headAt (headOf y)) (coordOf y)) * Ideal.ofBits .f32 0x3E000000#32) (Ideal.log (Ideal.ofBits .f32 0x40000000#32)) := by
  entry_read
  pointwise
  refine (gather_heads _ _ start_indices _ _ _ _).trans ?_
  pointwise
  rfl

end Cert.Attn

end
-- ==== Proof.Attn.Consts.lean ====
/- The float constants the attention programs spell, as the extended reals they denote. -/
module

public import Idealize.ShloMosaic.PureOps.Ideal

@[expose] public section

noncomputable section

namespace Cert.Attn

open Idealize.ShloMosaic

/-- The scale of the scores, one over the root of 64. -/
theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_top : Ideal.ofBits .f32 0x7F800000#32 = (⊤ : EReal) := by
  simp [Ideal.ofBits, Ideal.ieee, -EReal.coe_mul]

theorem ofBits_bot : Ideal.ofBits .f32 0xFF800000#32 = (⊥ : EReal) := by
  simp [Ideal.ofBits, Ideal.ieee, -EReal.coe_mul]

theorem ofBits_zero : Ideal.ofBits .f32 0x00000000#32 = (0 : EReal) := by
  simp [Ideal.ofBits, Ideal.ieee, -EReal.coe_mul]

end Cert.Attn

end
-- ==== Proof.Attn.Softmax.lean ====
/- The mathematics of the softmax: shifting all scores by a real does not change the weighted mean, base two with scores
   in units of log 2 is base e, and a sum over all the keys is the sum over chunks the kernel walks. -/
module

public import Idealize.ShloMosaic.PureOps.Ideal

@[expose] public section

noncomputable section

namespace Cert.Attn

open Idealize.ShloMosaic

/-- A nonnegative real distributes over a finite sum of extended reals. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- A finite sum of reals is that real. -/
theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The weighted mean of values with weights `exp t`, over the sum of weights, is the sum of values times the softmax of
    the scores shifted by any real `M`. -/
theorem softmax_mean {ι : Type} [Fintype ι] [Nonempty ι] (t : ι → ℝ) (M : ℝ) (v : ι → EReal) :
    ∑ i, v i * Ideal.div (Ideal.exp ((t i : EReal) - (M : EReal))) (0 + ∑ j, Ideal.exp ((t j : EReal) - (M : EReal))) =
      Ideal.div (∑ i, v i * ((Real.exp (t i) : ℝ) : EReal)) (∑ i, ((Real.exp (t i) : ℝ) : EReal)) := by
  have hS : (0 : ℝ) < ∑ i, Real.exp (t i) := Finset.sum_pos (fun i _ => Real.exp_pos _) Finset.univ_nonempty
  have hM : (0 : ℝ) < ∑ i, Real.exp (t i - M) := Finset.sum_pos (fun i _ => Real.exp_pos _) Finset.univ_nonempty
  have e (i : ι) : Ideal.exp ((t i : EReal) - (M : EReal)) = ((Real.exp (t i - M) : ℝ) : EReal) := by
    rw [← EReal.coe_sub, Ideal.exp_coe]
  simp only [e]
  rw [sum_coe, sum_coe, zero_add, Ideal.div_coe hS.ne', sum_mul_coe _ _ _ (by positivity)]
  refine Finset.sum_congr rfl fun i _ => ?_
  rw [Ideal.div_coe hM.ne', mul_assoc, ← EReal.coe_mul, ← EReal.coe_mul]
  refine congrArg (fun r : ℝ => v i * (r : EReal)) ?_
  have : ∑ j, Real.exp (t j - M) = (∑ j, Real.exp (t j)) * Real.exp (-M) := by
    rw [Finset.sum_mul]
    exact Finset.sum_congr rfl fun j _ => by rw [sub_eq_add_neg, Real.exp_add]
  rw [this, sub_eq_add_neg, Real.exp_add]
  have := (Real.exp_pos (-M)).ne'
  field_simp

/-- Two to the power of a score in units of log 2. -/
theorem exp2_div_log (s : ℝ) : Ideal.exp2 ((s / Real.log 2 : ℝ) : EReal) = ((Real.exp s : ℝ) : EReal) := by
  rw [Ideal.exp2_coe]
  refine congrArg _ ?_
  show (2 : ℝ) ^ (s / Real.log 2) = Real.exp s
  rw [Real.rpow_def_of_pos (by norm_num), mul_div_cancel₀ _ (Real.log_pos (by norm_num)).ne']

/-- The maximum of finitely many reals, from `⊥`, is a real. -/
theorem fold_max_real {ι : Type} (S : Finset ι) (hS : S.Nonempty) (f : ι → EReal) (hf : ∀ i, ∃ r : ℝ, f i = r) :
    ∃ M : ℝ, S.fold max ⊥ f = (M : EReal) := by
  classical
  induction hS using Finset.Nonempty.cons_induction with
  | singleton a =>
    obtain ⟨r, hr⟩ := hf a
    exact ⟨r, by rw [Finset.fold_singleton, hr, max_eq_left bot_le]⟩
  | cons a S ha hS ih =>
    obtain ⟨r, hr⟩ := hf a
    obtain ⟨M, hM⟩ := ih
    refine ⟨max r M, ?_⟩
    rw [Finset.fold_cons, hM, hr, EReal.coe_strictMono.monotone.map_max]

/-- A sum over a segment of `n` keys from key `a`. -/
theorem sum_segment {α : Type} [AddCommMonoid α] (f : ℕ → α) (a n : ℕ) :
    ∑ i : Fin n, f (a + i.val) = ∑ i ∈ Finset.range n, f (a + i) := Finset.sum_range (fun i => f (a + i)) |>.symm

/-- All 4112 keys, as the kernel takes them: eight chunks of 512 from key 16 on, the sixteen meta keys last. -/
theorem sum_keys {α : Type} [AddCommMonoid α] (f : ℕ → α) :
    ∑ i : Fin 4112, f i.val =
      (∑ i : Fin 512, f (16 + i.val) + ∑ k : Fin 6, ∑ i : Fin 512, f (16 + (512 * (k.val + 1) + i.val))) +
        (∑ i : Fin 512, f (16 + (3584 + i.val)) + ∑ i : Fin 16, f i.val) := by
  have e : ∀ a b : ℕ, ∀ g : ℕ → α, ∑ i ∈ Finset.range (a + b), g i = ∑ i ∈ Finset.range a, g i + ∑ i ∈ Finset.range b, g (a + i) :=
    fun a b g => Finset.sum_range_add g a b
  have h6 : ∀ g : ℕ → α, ∑ i ∈ Finset.range (512 * 6), g i = ∑ k : Fin 6, ∑ i : Fin 512, g (512 * k.val + i.val) := by
    intro g
    simp only [Fin.sum_univ_six, sum_segment g]
    rw [show 512 * 6 = 512 + 512 + 512 + 512 + 512 + 512 from rfl, e, e, e, e, e]
    simp
  rw [Finset.sum_range f |>.symm, show 4112 = 16 + ((512 + 512 * 6) + 512) from rfl, e, e, e, h6]
  rw [← Finset.sum_range f, ← Finset.sum_range (fun i => f (16 + i)), ← Finset.sum_range (fun i => f (16 + (3584 + i)))]
  rw [add_comm, add_assoc]
  refine congrArg₂ (· + ·) (congrArg₂ (· + ·) rfl ?_) rfl
  refine Finset.sum_congr rfl fun k _ => Finset.sum_congr rfl fun i _ => congrArg f ?_
  omega

end Cert.Attn

end
-- ==== Proof.Attn.Reference.lean ====
/- The reference, entry by entry: the mean of the values weighted by the exponentials of the scores. -/
module

public import proofs.«01_k».proof.Proof.Gen.ReferenceIdeal.Read
public import proofs.«01_k».proof.Proof.Attn.Consts
public import proofs.«01_k».proof.Proof.Attn.Softmax
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

variable (q : Vec Ideal S16x4096x16x64 .f32) (k v : Vec Ideal S16x4112x4x64 .f32)

/-- The key head that query head `h` reads. -/
def group (h : Fin 16) : Fin 4 := ⟨h.val / 4, by have := h.isLt; omega⟩

/-- The score of key `κ` for query `s` of head `h`. -/
def score (b : Fin 16) (s : Fin 4096) (h : Fin 16) (κ : Fin 4112) : ℝ :=
  ∑ d : Fin 64, EReal.toReal (k (ix4 b κ (group h) d)) * (EReal.toReal (q (ix4 b s h d)) * (1 / 8))

/-- The attention of query `s` of head `h`, coordinate `d`. -/
def attention (b : Fin 16) (s : Fin 4096) (h : Fin 16) (d : Fin 64) : EReal :=
  Ideal.div (∑ κ : Fin 4112, v (ix4 b κ (group h) d) * ((Real.exp (score q k b s h κ) : ℝ) : EReal))
    (∑ κ : Fin 4112, ((Real.exp (score q k b s h κ) : ℝ) : EReal))

/-- Head `i` of the four heads of key head `g`. -/
def head (g i : Fin 4) : Fin 16 := ⟨4 * g.val + i.val, by have := g.isLt; have := i.isLt; omega⟩

theorem group_head (g i : Fin 4) : group (head g i) = g :=
  Fin.ext (by show (4 * g.val + i.val) / 4 = g.val; have := i.isLt; omega)

variable (hq : ∀ i, ∃ r : ℝ, q i = (r : EReal)) (hk : ∀ i, ∃ r : ℝ, k i = (r : EReal))
include hq hk

/-- The reference's scores. -/
theorem scores (b : Fin 16) (g i : Fin 4) (s : Fin 4096) (κ : Fin 4112) :
    (val_main_v4 (F := Ideal) q k : Vec Ideal S16x4x4x4096x4112 .f32) (ix5 b g i s κ) = ((score q k b s (head g i) κ : ℝ) : EReal) := by
  unfold val_main_v4 val_main_v3 val_main_v2 val_main_v1 val_main_v0 val_main_cst
  pointwise
  unfold score
  rw [← sum_coe]
  refine Finset.sum_congr rfl fun d _ => ?_
  rw [group_head, ofBits_eighth, EReal.coe_mul, EReal.coe_mul]
  refine congrArg₂ (· * ·) ?_ (congrArg₂ (· * ·) ?_ rfl)
  · obtain ⟨r, hr⟩ := hk (ix4 b κ g d)
    rw [hr]; rfl
  · obtain ⟨r, hr⟩ := hq (ix4 b s (head g i) d)
    rw [hr]
    refine Eq.trans ?_ hr
    refine congrArg q ?_
    refine congrArg (fun h => ix4 b s h d) (Fin.ext ?_)
    show g.val * 4 + i.val = 4 * g.val + i.val
    omega

/-- Every score is real. -/
theorem scores_real (j : S16x4x4x4096x4112.Idx) :
    ∃ r : ℝ, (val_main_v4 (F := Ideal) q k : Vec Ideal S16x4x4x4096x4112 .f32) j = (r : EReal) := by
  rw [Idealize.ShloMosaic.ValueIdx.eq_ix5 j]
  exact ⟨_, scores q k hq hk (j 0) (j 1) (j 2) (j 3) (j 4)⟩

/-- The maximum the reference subtracts is real. -/
theorem max_real (b : Fin 16) (g i : Fin 4) (s : Fin 4096) :
    ∃ M : ℝ, (val_main_v7 (F := Ideal) q k : Vec Ideal S16x4x4x4096 .f32) (ix4 b g i s) = (M : EReal) := by
  have h := scores_real q k hq hk
  have e : (val_main_v5 (F := Ideal) q k : Vec Ideal S16x4x4x4096 .f32) (ix4 b g i s) =
      Host.reduce (max : EReal → EReal → EReal) (val_main_v4 (F := Ideal) q k) (fun _ => (⊥ : EReal))
        reducesTo_S16x4x4x4096x4112_S16x4x4x4096_d4 h_S_ (ix4 b g i s) := by
    unfold val_main_v5 val_main_cst_0
    rw [← ofBits_bot]
    rfl
  obtain ⟨M, hM⟩ := fold_max_real (Finset.univ.filter fun j => reducesTo_S16x4x4x4096x4112_S16x4x4x4096_d4.drop j = ix4 b g i s)
    ⟨ix5 b g i s 0, Finset.mem_filter.mpr ⟨Finset.mem_univ _, funext fun a => by
      match a with | ⟨0, _⟩ => rfl | ⟨1, _⟩ => rfl | ⟨2, _⟩ => rfl | ⟨3, _⟩ => rfl⟩⟩ _ h
  refine ⟨M, ?_⟩
  rw [val_main_v7_apply, e, Host.reduce_eq_fold, hM]
  show max (Ideal.ofBits .f32 0xFF800000#32) (M : EReal) = M
  rw [ofBits_bot, max_eq_right bot_le]

/-- The exponential of a shifted score. -/
theorem exps (b : Fin 16) (g i : Fin 4) (s : Fin 4096) (κ : Fin 4112) :
    (val_main_v11 (F := Ideal) q k : Vec Ideal S16x4x4x4096x4112 .f32) (ix5 b g i s κ) =
      Ideal.exp (((score q k b s (head g i) κ : ℝ) : EReal) - (val_main_v7 (F := Ideal) q k : Vec Ideal S16x4x4x4096 .f32) (ix4 b g i s)) := by
  rw [← scores q k hq hk]
  unfold val_main_v11 val_main_v10 val_main_v9 val_main_v8
  generalize (val_main_v4 (F := Ideal) q k) = A
  generalize (val_main_v7 (F := Ideal) q k) = B
  pointwise

/-- The softmax. -/
theorem probs (b : Fin 16) (g i : Fin 4) (s : Fin 4096) (κ : Fin 4112) :
    (val_main_v15 (F := Ideal) q k : Vec Ideal S16x4x4x4096x4112 .f32) (ix5 b g i s κ) =
      Ideal.div (Ideal.exp (((score q k b s (head g i) κ : ℝ) : EReal) - (val_main_v7 (F := Ideal) q k : Vec Ideal S16x4x4x4096 .f32) (ix4 b g i s)))
        (0 + ∑ κ' : Fin 4112, Ideal.exp (((score q k b s (head g i) κ' : ℝ) : EReal) - (val_main_v7 (F := Ideal) q k : Vec Ideal S16x4x4x4096 .f32) (ix4 b g i s))) := by
  simp only [← exps q k hq hk]
  unfold val_main_v15 val_main_v14 val_main_v13 val_main_v12 val_main_cst_2
  generalize (val_main_v11 (F := Ideal) q k) = A
  pointwise

/-- The weighted values. -/
theorem mixed (b : Fin 16) (g i : Fin 4) (s : Fin 4096) (d : Fin 64) :
    (val_main_v16 (F := Ideal) q k v : Vec Ideal S16x4x64x4x4096 .f32) (ix5 b g d i s) = attention q k v b s (head g i) d := by
  obtain ⟨M, hM⟩ := max_real q k hq hk b g i s
  have e : (val_main_v16 (F := Ideal) q k v : Vec Ideal S16x4x64x4x4096 .f32) (ix5 b g d i s) =
      ∑ κ : Fin 4112, v (ix4 b κ g d) * (val_main_v15 (F := Ideal) q k : Vec Ideal S16x4x4x4096x4112 .f32) (ix5 b g i s κ) := by
    unfold val_main_v16
    generalize (val_main_v15 (F := Ideal) q k) = A
    pointwise
  rw [e]
  simp only [probs q k hq hk, hM]
  rw [softmax_mean]
  unfold attention
  rw [group_head]

/-- The reference's result: the lanes of a row are the heads in the order of the kernel's slots. -/
theorem result (r : Fin 65536) (y : Fin 1024) :
    (val_main_v21 (F := Ideal) q k v : Vec Ideal S65536x1024 .bf16) (ix2 r y) =
      attention q k v ⟨r.val / 4096, by have := r.isLt; omega⟩ ⟨r.val % 4096, Nat.mod_lt _ (by decide)⟩
        (head ⟨y.val / 512 * 2 + y.val / 64 % 2, by have := y.isLt; omega⟩ ⟨y.val / 128 % 4, Nat.mod_lt _ (by decide)⟩)
        ⟨y.val % 64, Nat.mod_lt _ (by decide)⟩ := by
  rw [← mixed q k v hq hk]
  unfold val_main_v21 val_main_v20 val_main_v19 val_main_v18 val_main_v17
  generalize val_main_v16 (F := Ideal) q k v = Z
  pointwise

end Cert.Attn.Ref
end
-- ==== Proof.Attn.Value.lean ====
/- The kernel's result over the program's arguments: attention, with the same scores, sums and order of lanes as the
   reference's. -/
module

public import proofs.«01_k».proof.Proof.Attn.Host
public import proofs.«01_k».proof.Proof.Attn.Reference

@[expose] public section

set_option maxRecDepth 16384

noncomputable section

namespace Cert.Attn

open Idealize.ShloMosaic Idealize.ShloMosaic.TcCoe Idealize.SL.Sem
open Cert.KernelIdeal Cert.KernelIdeal.Gen
open Cert.Attn.Ref (score attention group)

variable (m : (ℓ : Loc nD τ sig) → Buf (Elt Ideal) ℓ) (c : Dev nD)

/-- The batch entry of row `r`, -/
def batchOf (r : Fin 65536) : Fin 16 := ⟨r.val / 4096, by have := r.isLt; omega⟩
/-- and its position in the sequence. -/
def posOf (r : Fin 65536) : Fin 4096 := ⟨r.val % 4096, Nat.mod_lt _ (by decide)⟩

/-- The key at the kernel's position `κ`, as the reference numbers keys. -/
def keyAt (κ : Fin 4112) : Fin 4112 := ⟨if κ.val < 4096 then 16 + κ.val else κ.val - 4096, by have := κ.isLt; split <;> omega⟩

/-- The log of two, the unit of the kernel's scores. -/
theorem log_two : Ideal.log (Ideal.ofBits .f32 0x40000000#32) = ((Real.log 2 : ℝ) : EReal) := by
  rw [ofBits_two, Ideal.log_coe, if_neg (by norm_num)]

theorem log_two_ne : Real.log 2 ≠ 0 := (Real.log_pos (by norm_num)).ne'

variable (hq : ∀ i, ∃ r : ℝ, argQ m c i = (r : EReal)) (hk : ∀ i, ∃ r : ℝ, argK m c i = (r : EReal))

/-- A head's 128 lanes hold its 64 coordinates and 64 zeros. -/
theorem sum_lanes (p : Prop) [Decidable p] (f g : Fin 128 → EReal) (h : Fin 64 → EReal)
    (hf : ∀ l : Fin 128, f l = g l * 0 ∨ ((l.val < 64) = p))
    (hlo : p → ∀ d : Fin 64, f (Fin.castAdd 64 d) = h d) (hhi : ¬ p → ∀ d : Fin 64, f (Fin.natAdd 64 d) = h d) :
    ∑ l : Fin 128, f l = ∑ d : Fin 64, h d := by
  have e : ∑ l : Fin 128, f l = ∑ d : Fin 64, f (Fin.castAdd 64 d) + ∑ d : Fin 64, f (Fin.natAdd 64 d) :=
    Fin.sum_univ_add (a := 64) (b := 64) f
  rw [e]
  by_cases hp : p
  · rw [Finset.sum_congr rfl fun d _ => hlo hp d]
    refine (congrArg (_ + ·) (Finset.sum_eq_zero fun d _ => ?_)).trans (add_zero _)
    rcases hf (Fin.natAdd 64 d) with h | h
    · rw [h, mul_zero]
    · exact absurd (h.mpr hp) (by show ¬ (64 + d.val < 64); omega)
  · rw [Finset.sum_congr rfl fun d _ => hhi hp d]
    refine (congrArg (· + _) (Finset.sum_eq_zero fun d _ => ?_)).trans (zero_add _)
    rcases hf (Fin.castAdd 64 d) with h | h
    · rw [h, mul_zero]
    · exact absurd (h.mp (show d.val < 64 from d.isLt)) hp

include hq hk

/-- One product of a score: key lane `y`, query lane `z`, both at coordinate `d` of head `hd`. -/
theorem term (K : Vec Ideal S16x4112x256 .bf16) (Q : Vec Ideal S65536x1024 .bf16) (hK : K = V m c main_v18) (hQ : Q = V m c main_v12) (r : Fin 65536) (hd : Fin 16) (κ : Fin 4112) (d : Fin 64) (y : Fin 256) (z : Fin 1024)
    (hy : y.val = (2 * (hd.val / 8) + hd.val % 2) * 64 + d.val) (hz : z.val = hd.val * 64 + d.val) :
    K (ix3 (batchOf r) κ y) * Q (ix2 r z) =
      ((EReal.toReal (argK m c (ix4 (batchOf r) (keyAt κ) (group (headAt hd)) d)) *
        (EReal.toReal (argQ m c (ix4 (batchOf r) (posOf r) (headAt hd) d)) * (1 / 8)) * (1 / Real.log 2) : ℝ) : EReal) := by
  have hd' := d.isLt
  have hh := hd.isLt
  subst hK hQ
  rw [host_keys, host_queries, log_two, Ideal.div_coe log_two_ne, ofBits_eighth]
  have eg : (⟨y.val / 64, by have := y.isLt; omega⟩ : Fin 4) = group (headAt hd) := Fin.ext (by
    show y.val / 64 = (8 * (hd.val / 8) + 4 * (hd.val % 2) + hd.val % 8 / 2) / 4; omega)
  have ed : (⟨y.val % 64, Nat.mod_lt _ (by decide)⟩ : Fin 64) = d := Fin.ext (by show y.val % 64 = d.val; omega)
  have eh : headOf z = hd := Fin.ext (by show z.val / 64 = hd.val; omega)
  have ec : coordOf z = d := Fin.ext (by show z.val % 64 = d.val; omega)
  rw [eg, ed, eh, ec]
  obtain ⟨a, ha⟩ := hk (ix4 (batchOf r) (keyAt κ) (group (headAt hd)) d)
  obtain ⟨b, hb⟩ := hq (ix4 (batchOf r) (posOf r) (headAt hd) d)
  rw [ha, hb, EReal.toReal_coe, EReal.toReal_coe]
  refine (congrArg₂ (· * ·) ha (congrArg (fun u : EReal => u * ((1 / 8 : ℝ) : EReal) * ((1 / Real.log 2 : ℝ) : EReal)) hb)).trans ?_
  rw [← EReal.coe_mul, ← EReal.coe_mul, ← EReal.coe_mul]
  exact congrArg _ (by ring)

/-- The kernel's weight of a key is the exponential of the reference's score. -/
theorem weight_eq (r : Fin 65536) (hd : Fin 16) (κ : Fin 4112) :
    weight (kBlock (V m c main_v18) r) (qArr (qBlock (V m c main_v12) r)) hd κ (inBlock r) =
      ((Real.exp (score (argQ m c) (argK m c) (batchOf r) (posOf r) (headAt hd) (keyAt κ)) : ℝ) : EReal) := by
  have hh := hd.isLt
  have hr : (⟨512 * (r.val / 512) + r.val % 512, by have := r.isLt; omega⟩ : Fin 65536) = r :=
    Fin.ext (by show 512 * (r.val / 512) + r.val % 512 = r.val; omega)
  have hQ : ∀ z : Fin 1024, qBlock (V m c main_v12) r (ix2 (inBlock r) z) = (V m c main_v12 : Vec Ideal S65536x1024 .bf16) (ix2 r z) := by
    intro z
    show (V m c main_v12 : Vec Ideal S65536x1024 .bf16) (ix2 (⟨512 * (r.val / 512) + r.val % 512, _⟩ : Fin 65536) z) = _
    rw [hr]
  unfold weight
  rw [← exp2_div_log]
  refine congrArg Ideal.exp2 ?_
  unfold score
  rw [div_eq_mul_one_div, Finset.sum_mul, ← sum_coe]
  refine sum_lanes (hd.val % 2 = 0) _ (fun l => kBlock (V m c main_v18) r (ix3 0 κ (lane hd l))) _ (fun l => ?_) (fun hp d => ?_) (fun hp d => ?_)
  · by_cases h : (l.val < 64) = (hd.val % 2 = 0)
    · exact Or.inr h
    · refine Or.inl ?_
      refine congrArg (_ * ·) ?_
      exact if_neg h
  · have hd' := d.isLt
    have e : qArr (qBlock (V m c main_v12) r) (ix3 hd (Fin.castAdd 64 d) (inBlock r)) =
        (V m c main_v12 : Vec Ideal S65536x1024 .bf16) (ix2 r ⟨hd.val / 2 * 128 + d.val, by omega⟩) :=
      (if_pos (propext ⟨fun _ => hp, fun _ => d.isLt⟩)).trans (hQ _)
    rw [e]
    exact term m c hq hk _ _ rfl rfl r hd κ d (lane hd (Fin.castAdd 64 d)) ⟨hd.val / 2 * 128 + d.val, by omega⟩
      (by show hd.val / 8 * 128 + d.val = _; omega) (by show hd.val / 2 * 128 + d.val = _; omega)
  · have hd' := d.isLt
    have e : qArr (qBlock (V m c main_v12) r) (ix3 hd (Fin.natAdd 64 d) (inBlock r)) =
        (V m c main_v12 : Vec Ideal S65536x1024 .bf16) (ix2 r ⟨hd.val / 2 * 128 + (64 + d.val), by omega⟩) :=
      (if_pos (propext ⟨fun h => absurd h (by show ¬ (64 + d.val < 64); omega), fun h => absurd h hp⟩)).trans (hQ _)
    rw [e]
    exact term m c hq hk _ _ rfl rfl r hd κ d (lane hd (Fin.natAdd 64 d)) ⟨hd.val / 2 * 128 + (64 + d.val), by omega⟩
      (by show hd.val / 8 * 128 + (64 + d.val) = _; omega) (by show hd.val / 2 * 128 + (64 + d.val) = _; omega)

/-- The weight of the reference's key number `n`. -/
def weightAt (b : Fin 16) (s : Fin 4096) (h : Fin 16) (n : ℕ) : EReal :=
  if hn : n < 4112 then ((Real.exp (score (argQ m c) (argK m c) b s h ⟨n, hn⟩) : ℝ) : EReal) else 0

/-- The weighted value of the reference's key number `n`. -/
def valueAt (b : Fin 16) (s : Fin 4096) (h : Fin 16) (d : Fin 64) (n : ℕ) : EReal :=
  if hn : n < 4112 then argV m c (ix4 b ⟨n, hn⟩ (group h) d) * ((Real.exp (score (argQ m c) (argK m c) b s h ⟨n, hn⟩) : ℝ) : EReal) else 0

theorem weight_at (r : Fin 65536) (hd : Fin 16) (κ : Fin 4112) (n : ℕ) (hn : n = (keyAt κ).val) :
    weight (kBlock (V m c main_v18) r) (qArr (qBlock (V m c main_v12) r)) hd κ (inBlock r) =
      weightAt m c (batchOf r) (posOf r) (headAt hd) n := by
  subst hn
  rw [weight_eq m c hq hk]
  rw [weightAt, dif_pos (keyAt κ).isLt]

theorem key_chunk (k : Fin 8) (κ : Fin 512) : 16 + (512 * k.val + κ.val) = (keyAt (kpos k κ)).val := by
  have := k.isLt; have := κ.isLt
  show _ = if 512 * k.val + κ.val < 4096 then 16 + (512 * k.val + κ.val) else _
  rw [if_pos (by omega)]

theorem key_meta (κ : Fin 16) : κ.val = (keyAt (kposMeta κ)).val := by
  show _ = if 4096 + κ.val < 4096 then _ else 4096 + κ.val - 4096
  rw [if_neg (by omega)]; omega

/-- A chunk's weights. -/
theorem chunk_sum (r : Fin 65536) (hd : Fin 16) (k : Fin 8) :
    chunkSum (kBlock (V m c main_v18) r) (qArr (qBlock (V m c main_v12) r)) k hd (inBlock r) =
      ∑ κ : Fin 512, weightAt m c (batchOf r) (posOf r) (headAt hd) (16 + (512 * k.val + κ.val)) :=
  Finset.sum_congr rfl fun κ _ => weight_at m c hq hk r hd (kpos k κ) _ (key_chunk m c hq hk k κ)

/-- A chunk's weighted values. -/
theorem chunk_acc (r : Fin 65536) (hd : Fin 16) (d : Fin 64) (k : Fin 8) :
    chunkAcc (kBlock (V m c main_v18) r) (vBlock (V m c main_v22) r) (qArr (qBlock (V m c main_v12) r)) k hd d (inBlock r) =
      ∑ κ : Fin 512, valueAt m c (batchOf r) (posOf r) (headAt hd) d (16 + (512 * k.val + κ.val)) := by
  refine Finset.sum_congr rfl fun κ _ => ?_
  have hk' := k.isLt; have hκ := κ.isLt; have hd' := d.isLt; have hh := hd.isLt; have hr := r.isLt
  have hn : 16 + (512 * k.val + κ.val) < 4112 := by omega
  rw [weight_at m c hq hk r hd (kpos k κ) _ (key_chunk m c hq hk k κ), weightAt, valueAt, dif_pos hn, dif_pos hn]
  refine congrArg (· * _) ?_
  refine (host_values m c ⟨8 * (r.val / 4096) + k.val, by omega⟩ (vrow hd d) κ).trans ?_
  refine congrArg (argV m c) ?_
  rw [show (⟨(8 * (r.val / 4096) + k.val) / 8, by omega⟩ : Fin 16) = batchOf r from Fin.ext (by
      show (8 * (r.val / 4096) + k.val) / 8 = r.val / 4096; omega)]
  rw [show (⟨16 + ((8 * (r.val / 4096) + k.val) % 8 * 512 + κ.val), by omega⟩ : Fin 4112) = ⟨16 + (512 * k.val + κ.val), hn⟩ from Fin.ext (by
      show 16 + ((8 * (r.val / 4096) + k.val) % 8 * 512 + κ.val) = 16 + (512 * k.val + κ.val); omega)]
  rw [show (⟨(vrow hd d).val / 64, by have := (vrow hd d).isLt; omega⟩ : Fin 4) = group (headAt hd) from Fin.ext (by
      show ((2 * (hd.val / 8) + hd.val % 2) * 64 + d.val) / 64 = (8 * (hd.val / 8) + 4 * (hd.val % 2) + hd.val % 8 / 2) / 4; omega)]
  rw [show (⟨(vrow hd d).val % 64, Nat.mod_lt _ (by decide)⟩ : Fin 64) = d from Fin.ext (by
      show ((2 * (hd.val / 8) + hd.val % 2) * 64 + d.val) % 64 = d.val; omega)]

/-- The meta tokens' weighted values. -/
theorem meta_acc (r : Fin 65536) (hd : Fin 16) (d : Fin 64) :
    metaAcc (kBlock (V m c main_v18) r) (mBlock (V m c main_v26) r) (qArr (qBlock (V m c main_v12) r)) hd d (inBlock r) =
      ∑ κ : Fin 16, valueAt m c (batchOf r) (posOf r) (headAt hd) d κ.val := by
  refine Finset.sum_congr rfl fun κ _ => ?_
  have hκ := κ.isLt; have hd' := d.isLt; have hh := hd.isLt
  have hn : κ.val < 4112 := by omega
  rw [weight_at m c hq hk r hd (kposMeta κ) _ (key_meta m c hq hk κ), weightAt, valueAt, dif_pos hn, dif_pos hn]
  refine congrArg (· * _) ?_
  refine (host_meta m c (batchOf r) (vrow hd d) κ).trans ?_
  refine congrArg (argV m c) ?_
  rw [show (⟨(vrow hd d).val / 64, by have := (vrow hd d).isLt; omega⟩ : Fin 4) = group (headAt hd) from Fin.ext (by
      show ((2 * (hd.val / 8) + hd.val % 2) * 64 + d.val) / 64 = (8 * (hd.val / 8) + 4 * (hd.val % 2) + hd.val % 8 / 2) / 4; omega)]
  rw [show (⟨(vrow hd d).val % 64, Nat.mod_lt _ (by decide)⟩ : Fin 64) = d from Fin.ext (by
      show ((2 * (hd.val / 8) + hd.val % 2) * 64 + d.val) % 64 = d.val; omega)]

/-- The last chunk's weights, the meta keys' included. -/
theorem last_weights (r : Fin 65536) (hd : Fin 16) :
    lastSum (kBlock (V m c main_v18) r) (qArr (qBlock (V m c main_v12) r)) hd (inBlock r) =
      ∑ κ : Fin 512, weightAt m c (batchOf r) (posOf r) (headAt hd) (16 + (3584 + κ.val)) +
        ∑ κ : Fin 16, weightAt m c (batchOf r) (posOf r) (headAt hd) κ.val := by
  unfold lastSum
  have e := Fin.sum_univ_add (a := 512) (b := 16) fun κ : Fin 528 =>
    weight (kBlock (V m c main_v18) r) (qArr (qBlock (V m c main_v12) r)) hd (kposLast κ) (inBlock r)
  refine e.trans (congrArg₂ (· + ·) (Finset.sum_congr rfl fun κ _ => ?_) (Finset.sum_congr rfl fun κ _ => ?_))
  · refine weight_at m c hq hk r hd _ _ ?_
    have := κ.isLt
    show _ = if 3584 + κ.val < 4096 then 16 + (3584 + κ.val) else _
    rw [if_pos (by omega)]
  · refine weight_at m c hq hk r hd _ _ ?_
    show _ = if 3584 + (512 + κ.val) < 4096 then _ else 3584 + (512 + κ.val) - 4096
    rw [if_neg (by omega)]; omega

/-- All the weighted values. -/
theorem acc_eq (r : Fin 65536) (hd : Fin 16) (d : Fin 64) :
    accTot (qBlock (V m c main_v12) r) (kBlock (V m c main_v18) r) (vBlock (V m c main_v22) r) (mBlock (V m c main_v26) r) hd d (inBlock r) =
      ∑ κ : Fin 4112, argV m c (ix4 (batchOf r) κ (group (headAt hd)) d) *
        ((Real.exp (score (argQ m c) (argK m c) (batchOf r) (posOf r) (headAt hd) κ) : ℝ) : EReal) := by
  have e : ∑ κ : Fin 4112, argV m c (ix4 (batchOf r) κ (group (headAt hd)) d) *
        ((Real.exp (score (argQ m c) (argK m c) (batchOf r) (posOf r) (headAt hd) κ) : ℝ) : EReal) =
      ∑ κ : Fin 4112, valueAt m c (batchOf r) (posOf r) (headAt hd) d κ.val :=
    Finset.sum_congr rfl fun κ _ => by rw [valueAt, dif_pos κ.isLt]
  rw [e, sum_keys]
  unfold accTot accMid
  simp only [chunk_acc m c hq hk, meta_acc m c hq hk]
  refine congrArg₂ (· + ·) (congrArg₂ (· + ·) ?_ rfl) (congrArg₂ (· + ·) rfl rfl)
  exact Finset.sum_congr rfl fun κ _ => congrArg _ (by show 16 + (512 * 0 + κ.val) = _; omega)

/-- All the weights. -/
theorem sum_eq (r : Fin 65536) (hd : Fin 16) :
    sumTot (qBlock (V m c main_v12) r) (kBlock (V m c main_v18) r) hd (inBlock r) =
      ∑ κ : Fin 4112, ((Real.exp (score (argQ m c) (argK m c) (batchOf r) (posOf r) (headAt hd) κ) : ℝ) : EReal) := by
  have e : ∑ κ : Fin 4112, ((Real.exp (score (argQ m c) (argK m c) (batchOf r) (posOf r) (headAt hd) κ) : ℝ) : EReal) =
      ∑ κ : Fin 4112, weightAt m c (batchOf r) (posOf r) (headAt hd) κ.val :=
    Finset.sum_congr rfl fun κ _ => by rw [weightAt, dif_pos κ.isLt]
  rw [e, sum_keys]
  unfold sumTot sumMid
  simp only [chunk_sum m c hq hk, last_weights m c hq hk]
  refine congrArg₂ (· + ·) (congrArg₂ (· + ·) ?_ rfl) rfl
  exact Finset.sum_congr rfl fun κ _ => congrArg _ (by show 16 + (512 * 0 + κ.val) = _; omega)

/-- The kernel's result, entry by entry. -/
theorem result_eq (r : Fin 65536) (y : Fin 1024) :
    result (V m c main_v12) (V m c main_v18) (V m c main_v22) (V m c main_v26) (ix2 r y) =
      attention (argQ m c) (argK m c) (argV m c) (batchOf r) (posOf r) (headAt (headOf y)) (coordOf y) := by
  show Ideal.div (accTot (qBlock (V m c main_v12) r) (kBlock (V m c main_v18) r) (vBlock (V m c main_v22) r) (mBlock (V m c main_v26) r)
    (headOf y) (coordOf y) (inBlock r)) (sumTot (qBlock (V m c main_v12) r) (kBlock (V m c main_v18) r) (headOf y) (inBlock r)) = _
  rw [acc_eq m c hq hk, sum_eq m c hq hk]
  rfl

end Cert.Attn

end
-- ==== Proof.Attn.Precond.lean ====
/- What the precondition says: every query and every key is a real number. -/
module

public import proofs.«01_k».proof.Pre_finite_queries_and_keys
public import proofs.«01_k».proof.Proof.Attn.Consts
public import Idealize.ShloMosaic.Lib.ReduceAll
public import Idealize.ShloMosaic.Lib.StableHlo.Predicate

@[expose] public section

set_option maxRecDepth 16384

noncomputable section

namespace Cert.Attn.Precond

open Idealize.ShloMosaic Cert.Pre_finite_queries_and_keys

/-- The shape relations that the precondition's operations take. -/
theorem facts : Cert.Pre_finite_queries_and_keys.Facts where
  bcast_S_S16x4096x16x64 := by decide
  reducesTo_S16x4096x16x64_S_d0_1_2_3 := by decide
  h_S_ := by decide
  bcast_S_S16x4112x4x64 := by decide
  reducesTo_S16x4112x4x64_S_d0_1_2_3 := by decide

/-- A number whose size is below infinity is real. -/
theorem real_of_abs_lt (x : EReal) (h : max x (-x) < ⊤) : ∃ r : ℝ, x = (r : EReal) := by
  induction x with
  | bot => simp at h
  | coe r => exact ⟨r, rfl⟩
  | top => simp at h

variable [Facts]

/-- Under the precondition queries and keys are real. -/
theorem real (q : FVec Ideal S16x4096x16x64 .f32) (k v : FVec Ideal S16x4112x4x64 .f32) (h : fn q k v = fun _ => 1#1) :
    (∀ i, ∃ r : ℝ, q i = (r : EReal)) ∧ ∀ i, ∃ r : ℝ, k i = (r : EReal) := by
  have e := congrFun h (Shape.Idx.first Facts.h_S_)
  obtain ⟨e1, e2⟩ : _ = 1#1 ∧ _ = 1#1 := IntOp.andi_eq_one.1 e
  haveI : Subsingleton S_.Idx := ⟨fun a b => funext fun i => i.elim0⟩
  refine ⟨fun i => real_of_abs_lt _ ?_, fun i => real_of_abs_lt _ ?_⟩
  · have := Host.reduce_andi_all _ _ _ _ _ e1 i
    have := (StableHlo.Predicate.ofBool_eq_one_iff _).1 this
    rw [← ofBits_top]; exact of_decide_eq_true this
  · have := Host.reduce_andi_all _ _ _ _ _ e2 i
    have := (StableHlo.Predicate.ofBool_eq_one_iff _).1 this
    rw [← ofBits_top]; exact of_decide_eq_true this

end Cert.Attn.Precond

end
-- ==== Proof.Ffn.Layer.lean ====
/- The feed-forward half-step on one row of the residual stream, over the extended reals: normalise the row, send it
   through the gated hidden layer of 2816 units, normalise the result, add half of it to the row. -/
module

public import Idealize.ShloMosaic.PureOps.Ideal

@[expose] public section

noncomputable section

namespace Cert.FeedForward

open Idealize.ShloMosaic

/-- The reciprocal root of a row's mean square, the small constant added. -/
def scale (x : Fin 1024 → EReal) : EReal :=
  Ideal.rsqrt (Ideal.div (∑ k : Fin 1024, x k * x k) (Ideal.ofBits .f32 0x44800000#32) + Ideal.ofBits .f32 0x358637BD#32)

/-- A row normalised and multiplied by the gains. -/
def rms (x g : Fin 1024 → EReal) (y : Fin 1024) : EReal := x y * scale x * g y

/-- One hidden unit: the gate's silu times the up projection. -/
def unit (x gate up : Fin 1024 → EReal) : EReal :=
  (∑ k : Fin 1024, x k * gate k) * Ideal.logistic (∑ k : Fin 1024, x k * gate k) * ∑ k : Fin 1024, x k * up k

/-- Hidden unit `n`'s share of output `y`. -/
def share (x : Fin 1024 → EReal) (G U : Fin 1024 → Fin 2816 → EReal) (D : Fin 2816 → Fin 1024 → EReal) (y : Fin 1024)
    (n : Fin 2816) : EReal := unit x (fun k => G k n) (fun k => U k n) * D n y

/-- The hidden layer's output. -/
def hidden (x : Fin 1024 → EReal) (G U : Fin 1024 → Fin 2816 → EReal) (D : Fin 2816 → Fin 1024 → EReal) (y : Fin 1024) : EReal :=
  ∑ n : Fin 2816, share x G U D y n

/-- The half-step. -/
def layer (h g₁ g₂ : Fin 1024 → EReal) (G U : Fin 1024 → Fin 2816 → EReal) (D : Fin 2816 → Fin 1024 → EReal) (y : Fin 1024) : EReal :=
  h y + Ideal.ofBits .f32 0x3F000000#32 * rms (hidden (rms h g₁) G U D) g₂ y

/-- Of the hidden layer's output, the share of the 256 units of tile `f`. -/
def tile (x : Fin 1024 → EReal) (G U : Fin 1024 → Fin 2816 → EReal) (D : Fin 2816 → Fin 1024 → EReal) (y : Fin 1024)
    (f : Fin 11) : EReal :=
  ∑ κ : Fin 256, share x G U D y ⟨256 * f.val + κ.val, by omega⟩

/-- The tiles up to `f`, added one by one. -/
def upTo (x : Fin 1024 → EReal) (G U : Fin 1024 → Fin 2816 → EReal) (D : Fin 2816 → Fin 1024 → EReal) (y : Fin 1024) :
    (f : ℕ) → f < 11 → EReal
  | 0, h => tile x G U D y ⟨0, h⟩
  | f + 1, h => upTo x G U D y f (by omega) + tile x G U D y ⟨f + 1, h⟩

/-- A sum of 2816 terms, taken 256 at a time. -/
theorem sum_tiles (t : Fin 2816 → EReal) :
    ∑ f : Fin 11, ∑ κ : Fin 256, t ⟨256 * f.val + κ.val, by omega⟩ = ∑ n : Fin 2816, t n := by
  rw [← Fintype.sum_prod_type' (f := fun (f : Fin 11) (κ : Fin 256) => t ⟨256 * f.val + κ.val, by omega⟩)]
  refine Fintype.sum_equiv (finProdFinEquiv : Fin 11 × Fin 256 ≃ Fin 2816) _ _ fun p => ?_
  exact congrArg t (Fin.ext (Nat.add_comm _ _))

theorem upTo_eq (x : Fin 1024 → EReal) (G U : Fin 1024 → Fin 2816 → EReal) (D : Fin 2816 → Fin 1024 → EReal) (y : Fin 1024)
    (f : ℕ) (h : f < 11) : upTo x G U D y f h = ∑ i : Fin (f + 1), tile x G U D y ⟨i.val, by omega⟩ := by
  induction f with
  | zero => exact (Fin.sum_univ_one (fun i : Fin 1 => tile x G U D y ⟨i.val, by omega⟩)).symm
  | succ f ih =>
    rw [upTo, ih (by omega), Fin.sum_univ_castSucc (n := f + 1)]
    rfl

/-- All the tiles together are the hidden layer's output. -/
theorem upTo_all (x : Fin 1024 → EReal) (G U : Fin 1024 → Fin 2816 → EReal) (D : Fin 2816 → Fin 1024 → EReal) (y : Fin 1024) :
    upTo x G U D y 10 (by decide) = hidden x G U D y :=
  (upTo_eq x G U D y 10 (by decide)).trans (sum_tiles (share x G U D y))

end Cert.FeedForward

end
-- ==== Proof.Ffn.Ops.lean ====
/- The arithmetic the feed-forward kernel does on half a block of rows, as named operations on vectors, and what each
   reads at an index when numbers are extended reals. -/
module

public import proofs.«01_k».proof.Proof.Gen.FfnIdeal.Value
public import proofs.«01_k».proof.Proof.Ffn.Layer
public import Idealize.ShloMosaic.Lib.MatmulPlain
public import Idealize.ShloMosaic.Lib.Pointwise

@[expose] public section

set_option maxRecDepth 16384

noncomputable section

namespace Cert.FeedForward

open Idealize.ShloMosaic Idealize.ShloMosaic.TcCoe Idealize.SL.Sem
open Cert.FfnIdeal Cert.FfnIdeal.Gen

variable {F : FTy → Type} [FloatOps F]

/-- Rows normalised and multiplied by the gains. -/
def norm (X : Vec F S512x1024 .f32) (g : Vec F S1x1024 .f32) : FVec F S512x1024 .f32 :=
  mulf (mulf X (broadcastTo S512x1024
      (rsqrt (addf (divf (shapeCast S512x1 (multiReduction .add [1] S512 (mulf X X : FVec F S512x1024 .f32) 0x00000000#32
          reduces_S512x1024_S512 (.inl rfl) rfl) shapeCasts_S512_S512x1) (broadcast S512x1 (Scalar.ofBits .f32 0x44800000#32)))
        (broadcast S512x1 (Scalar.ofBits .f32 0x358637BD#32)))) broadcasts_S512x1_S512x1024))
    (broadcastTo S512x1024 (shapeCast S1x1024 g shapeCasts_S1x1024_S1x1024 : FVec F S1x1024 .f32) broadcasts_S1x1024_S512x1024)

/-- The same, rounded for the matrix unit, as stored. -/
def normIn (X : Vec F S512x1024 .f32) (g : Vec F S1x1024 .f32) : FVec F S512x1024 .bf16 :=
  shapeCast S512x1024 (truncf .bf16 (norm X g) bitsLt_bf16_f32) shapeCasts_S512x1024_S512x1024

/-- Rows times 256 columns of a projection. -/
def proj (X : Vec F S512x1024 .bf16) (W : Vec F S1024x256 .bf16) : FVec F S512x256 .f32 :=
  matmul dot_S512x1024_S1024x256_S512x256_1_0_0_1_n_n none X
    (shapeCast S1024x256 W shapeCasts_S1024x256_S1024x256 : FVec F S1024x256 .bf16) (constant S512x256 .f32 0x00000000#32)

/-- 256 hidden units' share of the output. -/
def part (X : Vec F S512x1024 .bf16) (G U : Vec F S1024x256 .bf16) (D : Vec F S256x1024 .bf16) : FVec F S512x1024 .f32 :=
  matmul dot_S512x256_S256x1024_S512x1024_1_0_0_1_n_n none
    (truncf .bf16 (mulf (mulf (proj X G) (logistic (proj X G))) (proj X U)) bitsLt_bf16_f32 : FVec F S512x256 .bf16)
    (shapeCast S256x1024 D shapeCasts_S256x1024_S256x1024 : FVec F S256x1024 .bf16) (constant S512x1024 .f32 0x00000000#32)

/-- The first tile's share, as stored. -/
def accFirst (X : Vec F S512x1024 .bf16) (G U : Vec F S1024x256 .bf16) (D : Vec F S256x1024 .bf16) : FVec F S512x1024 .f32 :=
  shapeCast S512x1024 (part X G U D) shapeCasts_S512x1024_S512x1024

/-- A later tile's share added to the accumulator. -/
def accNext (A : Vec F S512x1024 .f32) (X : Vec F S512x1024 .bf16) (G U : Vec F S1024x256 .bf16) (D : Vec F S256x1024 .bf16) :
    FVec F S512x1024 .f32 :=
  shapeCast S512x1024 (addf A (part X G U D)) shapeCasts_S512x1024_S512x1024

/-- Half of the normalised rows added to the residual stream. -/
def addHalf (h : Vec F S512x1024 .f32) (A : Vec F S512x1024 .f32) (g : Vec F S1x1024 .f32) : FVec F S512x1024 .f32 :=
  addf h (mulf (broadcast S512x1024 (Scalar.ofBits .f32 0x3F000000#32)) (norm A g))

/-! ### At an index, over the extended reals -/

theorem norm_apply (X : Vec Ideal S512x1024 .f32) (g : Vec Ideal S1x1024 .f32) (x : Fin 512) (y : Fin 1024) :
    norm X g (ix2 x y) = rms (fun k => X (ix2 x k)) (fun k => g (ix2 0 k)) y := by
  unfold norm
  pointwise
  rfl

theorem normIn_apply (X : Vec Ideal S512x1024 .f32) (g : Vec Ideal S1x1024 .f32) (x : Fin 512) (y : Fin 1024) :
    normIn X g (ix2 x y) = rms (fun k => X (ix2 x k)) (fun k => g (ix2 0 k)) y := by
  refine Eq.trans ?_ (norm_apply X g x y)
  unfold normIn
  generalize norm X g = N
  pointwise

theorem proj_apply (X : Vec Ideal S512x1024 .bf16) (W : Vec Ideal S1024x256 .bf16) (x : Fin 512) (y : Fin 256) :
    proj X W (ix2 x y) = ∑ k : Fin 1024, X (ix2 x k) * W (ix2 k y) := by
  unfold proj
  pointwise

theorem part_apply (X : Vec Ideal S512x1024 .bf16) (G U : Vec Ideal S1024x256 .bf16) (D : Vec Ideal S256x1024 .bf16)
    (x : Fin 512) (y : Fin 1024) :
    part X G U D (ix2 x y) =
      ∑ κ : Fin 256, unit (fun k => X (ix2 x k)) (fun k => G (ix2 k κ)) (fun k => U (ix2 k κ)) * D (ix2 κ y) := by
  have hG := fun κ => proj_apply X G x κ
  have hU := fun κ => proj_apply X U x κ
  unfold part unit
  simp only [← hG, ← hU]
  generalize proj X G = P
  generalize proj X U = Q
  pointwise

theorem accFirst_apply (X : Vec Ideal S512x1024 .bf16) (G U : Vec Ideal S1024x256 .bf16) (D : Vec Ideal S256x1024 .bf16)
    (x : Fin 512) (y : Fin 1024) :
    accFirst X G U D (ix2 x y) =
      ∑ κ : Fin 256, unit (fun k => X (ix2 x k)) (fun k => G (ix2 k κ)) (fun k => U (ix2 k κ)) * D (ix2 κ y) := by
  refine Eq.trans ?_ (part_apply X G U D x y)
  unfold accFirst
  generalize part X G U D = P
  pointwise

theorem accNext_apply (A : Vec Ideal S512x1024 .f32) (X : Vec Ideal S512x1024 .bf16) (G U : Vec Ideal S1024x256 .bf16)
    (D : Vec Ideal S256x1024 .bf16) (x : Fin 512) (y : Fin 1024) :
    accNext A X G U D (ix2 x y) = A (ix2 x y) +
      ∑ κ : Fin 256, unit (fun k => X (ix2 x k)) (fun k => G (ix2 k κ)) (fun k => U (ix2 k κ)) * D (ix2 κ y) := by
  rw [← part_apply X G U D x y]
  unfold accNext
  generalize part X G U D = P
  pointwise

theorem addHalf_apply (h A : Vec Ideal S512x1024 .f32) (g : Vec Ideal S1x1024 .f32) (x : Fin 512) (y : Fin 1024) :
    addHalf h A g (ix2 x y) =
      h (ix2 x y) + Ideal.ofBits .f32 0x3F000000#32 * rms (fun k => A (ix2 x k)) (fun k => g (ix2 0 k)) y := by
  rw [← norm_apply]
  unfold addHalf
  generalize norm A g = N
  pointwise

end Cert.FeedForward

end
-- ==== Proof.Ffn.Run.lean ====
/- One run of the kernel's body: the two halves of the block of rows, each taken through the eleven tiles of hidden
   units with a running sum, and the block it stores. -/
module

public import proofs.«01_k».proof.Proof.Ffn.Ops
public import proofs.«01_k».proof.Proof.Attn.Slabs
public import Idealize.ShloMosaic.Lib.Pipeline.RowLoads

@[expose] public section

set_option maxRecDepth 16384

noncomputable section

namespace Cert.FeedForward

open Idealize.ShloMosaic Idealize.ShloMosaic.TcCoe Idealize.SL.Sem
open Cert.FfnIdeal Cert.FfnIdeal.Gen
open Cert.Attn (load_rect₂)

/-- Row `r` of a block of the residual stream, -/
def row (h : Vec Ideal S1024x1024 .f32) (r : Fin 1024) : Fin 1024 → EReal := fun k => h (ix2 r k)

/-- a row of gains, -/
def gains (g : Vec Ideal S1x1024 .f32) : Fin 1024 → EReal := fun k => g (ix2 0 k)

/-- the weights into the hidden layer, and out of it. -/
def into (W : Vec Ideal S1024x2816 .bf16) : Fin 1024 → Fin 2816 → EReal := fun k n => W (ix2 k n)

def outOf (W : Vec Ideal S2816x1024 .bf16) : Fin 2816 → Fin 1024 → EReal := fun n y => W (ix2 n y)

/-- Row `x` of the half of a block that starts at row `p`. -/
def halfRow (p : ℕ) (hp : p + 512 ≤ 1024) (x : Fin 512) : Fin 1024 := ⟨p + x.val, by omega⟩

section Step
variable {κ₄ κ₅ κ₆ κ₉ : Kind} {sp₄ sp₅ sp₆ sp₉ : Space} {sig₄ sig₅ sig₆ sig₉ : RefSig}
  (v₄ : View sig₄ κ₄ sp₄ S1024x2816 .bf16) (v₅ : View sig₅ κ₅ sp₅ S1024x2816 .bf16) (v₆ : View sig₆ κ₆ sp₆ S2816x1024 .bf16)
  (v₉ : View sig₉ κ₉ sp₉ S1024x1024 .f32)
  (f₄ : v₄.ty.Contents (Elt Ideal)) (f₅ : v₅.ty.Contents (Elt Ideal)) (f₆ : v₆.ty.Contents (Elt Ideal))
  (X : Vec Ideal S512x1024 .bf16) (xr : Fin 512 → Fin 1024 → EReal) (hX : ∀ x k, X (ix2 x k) = xr x k)
  (G U : Vec Ideal S1024x2816 .bf16) (D : Vec Ideal S2816x1024 .bf16)
  (hG : v₄.read (Elt Ideal) f₄ = G) (hU : v₅.read (Elt Ideal) f₅ = U) (hD : v₆.read (Elt Ideal) f₆ = D)
include hX hG hU hD

/-- A tile's columns and rows of the three weight tables, loaded and multiplied. -/
theorem tile_loads (f o : ℕ) (hf : f < 11) (ho : o = 256 * f)
    (inb₄ inb₅ : ∀ a, (![0, o] : Fin 2 → ℕ) a + S1024x256.size a ≤ S1024x2816.size a)
    (inb₆ : ∀ a, (![o, 0] : Fin 2 → ℕ) a + S256x1024.size a ≤ S2816x1024.size a) (x : Fin 512) (y : Fin 1024) :
    ∑ κ : Fin 256, unit (fun k => X (ix2 x k))
        (fun k => (v₄.readAt (Elt Ideal) (Rect.unit (s := S1024x2816) ![0, o] S1024x256.size inb₄).toLoadRect f₄ : Vec Ideal S1024x256 .bf16) (ix2 k κ))
        (fun k => (v₅.readAt (Elt Ideal) (Rect.unit (s := S1024x2816) ![0, o] S1024x256.size inb₅).toLoadRect f₅ : Vec Ideal S1024x256 .bf16) (ix2 k κ)) *
        (v₆.readAt (Elt Ideal) (Rect.unit (s := S2816x1024) ![o, 0] S256x1024.size inb₆).toLoadRect f₆ : Vec Ideal S256x1024 .bf16) (ix2 κ y) =
      tile (xr x) (into G) (into U) (outOf D) y ⟨f, hf⟩ := by
  subst ho hG hU hD
  refine Finset.sum_congr rfl fun κ _ => ?_
  have hκ := κ.isLt
  have hx : (fun k => X (ix2 x k)) = xr x := funext (hX x)
  rw [hx]
  refine congrArg₂ (· * ·) (congrArg₂ (unit (xr x)) (funext fun k => ?_) (funext fun k => ?_)) ?_
  · refine (load_rect₂ v₄ f₄ 0 (256 * f) (by decide) (by omega) inb₄ k κ).trans (congrArg _ ?_)
    exact congrArg₂ ix2 (Fin.ext (Nat.zero_add _)) rfl
  · refine (load_rect₂ v₅ f₅ 0 (256 * f) (by decide) (by omega) inb₅ k κ).trans (congrArg _ ?_)
    exact congrArg₂ ix2 (Fin.ext (Nat.zero_add _)) rfl
  · refine (load_rect₂ v₆ f₆ (256 * f) 0 (by omega) (by decide) inb₆ κ y).trans (congrArg _ ?_)
    exact congrArg₂ ix2 rfl (Fin.ext (Nat.zero_add _))

/-- The running sum read back after the first tile is stored, -/
theorem first (p : ℕ) (inb₄ inb₅ inb₆) (inb₉ : ∀ a, (![p, 0] : Fin 2 → ℕ) a + S512x1024.size a ≤ S1024x1024.size a)
    (w : Vec Ideal S512x1024 .f32) (L : List (View.Piece (Elt Ideal) S1024x1024 .f32))
    (hw : w = accFirst X (v₄.readAt (Elt Ideal) (Rect.unit (s := S1024x2816) ![0, 0] S1024x256.size inb₄).toLoadRect f₄)
      (v₅.readAt (Elt Ideal) (Rect.unit (s := S1024x2816) ![0, 0] S1024x256.size inb₅).toLoadRect f₅)
      (v₆.readAt (Elt Ideal) (Rect.unit (s := S2816x1024) ![0, 0] S256x1024.size inb₆).toLoadRect f₆)) (x : Fin 512) (y : Fin 1024) :
    (v₉.readCov (⟨Rect.unit (s := S1024x1024) ![p, 0] S512x1024.size inb₉, w⟩ :: L)
      (Rect.unit (s := S1024x1024) ![p, 0] S512x1024.size inb₉).toLoadRect : Vec Ideal S512x1024 .f32) (ix2 x y) =
      upTo (xr x) (into G) (into U) (outOf D) y 0 (by decide) := by
  subst hw
  refine (congrFun (View.readCov_cons_toLoadRect v₉ (Rect.unit (s := S1024x1024) ![p, 0] S512x1024.size inb₉) _ L) (ix2 x y)).trans ?_
  refine (accFirst_apply _ _ _ _ x y).trans ?_
  exact tile_loads v₄ v₅ v₆ f₄ f₅ f₆ X xr hX G U D hG hU hD 0 0 (by decide) rfl inb₄ inb₅ inb₆ x y

/-- and after a later one is added. -/
theorem next (A : Vec Ideal S512x1024 .f32) (f o : ℕ) (hf : f + 1 < 11) (ho : o = 256 * (f + 1))
    (hA : ∀ x y, A (ix2 x y) = upTo (xr x) (into G) (into U) (outOf D) y f (by omega))
    (p : ℕ) (inb₄ inb₅ inb₆) (inb₉ : ∀ a, (![p, 0] : Fin 2 → ℕ) a + S512x1024.size a ≤ S1024x1024.size a)
    (w : Vec Ideal S512x1024 .f32) (L : List (View.Piece (Elt Ideal) S1024x1024 .f32))
    (hw : w = accNext A X (v₄.readAt (Elt Ideal) (Rect.unit (s := S1024x2816) ![0, o] S1024x256.size inb₄).toLoadRect f₄)
      (v₅.readAt (Elt Ideal) (Rect.unit (s := S1024x2816) ![0, o] S1024x256.size inb₅).toLoadRect f₅)
      (v₆.readAt (Elt Ideal) (Rect.unit (s := S2816x1024) ![o, 0] S256x1024.size inb₆).toLoadRect f₆)) (x : Fin 512) (y : Fin 1024) :
    (v₉.readCov (⟨Rect.unit (s := S1024x1024) ![p, 0] S512x1024.size inb₉, w⟩ :: L)
      (Rect.unit (s := S1024x1024) ![p, 0] S512x1024.size inb₉).toLoadRect : Vec Ideal S512x1024 .f32) (ix2 x y) =
      upTo (xr x) (into G) (into U) (outOf D) y (f + 1) hf := by
  subst hw
  refine (congrFun (View.readCov_cons_toLoadRect v₉ (Rect.unit (s := S1024x1024) ![p, 0] S512x1024.size inb₉) _ L) (ix2 x y)).trans ?_
  refine (accNext_apply _ _ _ _ _ x y).trans ?_
  rw [hA x y]
  exact congrArg (_ + ·) (tile_loads v₄ v₅ v₆ f₄ f₅ f₆ X xr hX G U D hG hU hD (f + 1) o hf ho inb₄ inb₅ inb₆ x y)

end Step

section Run
variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S1x1024 .f32) (harg3 : arg3.IsWhole)
  (arg4 : Memref sig .tc .vmem S1024x2816 .bf16) (harg4 : arg4.IsWhole) (arg5 : Memref sig .tc .vmem S1024x2816 .bf16) (harg5 : arg5.IsWhole)
  (arg6 : Memref sig .tc .vmem S2816x1024 .bf16) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1024x1024 .f32) (harg9 : arg9.IsWhole)
  (x0 : Vec Ideal S1024x1024 .f32) (x1 x2 : Vec Ideal S1x1024 .f32) (x3 x4 : Vec Ideal S1024x2816 .bf16) (x5 : Vec Ideal S2816x1024 .bf16)

/-- The normalised rows of the half that starts at row `p`. -/
def rowsIn (p : ℕ) (hp : p + 512 ≤ 1024) (x : Fin 512) : Fin 1024 → EReal := rms (row x0 (halfRow p hp x)) (gains x1)

/-- Half of a block of rows, loaded. -/
theorem load_rows (p : ℕ) (hp : p + 512 ≤ 1024) (inb : ∀ a, (![p, 0] : Fin 2 → ℕ) a + S512x1024.size a ≤ S1024x1024.size a)
    (x : Fin 512) (y : Fin 1024) :
    (arg1.view.readAt (Elt Ideal) (Rect.unit (s := S1024x1024) ![p, 0] S512x1024.size inb).toLoadRect (harg1.unread x0) : Vec Ideal S512x1024 .f32) (ix2 x y) =
      row x0 (halfRow p hp x) y := by
  refine (load_rect₂ arg1.view (harg1.unread x0) p 0 hp (by decide) inb x y).trans ?_
  rw [harg1.read_unread]
  exact congrArg x0 (congrArg₂ ix2 rfl (Fin.ext (Nat.zero_add _)))

/-- A row of gains, loaded. -/
theorem load_gains (inb : ∀ a, (![0, 0] : Fin 2 → ℕ) a + S1x1024.size a ≤ S1x1024.size a) (y : Fin 1024) :
    (arg2.view.readAt (Elt Ideal) (Rect.unit (s := S1x1024) ![0, 0] S1x1024.size inb).toLoadRect (harg2.unread x1) : Vec Ideal S1x1024 .f32) (ix2 0 y) =
      gains x1 y := by
  refine (load_rect₂ arg2.view (harg2.unread x1) 0 0 (by decide) (by decide) inb 0 y).trans ?_
  rw [harg2.read_unread]
  exact congrArg x1 (congrArg₂ ix2 rfl (Fin.ext (Nat.zero_add _)))

/-- What the body stores of one half's normalised rows. -/
theorem norm_loads (p : ℕ) (hp : p + 512 ≤ 1024) (inb inb') (x : Fin 512) (y : Fin 1024) :
    normIn (arg1.view.readAt (Elt Ideal) (Rect.unit (s := S1024x1024) ![p, 0] S512x1024.size inb).toLoadRect (harg1.unread x0))
      (arg2.view.readAt (Elt Ideal) (Rect.unit (s := S1x1024) ![0, 0] S1x1024.size inb').toLoadRect (harg2.unread x1)) (ix2 x y) =
      rowsIn x0 x1 p hp x y := by
  refine (normIn_apply _ _ x y).trans ?_
  exact congrArg₂ (fun a b => rms a b y) (funext (load_rows arg1 harg1 x0 p hp inb x)) (funext (load_gains arg2 harg2 x1 inb'))

theorem xn_first (x : Fin 512) (k : Fin 1024) :
    kernelRun0_A.sl.v19 (F := Ideal) c arg1 harg1 arg2 harg2 arg8 x0 x1 (ix2 x k) = rowsIn x0 x1 0 (by decide) x k := by
  delta kernelRun0_A.sl.v19 kernelRun0_A.sl.HS0_1
  refine (congrFun (View.readCov_cons_toLoadRect _ _ _ _) _).trans ?_
  exact norm_loads arg1 harg1 arg2 harg2 x0 x1 0 (by decide) _ _ x k

theorem xn_low (x : Fin 512) (k : Fin 1024) :
    kernelRun0_A.sl.v45 (F := Ideal) c arg1 harg1 arg2 harg2 arg8 x0 x1 (ix2 x k) = rowsIn x0 x1 0 (by decide) x k := by
  refine Eq.trans (congrFun ?_ _) (xn_first c arg1 harg1 arg2 harg2 arg8 x0 x1 x k)
  delta kernelRun0_A.sl.v45 kernelRun0_A.sl.v19 kernelRun0_A.sl.HS0_2
  exact View.readCov_cons_of_rows_disjoint arg8.view 512 0 (.inr (le_refl _)) _ _ _ _

theorem xn_high (x : Fin 512) (k : Fin 1024) :
    kernelRun0_A.sl.v233 (F := Ideal) c arg1 harg1 arg2 harg2 arg8 x0 x1 (ix2 x k) = rowsIn x0 x1 512 (by decide) x k := by
  delta kernelRun0_A.sl.v233 kernelRun0_A.sl.HS0_2
  refine (congrFun (View.readCov_cons_toLoadRect _ _ _ _) _).trans ?_
  exact norm_loads arg1 harg1 arg2 harg2 x0 x1 512 (by decide) _ _ x k

end Run

end Cert.FeedForward

end
-- ==== Proof.Ffn.Chain.lean ====
/- The running sums of one run of the body: after each tile is added, both halves' accumulators hold the tiles so far. -/
module

public import proofs.«01_k».proof.Proof.Ffn.Run

@[expose] public section

set_option maxRecDepth 16384

noncomputable section

namespace Cert.FeedForward

open Idealize.ShloMosaic Idealize.ShloMosaic.TcCoe Idealize.SL.Sem
open Cert.FfnIdeal Cert.FfnIdeal.Gen

variable (c : Dev nD) (arg1 : Memref sig .tc .vmem S1024x1024 .f32) (harg1 : arg1.IsWhole)
  (arg2 : Memref sig .tc .vmem S1x1024 .f32) (harg2 : arg2.IsWhole)
  (arg4 : Memref sig .tc .vmem S1024x2816 .bf16) (harg4 : arg4.IsWhole) (arg5 : Memref sig .tc .vmem S1024x2816 .bf16) (harg5 : arg5.IsWhole)
  (arg6 : Memref sig .tc .vmem S2816x1024 .bf16) (harg6 : arg6.IsWhole)
  (arg8 : Memref sig .tc .vmem S1024x1024 .bf16) (arg9 : Memref sig .tc .vmem S1024x1024 .f32)
  (x0 : Vec Ideal S1024x1024 .f32) (x1 : Vec Ideal S1x1024 .f32) (x3 x4 : Vec Ideal S1024x2816 .bf16) (x5 : Vec Ideal S2816x1024 .bf16)

/-- The tiles up to `f`, for the half that starts at row `p`. -/
def sofar (p : ℕ) (hp : p + 512 ≤ 1024) (f : ℕ) (hf : f < 11) (x : Fin 512) (y : Fin 1024) : EReal :=
  upTo (rowsIn x0 x1 p hp x) (into x3) (into x4) (outOf x5) y f hf

/-! The lower half. -/
theorem low_0 (x : Fin 512) (y : Fin 1024) :
    kernelRun0_A.sl.v76 (F := Ideal) c arg1 harg1 arg2 harg2 arg4 harg4 arg5 harg5 arg6 harg6 arg8 arg9 x0 x1 x3 x4 x5 (ix2 x y) = sofar x0 x1 x3 x4 x5 0 (by decide) 0 (by decide) x y := by
  delta kernelRun0_A.sl.v76 kernelRun0_A.sl.HS1_1 kernelRun0_A.sl.r kernelRun0_A.sl.r_1
  exact first arg4.view arg5.view arg6.view arg9.view _ _ _ _ _
    (xn_first c arg1 harg1 arg2 harg2 arg8 x0 x1) x3 x4 x5 (harg4.read_unread _) (harg5.read_unread _) (harg6.read_unread _) 0 _ _ _ _ _ _ rfl x y

theorem low_1 (x : Fin 512) (y : Fin 1024) :
    kernelRun0_A.sl.v95 (F := Ideal) c arg1 harg1 arg2 harg2 arg4 harg4 arg5 harg5 arg6 harg6 arg8 arg9 x0 x1 x3 x4 x5 (ix2 x y) = sofar x0 x1 x3 x4 x5 0 (by decide) 1 (by decide) x y := by
  delta kernelRun0_A.sl.v95 kernelRun0_A.sl.HS1_2 kernelRun0_A.sl.r_5 kernelRun0_A.sl.r_6
  exact next arg4.view arg5.view arg6.view arg9.view _ _ _ _ _
    (xn_low c arg1 harg1 arg2 harg2 arg8 x0 x1) x3 x4 x5 (harg4.read_unread _) (harg5.read_unread _) (harg6.read_unread _) _ 0 256 (by decide) rfl
    (low_0 c arg1 harg1 arg2 harg2 arg4 harg4 arg5 harg5 arg6 harg6 arg8 arg9 x0 x1 x3 x4 x5) 0 _ _ _ _ _ _ rfl x y

theorem low_2 (x : Fin 512) (y : Fin 1024) :
    kernelRun0_A.sl.v114 (F := Ideal) c arg1 harg1 arg2 harg2 arg4 harg4 arg5 harg5 arg6 harg6 arg8 arg9 x0 x1 x3 x4 x5 (ix2 x y) = sofar x0 x1 x3 x4 x5 0 (by decide) 2 (by decide) x y := by
  delta kernelRun0_A.sl.v114 kernelRun0_A.sl.HS1_3 kernelRun0_A.sl.r_7 kernelRun0_A.sl.r_8
  exact next arg4.view arg5.view arg6.view arg9.view _ _ _ _ _
    (xn_low c arg1 harg1 arg2 harg2 arg8 x0 x1) x3 x4 x5 (harg4.read_unread _) (harg5.read_unread _) (harg6.read_unread _) _ 1 512 (by decide) rfl
    (low_1 c arg1 harg1 arg2 harg2 arg4 harg4 arg5 harg5 arg6 harg6 arg8 arg9 x0 x1 x3 x4 x5) 0 _ _ _ _ _ _ rfl x y

theorem low_3 (x : Fin 512) (y : Fin 1024) :
    kernelRun0_A.sl.v133 (F := Ideal) c arg1 harg1 arg2 harg2 arg4 harg4 arg5 harg5 arg6 harg6 arg8 arg9 x0 x1 x3 x4 x5 (ix2 x y) = sofar x0 x1 x3 x4 x5 0 (by decide) 3 (by decide) x y := by
  delta kernelRun0_A.sl.v133 kernelRun0_A.sl.HS1_4 kernelRun0_A.sl.r_9 kernelRun0_A.sl.r_10
  exact next arg4.view arg5.view arg6.view arg9.view _ _ _ _ _
    (xn_low c arg1 harg1 arg2 harg2 arg8 x0 x1) x3 x4 x5 (harg4.read_unread _) (harg5.read_unread _) (harg6.read_unread _) _ 2 768 (by decide) rfl
    (low_2 c arg1 harg1 arg2 harg2 arg4 harg4 arg5 harg5 arg6 harg6 arg8 arg9 x0 x1 x3 x4 x5) 0 _ _ _ _ _ _ rfl x y

theorem low_4 (x : Fin 512) (y : Fin 1024) :
    kernelRun0_A.sl.v152 (F := Ideal) c arg1 harg1 arg2 harg2 arg4 harg4 arg5 harg5 arg6 harg6 arg8 arg9 x0 x1 x3 x4 x5 (ix2 x y) = sofar x0 x1 x3 x4 x5 0 (by decide) 4 (by decide) x y := by
  delta kernelRun0_A.sl.v152 kernelRun0_A.sl.HS1_5 kernelRun0_A.sl.r_13
  exact next arg4.view arg5.view arg6.view arg9.view _ _ _ _ _
    (xn_low c arg1 harg1 arg2 harg2 arg8 x0 x1) x3 x4 x5 (harg4.read_unread _) (harg5.read_unread _) (harg6.read_unread _) _ 3 1024 (by decide) rfl
    (low_3 c arg1 harg1 arg2 harg2 arg4 harg4 arg5 harg5 arg6 harg6 arg8 arg9 x0 x1 x3 x4 x5) 0 _ _ _ _ _ _ rfl x y

theorem low_5 (x : Fin 512) (y : Fin 1024) :
    kernelRun0_A.sl.v171 (F := Ideal) c arg1 harg1 arg2 harg2 arg4 harg4 arg5 harg5 arg6 harg6 arg8 arg9 x0 x1 x3 x4 x5 (ix2 x y) = sofar x0 x1 x3 x4 x5 0 (by decide) 5 (by decide) x y := by
  delta kernelRun0_A.sl.v171 kernelRun0_A.sl.HS1_6 kernelRun0_A.sl.r_11 kernelRun0_A.sl.r_12
  exact next arg4.view arg5.view arg6.view arg9.view _ _ _ _ _
    (xn_low c arg1 harg1 arg2 harg2 arg8 x0 x1) x3 x4 x5 (harg4.read_unread _) (harg5.read_unread _) (harg6.read_unread _) _ 4 1280 (by decide) rfl
    (low_4 c arg1 harg1 arg2 harg2 arg4 harg4 arg5 harg5 arg6 harg6 arg8 arg9 x0 x1 x3 x4 x5) 0 _ _ _ _ _ _ rfl x y

theorem low_6 (x : Fin 512) (y : Fin 1024) :
    kernelRun0_A.sl.v190 (F := Ideal) c arg1 harg1 arg2 harg2 arg4 harg4 arg5 harg5 arg6 harg6 arg8 arg9 x0 x1 x3 x4 x5 (ix2 x y) = sofar x0 x1 x3 x4 x5 0 (by decide) 6 (by decide) x y := by
  delta kernelRun0_A.sl.v190 kernelRun0_A.sl.HS1_7 kernelRun0_A.sl.r_16
  exact next arg4.view arg5.view arg6.view arg9.view _ _ _ _ _
    (xn_low c arg1 harg1 arg2 harg2 arg8 x0 x1) x3 x4 x5 (harg4.read_unread _) (harg5.read_unread _) (harg6.read_unread _) _ 5 1536 (by decide) rfl
    (low_5 c arg1 harg1 arg2 harg2 arg4 harg4 arg5 harg5 arg6 harg6 arg8 arg9 x0 x1 x3 x4 x5) 0 _ _ _ _ _ _ rfl x y

theorem low_7 (x : Fin 512) (y : Fin 1024) :
    kernelRun0_A.sl.v209 (F := Ideal) c arg1 harg1 arg2 harg2 arg4 harg4 arg5 harg5 arg6 harg6 arg8 arg9 x0 x1 x3 x4 x5 (ix2 x y) = sofar x0 x1 x3 x4 x5 0 (by decide) 7 (by decide) x y := by
  delta kernelRun0_A.sl.v209 kernelRun0_A.sl.HS1_8 kernelRun0_A.sl.r_14 kernelRun0_A.sl.r_15
  exact next arg4.view arg5.view arg6.view arg9.view _ _ _ _ _
    (xn_low c arg1 harg1 arg2 harg2 arg8 x0 x1) x3 x4 x5 (harg4.read_unread _) (harg5.read_unread _) (harg6.read_unread _) _ 6 1792 (by decide) rfl
    (low_6 c arg1 harg1 arg2 harg2 arg4 harg4 arg5 harg5 arg6 harg6 arg8 arg9 x0 x1 x3 x4 x5) 0 _ _ _ _ _ _ rfl x y

theorem low_8 (x : Fin 512) (y : Fin 1024) :
    kernelRun0_A.sl.v228 (F := Ideal) c arg1 harg1 arg2 harg2 arg4 harg4 arg5 harg5 arg6 harg6 arg8 arg9 x0 x1 x3 x4 x5 (ix2 x y) = sofar x0 x1 x3 x4 x5 0 (by decide) 8 (by decide) x y := by
  delta kernelRun0_A.sl.v228 kernelRun0_A.sl.HS1_9 kernelRun0_A.sl.r_17 kernelRun0_A.sl.r_18
  exact next arg4.view arg5.view arg6.view arg9.view _ _ _ _ _
    (xn_low c arg1 harg1 arg2 harg2 arg8 x0 x1) x3 x4 x5 (harg4.read_unread _) (harg5.read_unread _) (harg6.read_unread _) _ 7 2048 (by decide) rfl
    (low_7 c arg1 harg1 arg2 harg2 arg4 harg4 arg5 harg5 arg6 harg6 arg8 arg9 x0 x1 x3 x4 x5) 0 _ _ _ _ _ _ rfl x y

theorem low_9 (x : Fin 512) (y : Fin 1024) :
    kernelRun0_A.sl.v247 (F := Ideal) c arg1 harg1 arg2 harg2 arg4 harg4 arg5 harg5 arg6 harg6 arg8 arg9 x0 x1 x3 x4 x5 (ix2 x y) = sofar x0 x1 x3 x4 x5 0 (by decide) 9 (by decide) x y := by
  delta kernelRun0_A.sl.v247 kernelRun0_A.sl.HS1_10 kernelRun0_A.sl.r_19
  exact next arg4.view arg5.view arg6.view arg9.view _ _ _ _ _
    (xn_low c arg1 harg1 arg2 harg2 arg8 x0 x1) x3 x4 x5 (harg4.read_unread _) (harg5.read_unread _) (harg6.read_unread _) _ 8 2304 (by decide) rfl
    (low_8 c arg1 harg1 arg2 harg2 arg4 harg4 arg5 harg5 arg6 harg6 arg8 arg9 x0 x1 x3 x4 x5) 0 _ _ _ _ _ _ rfl x y

theorem low_10 (x : Fin 512) (y : Fin 1024) :
    kernelRun0_A.sl.v253 (F := Ideal) c arg1 harg1 arg2 harg2 arg4 harg4 arg5 harg5 arg6 harg6 arg8 arg9 x0 x1 x3 x4 x5 (ix2 x y) = sofar x0 x1 x3 x4 x5 0 (by decide) 10 (by decide) x y := by
  delta kernelRun0_A.sl.v253 kernelRun0_A.sl.HS1_11 kernelRun0_A.sl.r_20 kernelRun0_A.sl.r_21
  exact next arg4.view arg5.view arg6.view arg9.view _ _ _ _ _
    (xn_low c arg1 harg1 arg2 harg2 arg8 x0 x1) x3 x4 x5 (harg4.read_unread _) (harg5.read_unread _) (harg6.read_unread _) _ 9 2560 (by decide) rfl
    (low_9 c arg1 harg1 arg2 harg2 arg4 harg4 arg5 harg5 arg6 harg6 arg8 arg9 x0 x1 x3 x4 x5) 0 _ _ _ _ _ _ rfl x y

/-! The upper half. -/

theorem high_0 (x : Fin 512) (y : Fin 1024) :
    kernelRun0_A.sl.v303 (F := Ideal) c arg1 harg1 arg2 harg2 arg4 harg4 arg5 harg5 arg6 harg6 arg8 arg9 x0 x1 x3 x4 x5 (ix2 x y) = sofar x0 x1 x3 x4 x5 512 (by decide) 0 (by decide) x y := by
  delta kernelRun0_A.sl.v303 kernelRun0_A.sl.HS1_12 kernelRun0_A.sl.r_22 kernelRun0_A.sl.r_23
  exact first arg4.view arg5.view arg6.view arg9.view _ _ _ _ _
    (xn_high c arg1 harg1 arg2 harg2 arg8 x0 x1) x3 x4 x5 (harg4.read_unread _) (harg5.read_unread _) (harg6.read_unread _) 512 _ _ _ _ _ _ rfl x y

theorem high_1 (x : Fin 512) (y : Fin 1024) :
    kernelRun0_A.sl.v322 (F := Ideal) c arg1 harg1 arg2 harg2 arg4 harg4 arg5 harg5 arg6 harg6 arg8 arg9 x0 x1 x3 x4 x5 (ix2 x y) = sofar x0 x1 x3 x4 x5 512 (by decide) 1 (by decide) x y := by
  delta kernelRun0_A.sl.v322 kernelRun0_A.sl.HS1_13 kernelRun0_A.sl.r_28
  exact next arg4.view arg5.view arg6.view arg9.view _ _ _ _ _
    (xn_high c arg1 harg1 arg2 harg2 arg8 x0 x1) x3 x4 x5 (harg4.read_unread _) (harg5.read_unread _) (harg6.read_unread _) _ 0 256 (by decide) rfl
    (high_0 c arg1 harg1 arg2 harg2 arg4 harg4 arg5 harg5 arg6 harg6 arg8 arg9 x0 x1 x3 x4 x5) 512 _ _ _ _ _ _ rfl x y

theorem high_2 (x : Fin 512) (y : Fin 1024) :
    kernelRun0_A.sl.v341 (F := Ideal) c arg1 harg1 arg2 harg2 arg4 harg4 arg5 harg5 arg6 harg6 arg8 arg9 x0 x1 x3 x4 x5 (ix2 x y) = sofar x0 x1 x3 x4 x5 512 (by decide) 2 (by decide) x y := by
  delta kernelRun0_A.sl.v341 kernelRun0_A.sl.HS1_14 kernelRun0_A.sl.r_26 kernelRun0_A.sl.r_27
  exact next arg4.view arg5.view arg6.view arg9.view _ _ _ _ _
    (xn_high c arg1 harg1 arg2 harg2 arg8 x0 x1) x3 x4 x5 (harg4.read_unread _) (harg5.read_unread _) (harg6.read_unread _) _ 1 512 (by decide) rfl
    (high_1 c arg1 harg1 arg2 harg2 arg4 harg4 arg5 harg5 arg6 harg6 arg8 arg9 x0 x1 x3 x4 x5) 512 _ _ _ _ _ _ rfl x y

theorem high_3 (x : Fin 512) (y : Fin 1024) :
    kernelRun0_A.sl.v360 (F := Ideal) c arg1 harg1 arg2 harg2 arg4 harg4 arg5 harg5 arg6 harg6 arg8 arg9 x0 x1 x3 x4 x5 (ix2 x y) = sofar x0 x1 x3 x4 x5 512 (by decide) 3 (by decide) x y := by
  delta kernelRun0_A.sl.v360 kernelRun0_A.sl.HS1_15 kernelRun0_A.sl.r_29 kernelRun0_A.sl.r_30
  exact next arg4.view arg5.view arg6.view arg9.view _ _ _ _ _
    (xn_high c arg1 harg1 arg2 harg2 arg8 x0 x1) x3 x4 x5 (harg4.read_unread _) (harg5.read_unread _) (harg6.read_unread _) _ 2 768 (by decide) rfl
    (high_2 c arg1 harg1 arg2 harg2 arg4 harg4 arg5 harg5 arg6 harg6 arg8 arg9 x0 x1 x3 x4 x5) 512 _ _ _ _ _ _ rfl x y

theorem high_4 (x : Fin 512) (y : Fin 1024) :
    kernelRun0_A.sl.v379 (F := Ideal) c arg1 harg1 arg2 harg2 arg4 harg4 arg5 harg5 arg6 harg6 arg8 arg9 x0 x1 x3 x4 x5 (ix2 x y) = sofar x0 x1 x3 x4 x5 512 (by decide) 4 (by decide) x y := by
  delta kernelRun0_A.sl.v379 kernelRun0_A.sl.HS1_16 kernelRun0_A.sl.r_31
  exact next arg4.view arg5.view arg6.view arg9.view _ _ _ _ _
    (xn_high c arg1 harg1 arg2 harg2 arg8 x0 x1) x3 x4 x5 (harg4.read_unread _) (harg5.read_unread _) (harg6.read_unread _) _ 3 1024 (by decide) rfl
    (high_3 c arg1 harg1 arg2 harg2 arg4 harg4 arg5 harg5 arg6 harg6 arg8 arg9 x0 x1 x3 x4 x5) 512 _ _ _ _ _ _ rfl x y

theorem high_5 (x : Fin 512) (y : Fin 1024) :
    kernelRun0_A.sl.v398 (F := Ideal) c arg1 harg1 arg2 harg2 arg4 harg4 arg5 harg5 arg6 harg6 arg8 arg9 x0 x1 x3 x4 x5 (ix2 x y) = sofar x0 x1 x3 x4 x5 512 (by decide) 5 (by decide) x y := by
  delta kernelRun0_A.sl.v398 kernelRun0_A.sl.HS1_17 kernelRun0_A.sl.r_32 kernelRun0_A.sl.r_33
  exact next arg4.view arg5.view arg6.view arg9.view _ _ _ _ _
    (xn_high c arg1 harg1 arg2 harg2 arg8 x0 x1) x3 x4 x5 (harg4.read_unread _) (harg5.read_unread _) (harg6.read_unread _) _ 4 1280 (by decide) rfl
    (high_4 c arg1 harg1 arg2 harg2 arg4 harg4 arg5 harg5 arg6 harg6 arg8 arg9 x0 x1 x3 x4 x5) 512 _ _ _ _ _ _ rfl x y

theorem high_6 (x : Fin 512) (y : Fin 1024) :
    kernelRun0_A.sl.v417 (F := Ideal) c arg1 harg1 arg2 harg2 arg4 harg4 arg5 harg5 arg6 harg6 arg8 arg9 x0 x1 x3 x4 x5 (ix2 x y) = sofar x0 x1 x3 x4 x5 512 (by decide) 6 (by decide) x y := by
  delta kernelRun0_A.sl.v417 kernelRun0_A.sl.HS1_18 kernelRun0_A.sl.r_36
  exact next arg4.view arg5.view arg6.view arg9.view _ _ _ _ _
    (xn_high c arg1 harg1 arg2 harg2 arg8 x0 x1) x3 x4 x5 (harg4.read_unread _) (harg5.read_unread _) (harg6.read_unread _) _ 5 1536 (by decide) rfl
    (high_5 c arg1 harg1 arg2 harg2 arg4 harg4 arg5 harg5 arg6 harg6 arg8 arg9 x0 x1 x3 x4 x5) 512 _ _ _ _ _ _ rfl x y

theorem high_7 (x : Fin 512) (y : Fin 1024) :
    kernelRun0_A.sl.v436 (F := Ideal) c arg1 harg1 arg2 harg2 arg4 harg4 arg5 harg5 arg6 harg6 arg8 arg9 x0 x1 x3 x4 x5 (ix2 x y) = sofar x0 x1 x3 x4 x5 512 (by decide) 7 (by decide) x y := by
  delta kernelRun0_A.sl.v436 kernelRun0_A.sl.HS1_19 kernelRun0_A.sl.r_34 kernelRun0_A.sl.r_35
  exact next arg4.view arg5.view arg6.view arg9.view _ _ _ _ _
    (xn_high c arg1 harg1 arg2 harg2 arg8 x0 x1) x3 x4 x5 (harg4.read_unread _) (harg5.read_unread _) (harg6.read_unread _) _ 6 1792 (by decide) rfl
    (high_6 c arg1 harg1 arg2 harg2 arg4 harg4 arg5 harg5 arg6 harg6 arg8 arg9 x0 x1 x3 x4 x5) 512 _ _ _ _ _ _ rfl x y

theorem high_8 (x : Fin 512) (y : Fin 1024) :
    kernelRun0_A.sl.v455 (F := Ideal) c arg1 harg1 arg2 harg2 arg4 harg4 arg5 harg5 arg6 harg6 arg8 arg9 x0 x1 x3 x4 x5 (ix2 x y) = sofar x0 x1 x3 x4 x5 512 (by decide) 8 (by decide) x y := by
  delta kernelRun0_A.sl.v455 kernelRun0_A.sl.HS1_20 kernelRun0_A.sl.r_37 kernelRun0_A.sl.r_38 kernelRun0_A.sl.r_41
  exact next arg4.view arg5.view arg6.view arg9.view _ _ _ _ _
    (xn_high c arg1 harg1 arg2 harg2 arg8 x0 x1) x3 x4 x5 (harg4.read_unread _) (harg5.read_unread _) (harg6.read_unread _) _ 7 2048 (by decide) rfl
    (high_7 c arg1 harg1 arg2 harg2 arg4 harg4 arg5 harg5 arg6 harg6 arg8 arg9 x0 x1 x3 x4 x5) 512 _ _ _ _ _ _ rfl x y

theorem high_9 (x : Fin 512) (y : Fin 1024) :
    kernelRun0_A.sl.v467 (F := Ideal) c arg1 harg1 arg2 harg2 arg4 harg4 arg5 harg5 arg6 harg6 arg8 arg9 x0 x1 x3 x4 x5 (ix2 x y) = sofar x0 x1 x3 x4 x5 512 (by decide) 9 (by decide) x y := by
  delta kernelRun0_A.sl.v467 kernelRun0_A.sl.HS1_21 kernelRun0_A.sl.r_39 kernelRun0_A.sl.r_40
  exact next arg4.view arg5.view arg6.view arg9.view _ _ _ _ _
    (xn_high c arg1 harg1 arg2 harg2 arg8 x0 x1) x3 x4 x5 (harg4.read_unread _) (harg5.read_unread _) (harg6.read_unread _) _ 8 2304 (by decide) rfl
    (high_8 c arg1 harg1 arg2 harg2 arg4 harg4 arg5 harg5 arg6 harg6 arg8 arg9 x0 x1 x3 x4 x5) 512 _ _ _ _ _ _ rfl x y

theorem high_10 (x : Fin 512) (y : Fin 1024) :
    kernelRun0_A.sl.v473 (F := Ideal) c arg1 harg1 arg2 harg2 arg4 harg4 arg5 harg5 arg6 harg6 arg8 arg9 x0 x1 x3 x4 x5 (ix2 x y) = sofar x0 x1 x3 x4 x5 512 (by decide) 10 (by decide) x y := by
  delta kernelRun0_A.sl.v473 kernelRun0_A.sl.HS1_22 kernelRun0_A.sl.r_42
  exact next arg4.view arg5.view arg6.view arg9.view _ _ _ _ _
    (xn_high c arg1 harg1 arg2 harg2 arg8 x0 x1) x3 x4 x5 (harg4.read_unread _) (harg5.read_unread _) (harg6.read_unread _) _ 9 2560 (by decide) rfl
    (high_9 c arg1 harg1 arg2 harg2 arg4 harg4 arg5 harg5 arg6 harg6 arg8 arg9 x0 x1 x3 x4 x5) 512 _ _ _ _ _ _ rfl x y

end Cert.FeedForward

end
-- ==== Proof.Ffn.Block.lean ====
/- The block one run of the body stores: the half-step of each of its rows. -/
module

public import proofs.«01_k».proof.Proof.Ffn.Chain

@[expose] public section

set_option maxRecDepth 16384

noncomputable section

namespace Cert.FeedForward

open Idealize.ShloMosaic Idealize.ShloMosaic.TcCoe Idealize.SL.Sem
open Cert.FfnIdeal Cert.FfnIdeal.Gen

section Rows
variable {sig : RefSig} {κ : Kind} {sp : Space} {e : EltTy} {Val : EltTy → Type} {A B : ℕ}

/-- After a band of rows is written, the band reads the payload; -/
theorem read_rows_hit {P : ℕ} (v : View sig κ sp ⟨2, ![A, B]⟩ e) (f : v.ty.Contents Val) (p : ℕ)
    (inb : ∀ a, (![p, 0] : Fin 2 → ℕ) a + (![P, B] : Fin 2 → ℕ) a ≤ (![A, B] : Fin 2 → ℕ) a)
    (w : (⟨2, ![P, B]⟩ : Shape).Idx → Val e) (L : List (View.Piece Val ⟨2, ![A, B]⟩ e)) (x : Fin P) (r : Fin A) (y : Fin B)
    (hr : r.val = p + x.val) :
    v.read Val (v.writes Val f (⟨Rect.unit ![p, 0] ![P, B] inb, w⟩ :: L)) (ix2 r y) = w (ix2 x y) := by
  refine View.read_writes_cons_hit_of_coords v f (Rect.unit (s := ⟨2, ![A, B]⟩) ![p, 0] ![P, B] inb) w L
    (show (⟨2, ![P, B]⟩ : Shape).Idx from ix2 x y) _ ?_
  intro a
  match a with
  | ⟨0, _⟩ => show r.val = p + 1 * x.val; omega
  | ⟨1, _⟩ => show y.val = 0 + 1 * y.val; omega

/-- a row outside it reads what it read before. -/
theorem read_rows_miss {P : ℕ} (v : View sig κ sp ⟨2, ![A, B]⟩ e) (f : v.ty.Contents Val) (p : ℕ)
    (inb : ∀ a, (![p, 0] : Fin 2 → ℕ) a + (![P, B] : Fin 2 → ℕ) a ≤ (![A, B] : Fin 2 → ℕ) a)
    (w : (⟨2, ![P, B]⟩ : Shape).Idx → Val e) (L : List (View.Piece Val ⟨2, ![A, B]⟩ e)) (r : Fin A) (y : Fin B)
    (hr : r.val < p ∨ p + P ≤ r.val) :
    v.read Val (v.writes Val f (⟨Rect.unit ![p, 0] ![P, B] inb, w⟩ :: L)) (ix2 r y) = v.read Val (v.writes Val f L) (ix2 r y) :=
  View.read_writes_cons_miss_of_axis v f _ L _ (0 : Fin 2) p P rfl rfl rfl hr

end Rows

section Run
variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S1x1024 .f32) (harg3 : arg3.IsWhole)
  (arg4 : Memref sig .tc .vmem S1024x2816 .bf16) (harg4 : arg4.IsWhole) (arg5 : Memref sig .tc .vmem S1024x2816 .bf16) (harg5 : arg5.IsWhole)
  (arg6 : Memref sig .tc .vmem S2816x1024 .bf16) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1024x1024 .f32) (harg9 : arg9.IsWhole)
  (x0 : Vec Ideal S1024x1024 .f32) (x1 x2 : Vec Ideal S1x1024 .f32) (x3 x4 : Vec Ideal S1024x2816 .bf16) (x5 : Vec Ideal S2816x1024 .bf16)

/-- The half-step of row `r` of the block. -/
def blockAt (r y : Fin 1024) : EReal := layer (row x0 r) (gains x1) (gains x2) (into x3) (into x4) (outOf x5) y

/-- What is stored of one half once its accumulator holds every tile. -/
theorem half_loads (A : Vec Ideal S512x1024 .f32) (p : ℕ) (hp : p + 512 ≤ 1024)
    (hA : ∀ x y, A (ix2 x y) = sofar x0 x1 x3 x4 x5 p hp 10 (by decide) x y) (inb inb') (x : Fin 512) (y : Fin 1024) :
    addHalf (arg1.view.readAt (Elt Ideal) (Rect.unit (s := S1024x1024) ![p, 0] S512x1024.size inb).toLoadRect (harg1.unread x0)) A
      (arg3.view.readAt (Elt Ideal) (Rect.unit (s := S1x1024) ![0, 0] S1x1024.size inb').toLoadRect (harg3.unread x2)) (ix2 x y) =
      blockAt x0 x1 x2 x3 x4 x5 (halfRow p hp x) y := by
  refine (addHalf_apply _ _ _ x y).trans ?_
  refine congrArg₂ (· + _ * ·) (load_rows arg1 harg1 x0 p hp inb x y) ?_
  refine congrArg₂ (fun a b => rms a b y) (funext fun k => (hA x k).trans ?_) (funext (load_gains arg3 harg3 x2 inb'))
  exact upTo_all _ _ _ _ k

/-- The block the body stores. -/
theorem out_read (r y : Fin 1024) :
    VO0_6.read (Elt Ideal) (VO0_6.writes (Elt Ideal) VO0_6.junk (kernelRun0_A (F := Ideal) c i arg1 harg1 arg2 harg2 arg3 harg3 arg4 harg4 arg5 harg5 arg6 harg6 arg7 harg7 arg8 harg8 arg9 harg9 x0 x1 x2 x3 x4 x5).1) (ix2 r y) =
      blockAt x0 x1 x2 x3 x4 x5 r y := by
  have hr := r.isLt
  delta kernelRun0_A
  dsimp only
  by_cases h : r.val < 512
  · refine (read_rows_miss _ _ _ _ _ _ _ _ (.inl h)).trans ?_
    refine (read_rows_hit _ _ _ _ _ _ ⟨r.val, h⟩ r y (Nat.zero_add _).symm).trans ?_
    delta kernelRun0_A.sl.r_24 kernelRun0_A.sl.r_25
    refine (half_loads arg1 harg1 arg3 harg3 x0 x1 x2 x3 x4 x5 _ 0 (by decide)
      (low_10 c arg1 harg1 arg2 harg2 arg4 harg4 arg5 harg5 arg6 harg6 arg8 arg9 x0 x1 x3 x4 x5) _ _ ⟨r.val, h⟩ y).trans ?_
    exact congrArg (blockAt x0 x1 x2 x3 x4 x5 · y) (Fin.ext (Nat.zero_add _))
  · refine (read_rows_hit _ _ _ _ _ _ ⟨r.val - 512, by omega⟩ r y (by show r.val = 512 + (r.val - 512); omega)).trans ?_
    delta kernelRun0_A.sl.r_43
    refine (half_loads arg1 harg1 arg3 harg3 x0 x1 x2 x3 x4 x5 _ 512 (by decide)
      (high_10 c arg1 harg1 arg2 harg2 arg4 harg4 arg5 harg5 arg6 harg6 arg8 arg9 x0 x1 x3 x4 x5) _ _ ⟨r.val - 512, by omega⟩ y).trans ?_
    exact congrArg (blockAt x0 x1 x2 x3 x4 x5 · y) (Fin.ext (by show 512 + (r.val - 512) = r.val; omega))

end Run

end Cert.FeedForward

end
-- ==== Proof.Ffn.Array.lean ====
/- From the body's block to the result array: 64 blocks of 1024 rows, the gains and the weights the same for all. -/
module

public import proofs.«01_k».proof.Proof.Ffn.Block
public import Idealize.ShloMosaic.Lib.Pipeline.ValueKit
public import Idealize.ShloMosaic.Lib.Claim

@[expose] public section

set_option maxRecDepth 16384

noncomputable section

namespace Cert.FeedForward

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![t.val, 0] := (by decide +kernel : ∀ t : Fin grid0.N, win0_6.index t = ![t.val, 0])

/-- The block of rows that starts at row `1024 t`. -/
def hBlock (h : Vec Ideal S65536x1024 .f32) (t : ℕ) (ht : t < 64) : Vec Ideal S1024x1024 .f32 :=
  fun j => h (ix2 ⟨1024 * t + (j 0).val, by have : (j 0).val < 1024 := (j 0).isLt; omega⟩ (j 1))

/-- The result array, entry by entry. -/
def result (h : Vec Ideal S65536x1024 .f32) (g₁ g₂ : Vec Ideal S1x1024 .f32) (G U : Vec Ideal S1024x2816 .bf16)
    (D : Vec Ideal S2816x1024 .bf16) : Vec Ideal S65536x1024 .f32 := fun i =>
  layer (fun k => h (ix2 (i 0) k)) (gains g₁) (gains g₂) (into G) (into U) (outOf D) (i 1)

variable (c : Dev nD)

theorem lt_N (t : Fin cfg0.N) : t.val < 64 := by have := t.isLt; have : cfg0.N = 64 := N_0; omega

theorem iblk_0 (t : Fin cfg0.N) : (iblk m c 0 t : Vec Ideal S1024x1024 .f32) = hBlock (V m c main_arg0) t.val (lt_N t) := by
  funext j
  show _ = V m c main_arg0 _
  blk_simp [iblk]
  refine congrArg _ ?_
  blk_ext [index_0 t]

theorem iblk_1 (t : Fin cfg0.N) : (iblk m c 1 t : Vec Ideal S1x1024 .f32) = V m c main_v0 := by
  funext j
  show _ = V m c main_v0 j
  blk_simp [iblk]
  refine congrArg _ ?_
  blk_ext [index_1 t]

theorem iblk_2 (t : Fin cfg0.N) : (iblk m c 2 t : Vec Ideal S1x1024 .f32) = V m c main_v1 := by
  funext j
  show _ = V m c main_v1 j
  blk_simp [iblk]
  refine congrArg _ ?_
  blk_ext [index_2 t]

theorem iblk_3 (t : Fin cfg0.N) : (iblk m c 3 t : Vec Ideal S1024x2816 .bf16) = V m c main_v2 := by
  funext j
  show _ = V m c main_v2 j
  blk_simp [iblk]
  refine congrArg _ ?_
  blk_ext [index_3 t]

theorem iblk_4 (t : Fin cfg0.N) : (iblk m c 4 t : Vec Ideal S1024x2816 .bf16) = V m c main_v3 := by
  funext j
  show _ = V m c main_v3 j
  blk_simp [iblk]
  refine congrArg _ ?_
  blk_ext [index_4 t]

theorem iblk_5 (t : Fin cfg0.N) : (iblk m c 5 t : Vec Ideal S2816x1024 .bf16) = V m c main_v4 := by
  funext j
  show _ = V m c main_v4 j
  blk_simp [iblk]
  refine congrArg _ ?_
  blk_ext [index_5 t]

/-- Entry by entry, the block a grid point stores. -/
theorem block (t : Fin cfg0.N) (r y : Fin 1024) :
    outsAt0 m c t (ix2 r y) = blockAt (iblk m c 0 t) (iblk m c 1 t) (iblk m c 2 t) (iblk m c 3 t) (iblk m c 4 t) (iblk m c 5 t) r y := by
  unfold outsAt0 out0_A_6
  exact out_read c _ _ _ _ _ _ _ _ _ _ _ _ _ _ _ _ _ _ _ _ _ _ _ _ _ r y

/-- Where the result array has what a grid point stores at `(r, y)`. -/
def place (t : Fin cfg0.N) (r y : Fin 1024) : S65536x1024.Idx :=
  ix2 ⟨1024 * t.val + r.val, by have := lt_N t; omega⟩ y

theorem result_place (t : Fin cfg0.N) (r y : Fin 1024) :
    result (V m c main_arg0) (V m c main_v0) (V m c main_v1) (V m c main_v2) (V m c main_v3) (V m c main_v4) (place t r y) =
      outsAt0 m c t (ix2 r y) := by
  rw [block, iblk_0, iblk_1, iblk_2, iblk_3, iblk_4, iblk_5]
  rfl

/-- The kernel's result array after the run. -/
theorem final : (dats m 0 c).arrAt 6 cfg0.N =
    result (V m c main_arg0) (V m c main_v0) (V m c main_v1) (V m c main_v2) (V m c main_v3) (V m c main_v4) := by
  refine (dats m 0 c).arrAt_eq_of_covers 6 _ (by decide +kernel) fun t hf y => ?_
  blk_simp
  rw [after0_6]
  refine (congrArg _ (ValueIdx.eq_ix2 y)).trans ?_
  refine (result_place m c t (y 0) (y 1)).symm.trans ?_
  refine congrArg _ ?_
  unfold place
  blk_ext [index_6 t]

/-- The program's arguments: the residual stream, the two gains, the three weight tables. -/
abbrev argH : Vec Ideal S65536x1024 .f32 := m (c.tc.loc main_arg0)
abbrev argA : Vec Ideal S1024 .f32 := m (c.tc.loc main_arg1)
abbrev argB : Vec Ideal S1024 .f32 := m (c.tc.loc main_arg2)
abbrev argG : Vec Ideal S1024x2816 .f32 := m (c.tc.loc main_arg3)
abbrev argU : Vec Ideal S1024x2816 .f32 := m (c.tc.loc main_arg4)
abbrev argD : Vec Ideal S2816x1024 .f32 := m (c.tc.loc main_arg5)

theorem host_h : (V m c main_arg0 : Vec Ideal S65536x1024 .f32) = argH m c := V_main_arg0 m c

theorem host_a (y : Fin 1024) : (V m c main_v0 : Vec Ideal S1x1024 .f32) (ix2 0 y) = argA m c (ix1 y) := by
  entry_read
  pointwise

theorem host_b (y : Fin 1024) : (V m c main_v1 : Vec Ideal S1x1024 .f32) (ix2 0 y) = argB m c (ix1 y) := by
  entry_read
  pointwise

theorem host_gate (k : Fin 1024) (n : Fin 2816) : (V m c main_v2 : Vec Ideal S1024x2816 .bf16) (ix2 k n) = argG m c (ix2 k n) := by
  entry_read
  pointwise

theorem host_up (k : Fin 1024) (n : Fin 2816) : (V m c main_v3 : Vec Ideal S1024x2816 .bf16) (ix2 k n) = argU m c (ix2 k n) := by
  entry_read
  pointwise

theorem host_down (n : Fin 2816) (y : Fin 1024) : (V m c main_v4 : Vec Ideal S2816x1024 .bf16) (ix2 n y) = argD m c (ix2 n y) := by
  entry_read
  pointwise

/-- The kernel's result over the program's arguments. -/
theorem result_eq (r : Fin 65536) (y : Fin 1024) :
    result (V m c main_arg0) (V m c main_v0) (V m c main_v1) (V m c main_v2) (V m c main_v3) (V m c main_v4) (ix2 r y) =
      layer (fun k => argH m c (ix2 r k)) (fun k => argA m c (ix1 k)) (fun k => argB m c (ix1 k))
        (fun k n => argG m c (ix2 k n)) (fun k n => argU m c (ix2 k n)) (fun n k => argD m c (ix2 n k)) y := by
  have e₀ : (fun k => (V m c main_arg0 : Vec Ideal S65536x1024 .f32) (ix2 r k)) = fun k => argH m c (ix2 r k) :=
    funext fun k => congrFun (host_h m c) _
  have e₁ : gains (V m c main_v0) = fun k => argA m c (ix1 k) := funext (host_a m c)
  have e₂ : gains (V m c main_v1) = fun k => argB m c (ix1 k) := funext (host_b m c)
  have e₃ : into (V m c main_v2) = fun k n => argG m c (ix2 k n) := funext fun k => funext (host_gate m c k)
  have e₄ : into (V m c main_v3) = fun k n => argU m c (ix2 k n) := funext fun k => funext (host_up m c k)
  have e₅ : outOf (V m c main_v4) = fun n k => argD m c (ix2 n k) := funext fun n => funext (host_down m c n)
  show layer (fun k => (V m c main_arg0 : Vec Ideal S65536x1024 .f32) (ix2 r k)) (gains (V m c main_v0)) (gains (V m c main_v1))
    (into (V m c main_v2)) (into (V m c main_v3)) (outOf (V m c main_v4)) y = _
  rw [e₀, e₁, e₂, e₃, e₄, e₅]

end Cert.FeedForward

end
-- ==== Proof.Ffn.Reference.lean ====
/- The reference, entry by entry: the half-step of the entry's row. -/
module

public import proofs.«01_k».proof.Proof.Gen.FfnReferenceIdeal.Read
public import proofs.«01_k».proof.Proof.Ffn.Layer
public import Idealize.ShloMosaic.Lib.Pointwise

@[expose] public section

set_option maxRecDepth 16384

noncomputable section

namespace Cert.FeedForward.Ref

open Idealize.ShloMosaic Idealize.ShloMosaic.TcCoe Idealize.SL.Sem
open Cert.FfnReferenceIdeal Cert.FfnReferenceIdeal.Gen Cert.FfnReferenceIdeal.Read

variable (h : Vec Ideal S65536x1024 .f32) (a b : Vec Ideal S1024 .f32) (G U : Vec Ideal S1024x2816 .f32)
  (D : Vec Ideal S2816x1024 .f32)

/-- The normalised residual stream. -/
theorem normed (r : Fin 65536) (y : Fin 1024) :
    (val_main_v12 (F := Ideal) h a : Vec Ideal S65536x1024 .f32) (ix2 r y) =
      rms (fun k => h (ix2 r k)) (fun k => a (ix1 k)) y := by
  unfold val_main_v12 val_main_v11 val_main_v10 val_main_v9 val_main_v8 val_main_v7 val_main_v6 val_main_v5 val_main_cst_1
    val_main_v4 val_main_v3 val_main_cst_0 val_main_v2 val_main_v1 val_main_cst val_main_v0
  pointwise
  rfl

/-- The hidden units. -/
theorem gated (r : Fin 65536) (n : Fin 2816) :
    (val_main_v16 (F := Ideal) h a G U : Vec Ideal S65536x2816 .f32) (ix2 r n) =
      unit (rms (fun k => h (ix2 r k)) (fun k => a (ix1 k))) (fun k => G (ix2 k n)) (fun k => U (ix2 k n)) := by
  have e : rms (fun k => h (ix2 r k)) (fun k => a (ix1 k)) =
      fun k => (val_main_v12 (F := Ideal) h a : Vec Ideal S65536x1024 .f32) (ix2 r k) := (funext (normed h a r)).symm
  rw [e]
  unfold val_main_v16 val_main_v15 val_main_v14 val_main_call0_v5 val_main_call0_v4 val_main_call0_cst_0 val_main_call0_v3
    val_main_call0_v2 val_main_call0_cst val_main_call0_v1 val_main_call0_v0 val_main_v13
  generalize val_main_v12 (F := Ideal) h a = X
  pointwise
  rfl

/-- The hidden layer's output. -/
theorem hidden_eq (r : Fin 65536) (y : Fin 1024) :
    (val_main_v17 (F := Ideal) h a G U D : Vec Ideal S65536x1024 .f32) (ix2 r y) =
      hidden (rms (fun k => h (ix2 r k)) (fun k => a (ix1 k))) (fun k n => G (ix2 k n)) (fun k n => U (ix2 k n))
        (fun n k => D (ix2 n k)) y := by
  have e : hidden (rms (fun k => h (ix2 r k)) (fun k => a (ix1 k))) (fun k n => G (ix2 k n)) (fun k n => U (ix2 k n))
        (fun n k => D (ix2 n k)) y =
      ∑ n : Fin 2816, (val_main_v16 (F := Ideal) h a G U : Vec Ideal S65536x2816 .f32) (ix2 r n) * D (ix2 n y) :=
    Finset.sum_congr rfl fun n _ => congrArg (· * _) (gated h a G U r n).symm
  rw [e]
  unfold val_main_v17
  generalize val_main_v16 (F := Ideal) h a G U = X
  pointwise

/-- The result. -/
theorem result (r : Fin 65536) (y : Fin 1024) :
    (val_main_v33 (F := Ideal) h a b G U D : Vec Ideal S65536x1024 .f32) (ix2 r y) =
      layer (fun k => h (ix2 r k)) (fun k => a (ix1 k)) (fun k => b (ix1 k)) (fun k n => G (ix2 k n)) (fun k n => U (ix2 k n))
        (fun n k => D (ix2 n k)) y := by
  unfold layer
  have e := (funext (hidden_eq h a G U D r)).symm
  rw [e]
  unfold val_main_v33 val_main_v32 val_main_v31 val_main_cst_5 val_main_v30 val_main_v29 val_main_v28 val_main_v27 val_main_v26
    val_main_v25 val_main_v24 val_main_v23 val_main_cst_4 val_main_v22 val_main_v21 val_main_cst_3 val_main_v20 val_main_v19
    val_main_cst_2 val_main_v18
  generalize val_main_v17 (F := Ideal) h a G U D = X
  pointwise
  rfl

end Cert.FeedForward.Ref

end
-- ==== Proof.OutProj.Layer.lean ====
/- One row of the attention's output projection: the heads' outputs times the weights, normalised and multiplied by the
   gains, added to the row of the residual stream. -/
module

public import proofs.«01_k».proof.Proof.Ffn.Layer

@[expose] public section

noncomputable section

namespace Cert.OutProj

open Idealize.ShloMosaic Cert.FeedForward

/-- A row times the columns of a table of weights. -/
def proj {n : ℕ} (x : Fin 1024 → EReal) (W : Fin 1024 → Fin n → EReal) (y : Fin n) : EReal := ∑ k : Fin 1024, x k * W k y

/-- The step. -/
def layer (o : Fin 1024 → EReal) (W : Fin 1024 → Fin 1024 → EReal) (h g : Fin 1024 → EReal) (y : Fin 1024) : EReal :=
  h y + rms (proj o W) g y

end Cert.OutProj

end
-- ==== Proof.OutProj.Ops.lean ====
/- The arithmetic the output projection does on a band of 256 rows, as named operations on vectors, what each reads at an
   index when numbers are extended reals, and the block of 1024 rows its four bands make. -/
module

public import proofs.«01_k».proof.Proof.Gen.OprojIdeal.Value
public import proofs.«01_k».proof.Proof.OutProj.Layer
public import Idealize.ShloMosaic.Lib.MatmulPlain
public import Idealize.ShloMosaic.Lib.Pointwise

@[expose] public section

set_option maxRecDepth 16384

noncomputable section

namespace Cert.OutProj

open Idealize.ShloMosaic Idealize.ShloMosaic.TcCoe Idealize.SL.Sem Cert.FeedForward
open Cert.OprojIdeal Cert.OprojIdeal.Gen

variable {F : FTy → Type} [FloatOps F]

/-- The heads' outputs times the weights. -/
def mat (o : Vec F S256x1024 .bf16) (w : Vec F S1024x1024 .bf16) : FVec F S256x1024 .f32 :=
  matmul dot_S256x1024_S1024x1024_S256x1024_1_0_0_1_n_n none (shapeCast S256x1024 o shapeCasts_S256x1024_S256x1024 : FVec F S256x1024 .bf16)
    (shapeCast S1024x1024 w shapeCasts_S1024x1024_S1024x1024 : FVec F S1024x1024 .bf16) (constant S256x1024 .f32 0x00000000#32)

/-- Rows normalised, multiplied by the gains and added to the residual stream. -/
def addNorm (X : FVec F S256x1024 .f32) (h : Vec F S256x1024 .f32) (g : Vec F S1x1024 .f32) : FVec F S256x1024 .f32 :=
  addf h (mulf (mulf X (broadcastTo S256x1024
      (rsqrt (addf (divf (shapeCast S256x1 (multiReduction .add [1] S256 (mulf X X : FVec F S256x1024 .f32) 0x00000000#32
          reduces_S256x1024_S256 (.inl rfl) rfl) shapeCasts_S256_S256x1) (broadcast S256x1 (Scalar.ofBits .f32 0x44800000#32)))
        (broadcast S256x1 (Scalar.ofBits .f32 0x358637BD#32)))) broadcasts_S256x1_S256x1024))
    (broadcastTo S256x1024 (shapeCast S1x1024 g shapeCasts_S1x1024_S1x1024 : FVec F S1x1024 .f32) broadcasts_S1x1024_S256x1024))

theorem mat_apply (o : Vec Ideal S256x1024 .bf16) (w : Vec Ideal S1024x1024 .bf16) (x : Fin 256) (y : Fin 1024) :
    mat o w (ix2 x y) = proj (fun k => o (ix2 x k)) (fun k n => w (ix2 k n)) y := by
  unfold mat
  pointwise
  rfl

theorem addNorm_apply (X h : Vec Ideal S256x1024 .f32) (g : Vec Ideal S1x1024 .f32) (x : Fin 256) (y : Fin 1024) :
    addNorm X h g (ix2 x y) = h (ix2 x y) + rms (fun k => X (ix2 x k)) (fun k => g (ix2 0 k)) y := by
  unfold addNorm
  pointwise
  rfl

theorem band_apply (o : Vec Ideal S256x1024 .bf16) (w : Vec Ideal S1024x1024 .bf16) (h : Vec Ideal S256x1024 .f32)
    (g : Vec Ideal S1x1024 .f32) (x : Fin 256) (y : Fin 1024) :
    addNorm (mat o w) h g (ix2 x y) =
      layer (fun k => o (ix2 x k)) (fun k n => w (ix2 k n)) (fun k => h (ix2 x k)) (fun k => g (ix2 0 k)) y := by
  rw [addNorm_apply]
  unfold layer
  rw [show (fun k => mat o w (ix2 x k)) = proj (fun k => o (ix2 x k)) (fun k n => w (ix2 k n)) from funext (mat_apply o w x)]

/-- The block of 1024 rows, entry by entry. -/
def blockAt (o w : Vec Ideal S1024x1024 .bf16) (h : Vec Ideal S1024x1024 .f32) (g : Vec Ideal S1x1024 .f32) : Vec Ideal S1024x1024 .f32 :=
  fun j => layer (fun k => o (ix2 (j 0) k)) (fun k n => w (ix2 k n)) (fun k => h (ix2 (j 0) k)) (fun k => g (ix2 0 k)) (j 1)

/-- Where row `x` of the band that starts at row `p` lies. -/
theorem band_idx (p : ℕ) (inb : ∀ a, (![p, 0] : Fin 2 → ℕ) a + S256x1024.size a ≤ S1024x1024.size a) (hp : p + 256 ≤ 1024) (x : Fin 256) (y : Fin 1024) :
    (Rect.unit (s := S1024x1024) ![p, 0] S256x1024.size inb).emb (ix2 x y : S256x1024.Idx) = ix2 (⟨p + x.val, by omega⟩ : Fin 1024) y := by
  funext a
  apply Fin.ext
  match a with
  | ⟨0, _⟩ => show p + 1 * x.val = p + x.val; omega
  | ⟨1, _⟩ => show 0 + 1 * y.val = y.val; omega

/-- A band computed from the band's rows is the block's band. -/
theorem band_eq (o w : Vec Ideal S1024x1024 .bf16) (h : Vec Ideal S1024x1024 .f32) (g : Vec Ideal S1x1024 .f32) (p : ℕ)
    (inb : ∀ a, (![p, 0] : Fin 2 → ℕ) a + S256x1024.size a ≤ S1024x1024.size a) (hp : p + 256 ≤ 1024) (x : S256x1024.Idx) :
    addNorm (mat (View.ld o (Rect.unit (s := S1024x1024) ![p, 0] S256x1024.size inb)) (View.ld w r0_1))
      (View.ld h (Rect.unit (s := S1024x1024) ![p, 0] S256x1024.size inb)) (View.ld g r0_3) x =
      blockAt o w h g ((Rect.unit (s := S1024x1024) ![p, 0] S256x1024.size inb).emb x) := by
  rw [show View.ld w r0_1 = w from View.ld_unit_zero (by funext a; fin_cases a <;> rfl) _ w,
    show View.ld g r0_3 = g from View.ld_unit_zero (by funext a; fin_cases a <;> rfl) _ g]
  obtain ⟨r, y, rfl⟩ : ∃ (r : Fin 256) (y : Fin 1024), x = ix2 r y := ⟨x 0, x 1, ValueIdx.eq_ix2 x⟩
  rw [band_apply, band_idx p inb hp]
  have e := fun k => band_idx p inb hp r k
  have eo : (fun k => View.ld o (Rect.unit (s := S1024x1024) ![p, 0] S256x1024.size inb) (ix2 r k)) =
      fun k => o (ix2 (⟨p + r.val, by omega⟩ : Fin 1024) k) := funext fun k => congrArg o (e k)
  have eh : (fun k => View.ld h (Rect.unit (s := S1024x1024) ![p, 0] S256x1024.size inb) (ix2 r k)) =
      fun k => h (ix2 (⟨p + r.val, by omega⟩ : Fin 1024) k) := funext fun k => congrArg h (e k)
  rw [eo, eh]
  rfl

/-- What the body stores. -/
theorem out_eq (o w : Vec Ideal S1024x1024 .bf16) (h : Vec Ideal S1024x1024 .f32) (g : Vec Ideal S1x1024 .f32) :
    out0_4 (F := Ideal) o w h g = blockAt o w h g := by
  funext y
  unfold out0_4
  refine View.canon_apply_of_pieces (blockAt o w h g) _ ?_ y (cover0_4 _ _ _ _ y)
  intro p hp
  simp only [List.mem_cons, List.not_mem_nil, or_false] at hp
  rcases hp with rfl | rfl | rfl | rfl
  · exact band_eq o w h g 768 _ (by decide)
  · exact band_eq o w h g 512 _ (by decide)
  · exact band_eq o w h g 256 _ (by decide)
  · exact band_eq o w h g 0 _ (by decide)

end Cert.OutProj

end
-- ==== Proof.OutProj.Array.lean ====
/- From the body's block to the result array: 64 blocks of 1024 rows, the weights and the gains the same for all. -/
module

public import proofs.«01_k».proof.Proof.OutProj.Ops
public import Idealize.ShloMosaic.Lib.Pipeline.ValueKit
public import Idealize.ShloMosaic.Lib.Claim

@[expose] public section

set_option maxRecDepth 16384

noncomputable section

namespace Cert.OutProj

open Idealize.ShloMosaic Idealize.ShloMosaic.TcCoe Idealize.SL.Sem
open Idealize.ShloMosaic.Pipeline (Dat)
open Cert.OprojIdeal Cert.OprojIdeal.Gen

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0] := (by decide +kernel : ∀ t : Fin grid0.N, win0_4.index t = ![t.val, 0])

/-- The block of rows that starts at row `1024 t`. -/
def rows {e : EltTy} (h : Vec Ideal S65536x1024 e) (t : ℕ) (ht : t < 64) : Vec Ideal S1024x1024 e :=
  fun j => h (ix2 ⟨1024 * t + (j 0).val, by have : (j 0).val < 1024 := (j 0).isLt; omega⟩ (j 1))

/-- The result array, entry by entry. -/
def result (o : Vec Ideal S65536x1024 .bf16) (w : Vec Ideal S1024x1024 .bf16) (h : Vec Ideal S65536x1024 .f32) (g : Vec Ideal S1x1024 .f32) :
    Vec Ideal S65536x1024 .f32 := fun i =>
  layer (fun k => o (ix2 (i 0) k)) (fun k n => w (ix2 k n)) (fun k => h (ix2 (i 0) k)) (fun k => g (ix2 0 k)) (i 1)

variable (c : Dev nD)

theorem lt_N (t : Fin cfg0.N) : t.val < 64 := by have := t.isLt; have : cfg0.N = 64 := N_0; omega

theorem iblk_0 (t : Fin cfg0.N) : (iblk m c 0 t : Vec Ideal S1024x1024 .bf16) = rows (V m c main_v0) t.val (lt_N t) := by
  funext j
  show _ = V m c main_v0 _
  blk_simp [iblk]
  refine congrArg _ ?_
  blk_ext [index_0 t]

theorem iblk_1 (t : Fin cfg0.N) : (iblk m c 1 t : Vec Ideal S1024x1024 .bf16) = V m c main_v1 := by
  funext j
  show _ = V m c main_v1 j
  blk_simp [iblk]
  refine congrArg _ ?_
  blk_ext [index_1 t]

theorem iblk_2 (t : Fin cfg0.N) : (iblk m c 2 t : Vec Ideal S1024x1024 .f32) = rows (V m c main_arg2) t.val (lt_N t) := by
  funext j
  show _ = V m c main_arg2 _
  blk_simp [iblk]
  refine congrArg _ ?_
  blk_ext [index_2 t]

theorem iblk_3 (t : Fin cfg0.N) : (iblk m c 3 t : Vec Ideal S1x1024 .f32) = V m c main_v2 := by
  funext j
  show _ = V m c main_v2 j
  blk_simp [iblk]
  refine congrArg _ ?_
  blk_ext [index_3 t]

/-- Where the result array has what a grid point stores at `(r, y)`. -/
def place (t : Fin cfg0.N) (r y : Fin 1024) : S65536x1024.Idx :=
  ix2 ⟨1024 * t.val + r.val, by have := lt_N t; omega⟩ y

theorem result_place (t : Fin cfg0.N) (r y : Fin 1024) :
    result (V m c main_v0) (V m c main_v1) (V m c main_arg2) (V m c main_v2) (place t r y) =
      out0_4 (iblk m c 0 t) (iblk m c 1 t) (iblk m c 2 t) (iblk m c 3 t) (ix2 r y) := by
  rw [out_eq, iblk_0, iblk_1, iblk_2, iblk_3]
  rfl

/-- The kernel's result array after the run. -/
theorem final : (dats m 0 c).arrAt 4 cfg0.N = result (V m c main_v0) (V m c main_v1) (V m c main_arg2) (V m c main_v2) := by
  refine (dats m 0 c).arrAt_eq_of_covers 4 _ (by decide +kernel) fun t hf y => ?_
  blk_simp
  rw [after0_4]
  refine (congrArg _ (ValueIdx.eq_ix2 y)).trans ?_
  refine (result_place m c t (y 0) (y 1)).symm.trans ?_
  refine congrArg _ ?_
  unfold place
  blk_ext [index_4 t]

/-- The program's arguments: the heads' outputs, the weights, the residual stream, the gains. -/
abbrev argO : Vec Ideal S65536x1024 .f32 := m (c.tc.loc main_arg0)
abbrev argW : Vec Ideal S1024x1024 .f32 := m (c.tc.loc main_arg1)
abbrev argH : Vec Ideal S65536x1024 .f32 := m (c.tc.loc main_arg2)
abbrev argG : Vec Ideal S1024 .f32 := m (c.tc.loc main_arg3)

theorem host_o (r : Fin 65536) (y : Fin 1024) : (V m c main_v0 : Vec Ideal S65536x1024 .bf16) (ix2 r y) = argO m c (ix2 r y) := by
  entry_read
  pointwise

theorem host_w (k n : Fin 1024) : (V m c main_v1 : Vec Ideal S1024x1024 .bf16) (ix2 k n) = argW m c (ix2 k n) := by
  entry_read
  pointwise

theorem host_h : (V m c main_arg2 : Vec Ideal S65536x1024 .f32) = argH m c := V_main_arg2 m c

theorem host_g (y : Fin 1024) : (V m c main_v2 : Vec Ideal S1x1024 .f32) (ix2 0 y) = argG m c (ix1 y) := by
  entry_read
  pointwise

/-- The kernel's result over the program's arguments. -/
theorem result_eq (r : Fin 65536) (y : Fin 1024) :
    result (V m c main_v0) (V m c main_v1) (V m c main_arg2) (V m c main_v2) (ix2 r y) =
      layer (fun k => argO m c (ix2 r k)) (fun k n => argW m c (ix2 k n)) (fun k => argH m c (ix2 r k)) (fun k => argG m c (ix1 k)) y := by
  have e₀ : (fun k => (V m c main_v0 : Vec Ideal S65536x1024 .bf16) (ix2 r k)) = fun k => argO m c (ix2 r k) := funext (host_o m c r)
  have e₁ : (fun k n => (V m c main_v1 : Vec Ideal S1024x1024 .bf16) (ix2 k n)) = fun k n => argW m c (ix2 k n) :=
    funext fun k => funext (host_w m c k)
  have e₂ : (fun k => (V m c main_arg2 : Vec Ideal S65536x1024 .f32) (ix2 r k)) = fun k => argH m c (ix2 r k) :=
    funext fun k => congrFun (host_h m c) _
  have e₃ : (fun k => (V m c main_v2 : Vec Ideal S1x1024 .f32) (ix2 0 k)) = fun k => argG m c (ix1 k) := funext (host_g m c)
  show layer (fun k => (V m c main_v0 : Vec Ideal S65536x1024 .bf16) (ix2 r k)) (fun k n => (V m c main_v1 : Vec Ideal S1024x1024 .bf16) (ix2 k n))
    (fun k => (V m c main_arg2 : Vec Ideal S65536x1024 .f32) (ix2 r k)) (fun k => (V m c main_v2 : Vec Ideal S1x1024 .f32) (ix2 0 k)) y = _
  rw [e₀, e₁, e₂, e₃]

end Cert.OutProj

end
-- ==== Proof.OutProj.Reference.lean ====
/- The reference of the output projection, entry by entry: the step on the entry's row. -/
module

public import proofs.«01_k».proof.Proof.Gen.OprojReferenceIdeal.Read
public import proofs.«01_k».proof.Proof.OutProj.Layer
public import Idealize.ShloMosaic.Lib.Pointwise

@[expose] public section

set_option maxRecDepth 16384

noncomputable section

namespace Cert.OutProj.Ref

open Idealize.ShloMosaic Idealize.ShloMosaic.TcCoe Idealize.SL.Sem Cert.FeedForward
open Cert.OprojReferenceIdeal Cert.OprojReferenceIdeal.Gen Cert.OprojReferenceIdeal.Read

variable (o : Vec Ideal S65536x1024 .f32) (w : Vec Ideal S1024x1024 .f32) (h : Vec Ideal S65536x1024 .f32) (g : Vec Ideal S1024 .f32)

/-- The projected row. -/
theorem projected (r : Fin 65536) (y : Fin 1024) :
    (val_main_v0 (F := Ideal) o w : Vec Ideal S65536x1024 .f32) (ix2 r y) = proj (fun k => o (ix2 r k)) (fun k n => w (ix2 k n)) y := by
  unfold val_main_v0
  pointwise
  rfl

/-- The result. -/
theorem result (r : Fin 65536) (y : Fin 1024) :
    (val_main_v14 (F := Ideal) o w h g : Vec Ideal S65536x1024 .f32) (ix2 r y) =
      layer (fun k => o (ix2 r k)) (fun k n => w (ix2 k n)) (fun k => h (ix2 r k)) (fun k => g (ix1 k)) y := by
  unfold layer
  rw [(funext (projected o w r)).symm]
  unfold val_main_v14 val_main_v13 val_main_v12 val_main_v11 val_main_v10 val_main_v9 val_main_v8 val_main_v7 val_main_v6
    val_main_cst_1 val_main_v5 val_main_v4 val_main_cst_0 val_main_v3 val_main_v2 val_main_cst val_main_v1
  generalize val_main_v0 (F := Ideal) o w = X
  pointwise
  rfl

end Cert.OutProj.Ref

end
-- ==== Proof.NbrProj.Layer.lean ====
/- One row of the neighbourhood attention's projection: normalise the row, send it through the weights, and scale the
   queries, which are the first 1024 of the 3072 columns. -/
module

public import proofs.«01_k».proof.Proof.OutProj.Layer
public import proofs.«01_k».proof.Proof.Attn.Consts

@[expose] public section

noncomputable section

namespace Cert.NbrProj

open Idealize.ShloMosaic Cert.FeedForward Cert.OutProj

/-- The scale of the scores, one over the root of 64, over the logarithm of two. -/
def queryScale : EReal := (((8 * (Real.log 2))⁻¹ : ℝ) : EReal)

/-- What a column is multiplied by. -/
def factor (y : Fin 3072) : EReal := if y.val < 1024 then queryScale else 1

/-- The step. -/
def layer (h g : Fin 1024 → EReal) (W : Fin 1024 → Fin 3072 → EReal) (y : Fin 3072) : EReal := proj (rms h g) W y * factor y

theorem ofBits_one : Ideal.ofBits .f32 0x3F800000#32 = (1 : EReal) := by
  simp [Ideal.ofBits, Ideal.ieee, -EReal.coe_mul]; norm_num

/-- To multiply by the scale is to multiply by an eighth and divide by the logarithm of two, at any extended real. -/
theorem mul_queryScale (x : EReal) :
    Ideal.div (x * Ideal.ofBits .f32 0x3E000000#32) (Ideal.log (Ideal.ofBits .f32 0x40000000#32)) = x * queryScale := by
  have h2 : (0 : ℝ) < Real.log 2 := Real.log_pos (by norm_num)
  have hl : Ideal.log (Ideal.ofBits .f32 0x40000000#32) = ((Real.log 2 : ℝ) : EReal) := by
    rw [Cert.Attn.ofBits_two]
    show (if (2 : ℝ) ≤ 0 then (⊥ : EReal) else (Real.log 2 : EReal)) = _
    rw [if_neg (by norm_num)]
  rw [hl, Ideal.div_coe h2.ne', Cert.Attn.ofBits_eighth, mul_assoc, ← EReal.coe_mul]
  unfold queryScale
  congr 2
  rw [mul_inv]
  norm_num

end Cert.NbrProj

end
-- ==== Proof.NbrProj.Ops.lean ====
/- The arithmetic the neighbourhood projection does on a block of rows, as named operations on vectors, what each reads
   at an index when numbers are extended reals, and the block its three bands of columns make. -/
module

public import proofs.«01_k».proof.Proof.Gen.NaProjIdeal.Value
public import proofs.«01_k».proof.Proof.NbrProj.Layer
public import Idealize.ShloMosaic.Lib.MatmulPlain
public import Idealize.ShloMosaic.Lib.Pointwise

@[expose] public section

set_option maxRecDepth 16384

noncomputable section

namespace Cert.NbrProj

open Idealize.ShloMosaic Idealize.ShloMosaic.TcCoe Idealize.SL.Sem Cert.FeedForward Cert.OutProj
open Cert.NaProjIdeal Cert.NaProjIdeal.Gen

variable {F : FTy → Type} [FloatOps F]

/-- Rows normalised, multiplied by the gains and rounded for the matrix unit. -/
def norm (X : Vec F S1024x1024 .f32) (g : Vec F S1x1024 .f32) : FVec F S1024x1024 .bf16 :=
  truncf .bf16 (mulf (mulf X (broadcastTo S1024x1024
      (rsqrt (addf (divf (shapeCast S1024x1 (multiReduction .add [1] S1024 (mulf X X : FVec F S1024x1024 .f32) 0x00000000#32
          reduces_S1024x1024_S1024 (.inl rfl) rfl) shapeCasts_S1024_S1024x1) (broadcast S1024x1 (Scalar.ofBits .f32 0x44800000#32)))
        (broadcast S1024x1 (Scalar.ofBits .f32 0x358637BD#32)))) broadcasts_S1024x1_S1024x1024))
    (broadcastTo S1024x1024 (shapeCast S1x1024 g shapeCasts_S1x1024_S1x1024 : FVec F S1x1024 .f32) broadcasts_S1x1024_S1024x1024)) bitsLt_bf16_f32

/-- Normalised rows times 1024 columns of the weights, every entry multiplied by one number. -/
def band (X : FVec F S1024x1024 .bf16) (w : Vec F S1024x1024 .bf16) (a : F .f32) : FVec F S1024x1024 .bf16 :=
  truncf .bf16 (mulf (matmul dot_S1024x1024_S1024x1024_S1024x1024_1_0_0_1_n_n none X
    (shapeCast S1024x1024 w shapeCasts_S1024x1024_S1024x1024 : FVec F S1024x1024 .bf16) (constant S1024x1024 .f32 0x00000000#32))
    (broadcast S1024x1024 a : FVec F S1024x1024 .f32)) bitsLt_bf16_f32

theorem norm_apply (X : Vec Ideal S1024x1024 .f32) (g : Vec Ideal S1x1024 .f32) (x y : Fin 1024) :
    norm X g (ix2 x y) = rms (fun k => X (ix2 x k)) (fun k => g (ix2 0 k)) y := by
  unfold norm
  pointwise
  rfl

theorem band_apply (X w : Vec Ideal S1024x1024 .bf16) (a : Ideal .f32) (x y : Fin 1024) :
    band X w a (ix2 x y) = proj (fun k => X (ix2 x k)) (fun k n => w (ix2 k n)) y * a := by
  unfold band
  pointwise
  rfl

/-- The block of 1024 rows, entry by entry. -/
def blockAt (h : Vec Ideal S1024x1024 .f32) (g : Vec Ideal S1x1024 .f32) (w : Vec Ideal S1024x3072 .bf16) : Vec Ideal S1024x3072 .bf16 :=
  fun j => layer (fun k => h (ix2 (j 0) k)) (fun k => g (ix2 0 k)) (fun k n => w (ix2 k n)) (j 1)

/-- Where column `y` of the band that starts at column `q` lies. -/
theorem band_idx (q : ℕ) (inb : ∀ a, (![0, q] : Fin 2 → ℕ) a + S1024x1024.size a ≤ S1024x3072.size a) (hq : q + 1024 ≤ 3072) (x y : Fin 1024) :
    (Rect.unit (s := S1024x3072) ![0, q] S1024x1024.size inb).emb (ix2 x y : S1024x1024.Idx) = ix2 x (⟨q + y.val, by omega⟩ : Fin 3072) := by
  funext a
  apply Fin.ext
  match a with
  | ⟨0, _⟩ => show 0 + 1 * x.val = x.val; omega
  | ⟨1, _⟩ => show q + 1 * y.val = q + y.val; omega

/-- A band computed from the band's columns of the weights is the block's band. -/
theorem band_eq (h : Vec Ideal S1024x1024 .f32) (g : Vec Ideal S1x1024 .f32) (w : Vec Ideal S1024x3072 .bf16) (q : ℕ) (a : Ideal .f32)
    (inb : ∀ a, (![0, q] : Fin 2 → ℕ) a + S1024x1024.size a ≤ S1024x3072.size a) (hq : q + 1024 ≤ 3072)
    (ha : ∀ y : Fin 1024, a = factor ⟨q + y.val, by omega⟩) (x : S1024x1024.Idx) :
    band (norm (View.ld h r0_0) (View.ld g r0_1)) (View.ld w (Rect.unit (s := S1024x3072) ![0, q] S1024x1024.size inb)) a x =
      blockAt h g w ((Rect.unit (s := S1024x3072) ![0, q] S1024x1024.size inb).emb x) := by
  rw [show View.ld h r0_0 = h from View.ld_unit_zero (by funext a; fin_cases a <;> rfl) _ h,
    show View.ld g r0_1 = g from View.ld_unit_zero (by funext a; fin_cases a <;> rfl) _ g]
  obtain ⟨r, y, rfl⟩ : ∃ (r : Fin 1024) (y : Fin 1024), x = ix2 r y := ⟨x 0, x 1, ValueIdx.eq_ix2 x⟩
  rw [band_apply, band_idx q inb hq, ha y, show (fun k => norm h g (ix2 r k)) = _ from funext (norm_apply h g r)]
  have ew : proj (rms (fun k => h (ix2 r k)) fun k => g (ix2 0 k))
        (fun k n => View.ld w (Rect.unit (s := S1024x3072) ![0, q] S1024x1024.size inb) (ix2 k n)) y =
      proj (rms (fun k => h (ix2 r k)) fun k => g (ix2 0 k)) (fun k n => w (ix2 k n)) (⟨q + y.val, by omega⟩ : Fin 3072) :=
    Finset.sum_congr rfl fun k _ => congrArg (_ * ·) (congrArg w (band_idx q inb hq k y))
  rw [ew]
  rfl

/-- What the body stores. -/
theorem out_eq (h : Vec Ideal S1024x1024 .f32) (g : Vec Ideal S1x1024 .f32) (w : Vec Ideal S1024x3072 .bf16) :
    out0_3 (F := Ideal) h g w = blockAt h g w := by
  funext y
  unfold out0_3
  refine View.canon_apply_of_pieces (blockAt h g w) _ ?_ y (cover0_3 _ _ _ y)
  intro p hp
  simp only [List.mem_cons, List.not_mem_nil, or_false] at hp
  rcases hp with rfl | rfl | rfl
  · exact band_eq h g w 2048 _ _ (by decide) fun y => ofBits_one.trans (if_neg (Nat.not_lt.2 (Nat.le_trans (by decide) (Nat.le_add_right 2048 y.val)))).symm
  · exact band_eq h g w 1024 _ _ (by decide) fun y => ofBits_one.trans (if_neg (Nat.not_lt.2 (Nat.le_add_right 1024 y.val))).symm
  · exact band_eq h g w 0 queryScale _ (by decide) fun y => (if_pos (by show 0 + y.val < 1024; omega)).symm

end Cert.NbrProj

end
-- ==== Proof.NbrProj.Array.lean ====
/- From the body's block to the result array: 64 blocks of 1024 rows, the gains and the weights the same for all. -/
module

public import proofs.«01_k».proof.Proof.NbrProj.Ops
public import Idealize.ShloMosaic.Lib.Pipeline.ValueKit
public import Idealize.ShloMosaic.Lib.Claim

@[expose] public section

set_option maxRecDepth 16384

noncomputable section

namespace Cert.NbrProj

open Idealize.ShloMosaic Idealize.ShloMosaic.TcCoe Idealize.SL.Sem
open Idealize.ShloMosaic.Pipeline (Dat)
open Cert.NaProjIdeal Cert.NaProjIdeal.Gen

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![t.val, 0] := (by decide +kernel : ∀ t : Fin grid0.N, win0_3.index t = ![t.val, 0])

/-- The block of rows that starts at row `1024 t`. -/
def rows (h : Vec Ideal S65536x1024 .f32) (t : ℕ) (ht : t < 64) : Vec Ideal S1024x1024 .f32 :=
  fun j => h (ix2 ⟨1024 * t + (j 0).val, by have : (j 0).val < 1024 := (j 0).isLt; omega⟩ (j 1))

/-- The result array, entry by entry. -/
def result (h : Vec Ideal S65536x1024 .f32) (g : Vec Ideal S1x1024 .f32) (w : Vec Ideal S1024x3072 .bf16) : Vec Ideal S65536x3072 .bf16 := fun i =>
  layer (fun k => h (ix2 (i 0) k)) (fun k => g (ix2 0 k)) (fun k n => w (ix2 k n)) (i 1)

variable (c : Dev nD)

theorem lt_N (t : Fin cfg0.N) : t.val < 64 := by have := t.isLt; have : cfg0.N = 64 := N_0; omega

theorem iblk_0 (t : Fin cfg0.N) : (iblk m c 0 t : Vec Ideal S1024x1024 .f32) = rows (V m c main_arg0) t.val (lt_N t) := by
  funext j
  show _ = V m c main_arg0 _
  blk_simp [iblk]
  refine congrArg _ ?_
  blk_ext [index_0 t]

theorem iblk_1 (t : Fin cfg0.N) : (iblk m c 1 t : Vec Ideal S1x1024 .f32) = V m c main_v0 := by
  funext j
  show _ = V m c main_v0 j
  blk_simp [iblk]
  refine congrArg _ ?_
  blk_ext [index_1 t]

theorem iblk_2 (t : Fin cfg0.N) : (iblk m c 2 t : Vec Ideal S1024x3072 .bf16) = V m c main_v1 := by
  funext j
  show _ = V m c main_v1 j
  blk_simp [iblk]
  refine congrArg _ ?_
  blk_ext [index_2 t]

/-- Where the result array has what a grid point stores at `(r, y)`. -/
def place (t : Fin cfg0.N) (r : Fin 1024) (y : Fin 3072) : S65536x3072.Idx :=
  ix2 ⟨1024 * t.val + r.val, by have := lt_N t; omega⟩ y

theorem result_place (t : Fin cfg0.N) (r : Fin 1024) (y : Fin 3072) :
    result (V m c main_arg0) (V m c main_v0) (V m c main_v1) (place t r y) =
      out0_3 (iblk m c 0 t) (iblk m c 1 t) (iblk m c 2 t) (ix2 r y) := by
  rw [out_eq, iblk_0, iblk_1, iblk_2]
  rfl

/-- The kernel's result array after the run. -/
theorem final : (dats m 0 c).arrAt 3 cfg0.N = result (V m c main_arg0) (V m c main_v0) (V m c main_v1) := by
  refine (dats m 0 c).arrAt_eq_of_covers 3 _ (by decide +kernel) fun t hf y => ?_
  blk_simp
  rw [after0_3]
  refine (congrArg _ (ValueIdx.eq_ix2 y)).trans ?_
  refine (result_place m c t (y 0) (y 1)).symm.trans ?_
  refine congrArg _ ?_
  unfold place
  blk_ext [index_3 t]

/-- The program's arguments: the residual stream, the gains, the weights. -/
abbrev argH : Vec Ideal S65536x1024 .f32 := m (c.tc.loc main_arg0)
abbrev argG : Vec Ideal S1024 .f32 := m (c.tc.loc main_arg1)
abbrev argW : Vec Ideal S1024x3072 .f32 := m (c.tc.loc main_arg2)

theorem host_h : (V m c main_arg0 : Vec Ideal S65536x1024 .f32) = argH m c := V_main_arg0 m c

theorem host_g (y : Fin 1024) : (V m c main_v0 : Vec Ideal S1x1024 .f32) (ix2 0 y) = argG m c (ix1 y) := by
  entry_read
  pointwise

theorem host_w (k : Fin 1024) (n : Fin 3072) : (V m c main_v1 : Vec Ideal S1024x3072 .bf16) (ix2 k n) = argW m c (ix2 k n) := by
  entry_read
  pointwise

/-- The kernel's result over the program's arguments. -/
theorem result_eq (r : Fin 65536) (y : Fin 3072) :
    result (V m c main_arg0) (V m c main_v0) (V m c main_v1) (ix2 r y) =
      layer (fun k => argH m c (ix2 r k)) (fun k => argG m c (ix1 k)) (fun k n => argW m c (ix2 k n)) y := by
  have e₀ : (fun k => (V m c main_arg0 : Vec Ideal S65536x1024 .f32) (ix2 r k)) = fun k => argH m c (ix2 r k) :=
    funext fun k => congrFun (host_h m c) _
  have e₁ : (fun k => (V m c main_v0 : Vec Ideal S1x1024 .f32) (ix2 0 k)) = fun k => argG m c (ix1 k) := funext (host_g m c)
  have e₂ : (fun k n => (V m c main_v1 : Vec Ideal S1024x3072 .bf16) (ix2 k n)) = fun k n => argW m c (ix2 k n) :=
    funext fun k => funext (host_w m c k)
  show layer (fun k => (V m c main_arg0 : Vec Ideal S65536x1024 .f32) (ix2 r k)) (fun k => (V m c main_v0 : Vec Ideal S1x1024 .f32) (ix2 0 k))
    (fun k n => (V m c main_v1 : Vec Ideal S1024x3072 .bf16) (ix2 k n)) y = _
  rw [e₀, e₁, e₂]

end Cert.NbrProj

end
-- ==== Proof.NbrProj.Reference.lean ====
/- The reference of the neighbourhood projection, entry by entry: the step on the entry's row. -/
module

public import proofs.«01_k».proof.Proof.Gen.NaProjReferenceIdeal.Read
public import proofs.«01_k».proof.Proof.NbrProj.Layer
public import Idealize.ShloMosaic.Lib.Pointwise

@[expose] public section

set_option maxRecDepth 16384

noncomputable section

namespace Cert.NbrProj.Ref

open Idealize.ShloMosaic Idealize.ShloMosaic.TcCoe Idealize.SL.Sem Cert.FeedForward Cert.OutProj
open Cert.NaProjReferenceIdeal Cert.NaProjReferenceIdeal.Gen Cert.NaProjReferenceIdeal.Read

variable (h : Vec Ideal S65536x1024 .f32) (g : Vec Ideal S1024 .f32) (w : Vec Ideal S1024x3072 .f32)

/-- The normalised residual stream. -/
theorem normed (r : Fin 65536) (y : Fin 1024) :
    (val_main_v12 (F := Ideal) h g : Vec Ideal S65536x1024 .f32) (ix2 r y) = rms (fun k => h (ix2 r k)) (fun k => g (ix1 k)) y := by
  unfold val_main_v12 val_main_v11 val_main_v10 val_main_v9 val_main_v8 val_main_v7 val_main_v6 val_main_v5 val_main_cst_1
    val_main_v4 val_main_v3 val_main_cst_0 val_main_v2 val_main_v1 val_main_cst val_main_v0
  pointwise
  rfl

/-- Its projection. -/
theorem projected (r : Fin 65536) (y : Fin 3072) :
    (val_main_v13 (F := Ideal) h g w : Vec Ideal S65536x3072 .f32) (ix2 r y) =
      proj (rms (fun k => h (ix2 r k)) (fun k => g (ix1 k))) (fun k n => w (ix2 k n)) y := by
  rw [(funext (normed h g r)).symm]
  unfold val_main_v13
  generalize val_main_v12 (F := Ideal) h g = X
  pointwise
  rfl

/-- The result. -/
theorem result (r : Fin 65536) (y : Fin 3072) :
    (val_main_v23 (F := Ideal) h g w : Vec Ideal S65536x3072 .bf16) (ix2 r y) =
      layer (fun k => h (ix2 r k)) (fun k => g (ix1 k)) (fun k n => w (ix2 k n)) y := by
  unfold layer
  rw [← projected]
  unfold val_main_v23 val_main_v22 val_main_v21 val_main_v20 val_main_v19 val_main_v18 val_main_v17 val_main_cst_3 val_main_v16
    val_main_v15 val_main_cst_2 val_main_v14
  generalize val_main_v13 (F := Ideal) h g w = X
  by_cases hy : y.val < 1024
  · rw [show factor y = queryScale from if_pos hy, ← mul_queryScale]
    pointwise [hy]
    rfl
  · rw [show factor y = 1 from if_neg hy, mul_one]
    pointwise [hy]
    exact congrArg X (congrArg (ix2 r) (Fin.ext (by show 1024 + (y.val - 1024) = y.val; omega)))

end Cert.NbrProj.Ref

end
-- ==== Proof.HeadProj.Layer.lean ====
/- One row of the grouped attention's projection, over the extended reals: normalise the row, send it through the weights,
   normalise every head of 64 coordinates, turn its pairs of coordinates by angles that depend on the row's place in its
   image, and scale the queries. Also the same on a slab of 128 lanes, two heads side by side. -/
module

public import proofs.«01_k».proof.Proof.NbrProj.Layer

@[expose] public section

noncomputable section

namespace Cert.HeadProj

open Idealize.ShloMosaic Cert.FeedForward Cert.OutProj Cert.NbrProj

/-- The reciprocal root of a head's mean square, the small constant added. -/
def headScale (z : Fin 64 → EReal) : EReal :=
  Ideal.rsqrt (Ideal.div (∑ d : Fin 64, z d * z d) (Ideal.ofBits .f32 0x42800000#32) + Ideal.ofBits .f32 0x358637BD#32)

/-- A head normalised and multiplied by its gains. -/
def headNorm (z g : Fin 64 → EReal) (d : Fin 64) : EReal := z d * headScale z * g d

/-- The angular frequencies. -/
def freq (f : Fin 16) : EReal :=
  Ideal.pow (Ideal.ofBits .f32 0x461C4000#32)
    (Ideal.div (-(Ideal.ofBits .f32 0x40000000#32 * ((f.val : ℝ) : EReal))) (Ideal.ofBits .f32 0x42000000#32))

/-- The same from the index as a machine word. -/
theorem freq_word (f : Fin 16) :
    Ideal.pow (Ideal.ofBits .f32 0x461C4000#32) (Ideal.div (-(Ideal.ofBits .f32 0x40000000#32 *
      (FloatOps.sitofp .f32 (BitVec.ofNat 32 f.val) : Ideal .f32))) (Ideal.ofBits .f32 0x42000000#32)) = freq f := by
  have e : (FloatOps.sitofp .f32 (BitVec.ofNat 32 f.val) : Ideal .f32) = ((f.val : ℝ) : EReal) := by
    have e' : ∀ f : Fin 16, (BitVec.ofNat 32 f.val).toInt = (f.val : ℤ) := by decide
    show ((((BitVec.ofNat 32 f.val).toInt : ℤ) : ℝ) : EReal) = _
    rw [e' f]
    rfl
  rw [e]
  rfl

/-- The grid coordinate of place `t` of an image that turns half `s` of a head: its row, then its column. -/
def gridAt (t : Fin 4096) (s : Fin 2) : EReal := (((if s.val = 0 then t.val / 64 else t.val % 64 : ℕ) : ℝ) : EReal)

/-- The angle by which half `s` of a head is turned at frequency `f`. -/
def angle (t : Fin 4096) (s : Fin 2) (f : Fin 16) : EReal := gridAt t s * freq f

/-- The half and the frequency of a coordinate. -/
def halfOf (d : Fin 64) : Fin 2 := ⟨d.val / 32, by omega⟩
def freqOf (d : Fin 64) : Fin 16 := ⟨d.val % 16, by omega⟩

/-- The coordinate a coordinate is turned together with. -/
def partner (d : Fin 64) : Fin 64 := if h : d.val % 32 < 16 then ⟨d.val + 16, by omega⟩ else ⟨d.val - 16, by omega⟩

/-- A head turned. -/
def rotate (t : Fin 4096) (z : Fin 64 → EReal) (d : Fin 64) : EReal :=
  if d.val % 32 < 16 then
    z d * Ideal.cos (angle t (halfOf d) (freqOf d)) - z (partner d) * Ideal.sin (angle t (halfOf d) (freqOf d))
  else z d * Ideal.cos (angle t (halfOf d) (freqOf d)) + z (partner d) * Ideal.sin (angle t (halfOf d) (freqOf d))

/-- The coordinate of a column in its head. -/
def coord {n : ℕ} (y : Fin n) : Fin 64 := ⟨y.val % 64, Nat.mod_lt _ (by decide)⟩

/-- The head of column `y`. -/
def head {n : ℕ} (hn : 64 ∣ n) (q : Fin n → EReal) (y : Fin n) (d : Fin 64) : EReal :=
  q ⟨64 * (y.val / 64) + d.val, by have := y.isLt; have := d.isLt; omega⟩

/-- Every head of a row normalised and turned. -/
def turned {n : ℕ} (hn : 64 ∣ n) (t : Fin 4096) (q : Fin n → EReal) (g : Fin 64 → EReal) (y : Fin n) : EReal :=
  rotate t (headNorm (head hn q y) g) (coord y)

/-- The slab of 128 lanes that starts at column `p` is normalised and turned as it stands. -/
theorem turned_slab {n : ℕ} (hn : 64 ∣ n) (t : Fin 4096) (q : Fin n → EReal) (g : Fin 64 → EReal) (p : ℕ) (hp : 128 ∣ p) (hpn : p + 128 ≤ n)
    (l : Fin 128) :
    turned (n := 128) (by decide) t (fun k => q ⟨p + k.val, by omega⟩) g l = turned hn t q g ⟨p + l.val, by omega⟩ := by
  have ec : coord l = coord (⟨p + l.val, by omega⟩ : Fin n) := Fin.ext (by show l.val % 64 = (p + l.val) % 64; omega)
  have eh : head (n := 128) (by decide) (fun k => q ⟨p + k.val, by omega⟩) l = head hn q (⟨p + l.val, by omega⟩ : Fin n) := by
    funext d
    exact congrArg q (Fin.ext (by show p + (64 * (l.val / 64) + d.val) = 64 * ((p + l.val) / 64) + d.val; omega))
  unfold turned
  rw [ec, eh]

/-! ## On a slab of 128 lanes -/

/-- A lane's head's sum of squares, as sums over all the lanes in which the other head's are nought. -/
def laneSum (z : Fin 128 → EReal) (l : Fin 128) : EReal :=
  if l.val < 64 then ∑ k : Fin 128, (if k.val < 64 then z k * z k else 0) else ∑ k : Fin 128, if k.val < 64 then 0 else z k * z k

theorem laneSum_eq (z : Fin 128 → EReal) (l : Fin 128) :
    laneSum z l = ∑ d : Fin 64, head (n := 128) (by decide) z l d * head (n := 128) (by decide) z l d := by
  unfold laneSum
  by_cases h : l.val < 64
  · rw [if_pos h]
    refine (Fin.sum_univ_add (a := 64) (b := 64) fun k : Fin 128 => if k.val < 64 then z k * z k else 0).trans ?_
    refine (congrArg (_ + ·) (Finset.sum_eq_zero fun d _ => if_neg (by show ¬ 64 + d.val < 64; omega))).trans ((add_zero _).trans ?_)
    refine Finset.sum_congr rfl fun d _ => (if_pos d.isLt).trans ?_
    have e : (Fin.castAdd 64 d : Fin 128) = ⟨64 * (l.val / 64) + d.val, by omega⟩ := Fin.ext (by show d.val = _; simp only; omega)
    rw [e]
    rfl
  · rw [if_neg h]
    refine (Fin.sum_univ_add (a := 64) (b := 64) fun k : Fin 128 => if k.val < 64 then 0 else z k * z k).trans ?_
    refine (congrArg (· + _) (Finset.sum_eq_zero fun d _ => if_pos d.isLt)).trans ((zero_add _).trans ?_)
    refine Finset.sum_congr rfl fun d _ => (if_neg (by show ¬ 64 + d.val < 64; omega)).trans ?_
    have e : (Fin.natAdd 64 d : Fin 128) = ⟨64 * (l.val / 64) + d.val, by omega⟩ := Fin.ext (by show 64 + d.val = _; simp only; omega)
    rw [e]
    rfl

theorem ofBits_sixtyFour : Ideal.ofBits .f32 0x42800000#32 = ((64 : ℝ) : EReal) := by
  simp [Ideal.ofBits, Ideal.ieee, -EReal.coe_mul]; norm_num

theorem ofBits_sixtyFourth : Ideal.ofBits .f32 0x3C800000#32 = ((1 / 64 : ℝ) : EReal) := by
  simp [Ideal.ofBits, Ideal.ieee, -EReal.coe_mul]; norm_num

/-- The lanes normalised. -/
def laneNorm (z g : Fin 128 → EReal) (l : Fin 128) : EReal :=
  z l * Ideal.rsqrt (laneSum z l * Ideal.ofBits .f32 0x3C800000#32 + Ideal.ofBits .f32 0x358637BD#32) * g l

theorem laneNorm_eq (z g : Fin 128 → EReal) (γ : Fin 64 → EReal) (hg : ∀ l, g l = γ (coord l)) (l : Fin 128) :
    laneNorm z g l = headNorm (head (n := 128) (by decide) z l) γ (coord l) := by
  have ez : head (n := 128) (by decide) z l (coord l) = z l :=
    congrArg z (Fin.ext (by show 64 * (l.val / 64) + l.val % 64 = l.val; omega))
  unfold laneNorm headNorm headScale
  rw [laneSum_eq, hg, ez, ofBits_sixtyFour, ofBits_sixtyFourth, Ideal.div_coe (by norm_num)]

/-- The lanes turned: each lane, the sixteenth after it and the sixteenth before it, each times its table. -/
def laneTurn (y C A B : Fin 128 → EReal) (l : Fin 128) : EReal :=
  y l * C l + y ⟨(l.val + 16) % 128, Nat.mod_lt _ (by decide)⟩ * A l + y ⟨(l.val + 112) % 128, Nat.mod_lt _ (by decide)⟩ * B l

/-- With the tables of cosines and of signed sines, the lanes of a slab are the slab's heads normalised and turned. -/
theorem laneTurn_eq (t : Fin 4096) (z g C A B : Fin 128 → EReal) (γ : Fin 64 → EReal) (hg : ∀ l, g l = γ (coord l))
    (hC : ∀ l, C l = Ideal.cos (angle t (halfOf (coord l)) (freqOf (coord l))))
    (hA : ∀ l, A l = if l.val % 32 < 16 then -Ideal.sin (angle t (halfOf (coord l)) (freqOf (coord l))) else 0)
    (hB : ∀ l, B l = if l.val % 32 < 16 then 0 else Ideal.sin (angle t (halfOf (coord l)) (freqOf (coord l)))) (l : Fin 128) :
    laneTurn (laneNorm z g) C A B l = turned (n := 128) (by decide) t z γ l := by
  have key : ∀ m : Fin 128, m.val / 64 = l.val / 64 →
      laneNorm z g m = headNorm (head (n := 128) (by decide) z l) γ (coord m) := by
    intro m hm
    rw [laneNorm_eq z g γ hg m]
    refine congrArg (fun h => headNorm h γ (coord m)) ?_
    funext d
    exact congrArg z (Fin.ext (by show 64 * (m.val / 64) + d.val = 64 * (l.val / 64) + d.val; rw [hm]))
  have hl := l.isLt
  unfold laneTurn turned rotate
  rw [hC, hA, hB]
  by_cases h : l.val % 32 < 16
  · have hd : (coord l).val % 32 < 16 := by show l.val % 64 % 32 < 16; omega
    rw [if_pos h, if_pos h, if_pos hd, mul_zero, add_zero, mul_neg, ← sub_eq_add_neg, key l rfl,
      key ⟨(l.val + 16) % 128, Nat.mod_lt _ (by decide)⟩ (by show (l.val + 16) % 128 / 64 = l.val / 64; omega)]
    have e : coord (⟨(l.val + 16) % 128, Nat.mod_lt _ (by decide)⟩ : Fin 128) = partner (coord l) := by
      unfold partner
      rw [dif_pos hd]
      exact Fin.ext (by show (l.val + 16) % 128 % 64 = l.val % 64 + 16; omega)
    rw [e]
  · have hd : ¬ (coord l).val % 32 < 16 := by show ¬ l.val % 64 % 32 < 16; omega
    rw [if_neg h, if_neg h, if_neg hd, mul_zero, add_zero, key l rfl,
      key ⟨(l.val + 112) % 128, Nat.mod_lt _ (by decide)⟩ (by show (l.val + 112) % 128 / 64 = l.val / 64; omega)]
    have e : coord (⟨(l.val + 112) % 128, Nat.mod_lt _ (by decide)⟩ : Fin 128) = partner (coord l) := by
      unfold partner
      rw [dif_neg hd]
      exact Fin.ext (by show (l.val + 112) % 128 % 64 = l.val % 64 - 16; omega)
    rw [e]

/-! ## The four results of a row -/

/-- The head whose queries the kernel keeps in slot `h`. -/
def headAt (h : Fin 16) : Fin 16 := ⟨8 * (h.val / 8) + 4 * (h.val % 2) + h.val % 8 / 2, by have := h.isLt; omega⟩

/-- The weights' column that makes query column `y`. -/
def queryColumn (y : Fin 1024) : Fin 1536 :=
  ⟨64 * (headAt ⟨y.val / 64, by have := y.isLt; omega⟩).val + y.val % 64, by
    have := (headAt ⟨y.val / 64, by have := y.isLt; omega⟩).isLt; omega⟩

/-- The queries. -/
def queries (t : Fin 4096) (x : Fin 1024 → EReal) (W : Fin 1024 → Fin 1536 → EReal) (g : Fin 64 → EReal) (y : Fin 1024) : EReal :=
  turned (by decide) t (proj x fun k n => W k (queryColumn n)) g y * queryScale

/-- The keys. -/
def keys (t : Fin 4096) (x : Fin 1024 → EReal) (W : Fin 1024 → Fin 1536 → EReal) (g : Fin 64 → EReal) (y : Fin 256) : EReal :=
  turned (by decide) t (proj x fun k (n : Fin 256) => W k ⟨1024 + n.val, by omega⟩) g y

/-- The values. -/
def values (x : Fin 1024 → EReal) (W : Fin 1024 → Fin 1536 → EReal) (y : Fin 256) : EReal :=
  proj x (fun k (n : Fin 256) => W k ⟨1280 + n.val, by omega⟩) y

end Cert.HeadProj

end
-- ==== Proof.HeadProj.Ops.lean ====
/- The arithmetic the grouped attention's projection does on a block of 1024 rows, as named operations on vectors, what
   each reads at an index when numbers are extended reals, and the four blocks its stores make. -/
module

public import proofs.«01_k».proof.Proof.Gen.GqaProjIdeal.Value
public import proofs.«01_k».proof.Proof.HeadProj.Layer
public import Idealize.ShloMosaic.Lib.KernelVsHost
public import Idealize.ShloMosaic.Lib.MatmulPlain
public import Idealize.ShloMosaic.Lib.Pointwise

@[expose] public section

set_option maxRecDepth 16384

noncomputable section

namespace Cert.HeadProj

open Idealize.ShloMosaic Idealize.ShloMosaic.TcCoe Idealize.SL.Sem Cert.FeedForward Cert.OutProj Cert.NbrProj
open Cert.GqaProjIdeal Cert.GqaProjIdeal.Gen

variable {F : FTy → Type} [FloatOps F]

/-! ## The operations -/

/-- Which lanes hold the first of a slab's two heads. -/
def laneMask : IVec S1024x128 1 := cmpi .slt (iota .tc S1024x128 32 [1] iota_S1024x128_d1_w32) (broadcast S1024x128 64#32)

/-- A nought in every lane. -/
def noughts : FVec F S1024x128 .f32 := broadcast S1024x128 (Scalar.ofBits .f32 0x00000000#32)

/-- The sum over the lanes. -/
def total (Z : FVec F S1024x128 .f32) : FVec F S1024x1 .f32 :=
  shapeCast S1024x1 (multiReduction .add [1] S1024 Z 0x00000000#32 reduces_S1024x128_S1024 (.inl rfl) rfl) shapeCasts_S1024_S1024x1

/-- A column repeated in every lane. -/
def spread (s : FVec F S1024x1 .f32) : FVec F S1024x128 .f32 :=
  broadcastTo S1024x128 (shapeCast S1024x1 s shapeCasts_S1024x1_S1024x1 : FVec F S1024x1 .f32) broadcasts_S1024x1_S1024x128

/-- Each head's sum of squares, in the head's lanes. -/
def sums (Z : FVec F S1024x128 .f32) : FVec F S1024x128 .f32 :=
  select laneMask (spread (total (select laneMask (mulf Z Z) noughts))) (spread (total (select laneMask noughts (mulf Z Z))))

/-- The heads of a slab normalised and multiplied by the gains. -/
def normLanes (Z : FVec F S1024x128 .f32) (g : Vec F S1x128 .f32) : FVec F S1024x128 .f32 :=
  mulf (mulf Z (rsqrt (addf (mulf (sums Z) (broadcast S1024x128 (Scalar.ofBits .f32 0x3C800000#32)))
      (broadcast S1024x128 (Scalar.ofBits .f32 0x358637BD#32)))))
    (broadcastTo S1024x128 (shapeCast S1x128 g shapeCasts_S1x128_S1x128 : FVec F S1x128 .f32) broadcasts_S1x128_S1024x128)

/-- The lanes of a slab turned. -/
def turnLanes (Y : FVec F S1024x128 .f32) (C A B : Vec F S1024x128 .f32) : FVec F S1024x128 .f32 :=
  addf (addf (mulf Y (shapeCast S1024x128 C shapeCasts_S1024x128_S1024x128 : FVec F S1024x128 .f32))
      (mulf (dynamicRotate 1 112#32 none Y rotates_S1024x128_d1) (shapeCast S1024x128 A shapeCasts_S1024x128_S1024x128 : FVec F S1024x128 .f32)))
    (mulf (dynamicRotate 1 16#32 none Y rotates_S1024x128_d1) (shapeCast S1024x128 B shapeCasts_S1024x128_S1024x128 : FVec F S1024x128 .f32))

/-- A slab of the keys. -/
def keySlab (Z : FVec F S1024x128 .f32) (g : Vec F S1x128 .f32) (C A B : Vec F S1024x128 .f32) : FVec F S1024x128 .bf16 :=
  truncf .bf16 (turnLanes (normLanes Z g) C A B) bitsLt_bf16_f32

/-- A slab of the queries. -/
def querySlab [Named F] (Z : FVec F S1024x128 .f32) (g : Vec F S1x128 .f32) (C A B : Vec F S1024x128 .f32) : FVec F S1024x128 .bf16 :=
  truncf .bf16 (mulf (turnLanes (normLanes Z g) C A B) (broadcast S1024x128 (Named.named κ "scale" 0x3E38AA3B#32 : F .f32))) bitsLt_bf16_f32

/-! ## What each reads at an index -/

theorem laneMask_apply (r : Fin 1024) (l : Fin 128) : laneMask (ix2 r l) = if l.val < 64 then 1#1 else 0#1 := by
  refine (show laneMask (ix2 r l) = laneMask (ix2 0 l) from rfl).trans ?_
  revert l
  decide +kernel

theorem select_apply (a b : FVec Ideal S1024x128 .f32) (r : Fin 1024) (l : Fin 128) :
    select laneMask a b (ix2 r l) = if l.val < 64 then a (ix2 r l) else b (ix2 r l) := by
  show Scalar.select (laneMask (ix2 r l)) _ _ = _
  rw [laneMask_apply]
  by_cases h : l.val < 64
  · rw [if_pos h, if_pos h]; rfl
  · rw [if_neg h, if_neg h]; rfl

theorem noughts_apply (j : S1024x128.Idx) : noughts (F := Ideal) j = 0 := Cert.Attn.ofBits_zero

theorem total_apply (Z : FVec Ideal S1024x128 .f32) (r : Fin 1024) : total Z (ix2 r 0) = ∑ k : Fin 128, Z (ix2 r k) := by
  unfold total
  pointwise

theorem spread_apply (s : FVec Ideal S1024x1 .f32) (r : Fin 1024) (l : Fin 128) : spread s (ix2 r l) = s (ix2 r 0) := by
  unfold spread
  pointwise

theorem sums_apply (Z : FVec Ideal S1024x128 .f32) (r : Fin 1024) (l : Fin 128) :
    sums Z (ix2 r l) = laneSum (fun k => Z (ix2 r k)) l := by
  unfold sums laneSum
  rw [select_apply, spread_apply, spread_apply, total_apply, total_apply]
  simp only [select_apply, noughts_apply]
  rfl

theorem normLanes_apply (Z : FVec Ideal S1024x128 .f32) (g : Vec Ideal S1x128 .f32) (r : Fin 1024) (l : Fin 128) :
    normLanes Z g (ix2 r l) = laneNorm (fun k => Z (ix2 r k)) (fun k => g (ix2 0 k)) l := by
  unfold laneNorm
  rw [← sums_apply]
  unfold normLanes
  generalize sums Z = s
  pointwise

theorem turnLanes_apply (Y : FVec Ideal S1024x128 .f32) (C A B : Vec Ideal S1024x128 .f32) (r : Fin 1024) (l : Fin 128) :
    turnLanes Y C A B (ix2 r l) =
      laneTurn (fun k => Y (ix2 r k)) (fun k => C (ix2 r k)) (fun k => A (ix2 r k)) (fun k => B (ix2 r k)) l := by
  have e₁ := dynamicRotate_apply (1 : Fin S1024x128.rank) 112#32 Y rotates_S1024x128_d1 (ix2 r l)
    (ix2 r ⟨(l.val + 16) % 128, Nat.mod_lt _ (by decide)⟩) (by
      intro b
      match b with
      | ⟨0, _⟩ => rfl
      | ⟨1, _⟩ => show (l.val + 16) % 128 = (l.val + 128 - 112) % 128; omega)
  have e₂ := dynamicRotate_apply (1 : Fin S1024x128.rank) 16#32 Y rotates_S1024x128_d1 (ix2 r l)
    (ix2 r ⟨(l.val + 112) % 128, Nat.mod_lt _ (by decide)⟩) (by
      intro b
      match b with
      | ⟨0, _⟩ => rfl
      | ⟨1, _⟩ => show (l.val + 112) % 128 = (l.val + 128 - 16) % 128; omega)
  unfold laneTurn
  beta_reduce
  rw [← e₁, ← e₂]
  unfold turnLanes
  generalize dynamicRotate 1 112#32 none Y rotates_S1024x128_d1 = Y₁
  generalize dynamicRotate 1 16#32 none Y rotates_S1024x128_d1 = Y₂
  pointwise

/-- The tables a block of rows is turned by: row `r` of the block is at place `pos r` of its image. -/
structure Tables (pos : Fin 1024 → Fin 4096) (C A B : Vec Ideal S1024x128 .f32) : Prop where
  cos : ∀ r (l : Fin 128), C (ix2 r l) = Ideal.cos (angle (pos r) (halfOf (coord l)) (freqOf (coord l)))
  sinLow : ∀ r (l : Fin 128), A (ix2 r l) = if l.val % 32 < 16 then -Ideal.sin (angle (pos r) (halfOf (coord l)) (freqOf (coord l))) else 0
  sinHigh : ∀ r (l : Fin 128), B (ix2 r l) = if l.val % 32 < 16 then 0 else Ideal.sin (angle (pos r) (halfOf (coord l)) (freqOf (coord l)))

variable {pos : Fin 1024 → Fin 4096} {C A B : Vec Ideal S1024x128 .f32} {γ : Fin 64 → EReal} {g : Vec Ideal S1x128 .f32}

theorem turn_norm_apply (hT : Tables pos C A B) (hg : ∀ l : Fin 128, g (ix2 0 l) = γ (coord l)) (Z : FVec Ideal S1024x128 .f32)
    (r : Fin 1024) (l : Fin 128) :
    turnLanes (normLanes Z g) C A B (ix2 r l) = turned (n := 128) (by decide) (pos r) (fun k => Z (ix2 r k)) γ l := by
  rw [turnLanes_apply, show (fun k => normLanes Z g (ix2 r k)) = laneNorm (fun k => Z (ix2 r k)) (fun k => g (ix2 0 k)) from
    funext (normLanes_apply Z g r)]
  exact laneTurn_eq (pos r) _ _ _ _ _ γ hg (hT.cos r) (hT.sinLow r) (hT.sinHigh r) l

theorem keySlab_apply (hT : Tables pos C A B) (hg : ∀ l : Fin 128, g (ix2 0 l) = γ (coord l)) (Z : FVec Ideal S1024x128 .f32)
    (r : Fin 1024) (l : Fin 128) :
    keySlab Z g C A B (ix2 r l) = turned (n := 128) (by decide) (pos r) (fun k => Z (ix2 r k)) γ l :=
  turn_norm_apply hT hg Z r l

theorem querySlab_apply (hT : Tables pos C A B) (hg : ∀ l : Fin 128, g (ix2 0 l) = γ (coord l)) (Z : FVec Ideal S1024x128 .f32)
    (r : Fin 1024) (l : Fin 128) :
    querySlab Z g C A B (ix2 r l) = turned (n := 128) (by decide) (pos r) (fun k => Z (ix2 r k)) γ l * queryScale :=
  congrArg (· * queryScale) (turn_norm_apply hT hg Z r l)

/-! ## The projections -/

theorem norm_apply (X : Vec Ideal S1024x1024 .f32) (g : Vec Ideal S1x1024 .f32) (x y : Fin 1024) :
    k0_pay2 X g (ix2 x y) = rms (fun k => X (ix2 x k)) (fun k => g (ix2 0 k)) y := by
  unfold k0_pay2
  pointwise
  rfl

theorem wide_apply (X : Vec Ideal S1024x1024 .f32) (g : Vec Ideal S1x1024 .f32) (w : Vec Ideal S1024x1024 .bf16) (x y : Fin 1024) :
    k0_pay3 X g w (ix2 x y) = proj (rms (fun k => X (ix2 x k)) (fun k => g (ix2 0 k))) (fun k n => w (ix2 k n)) y := by
  rw [(funext (norm_apply X g x)).symm]
  unfold k0_pay3
  generalize k0_pay2 X g = N
  pointwise
  rfl

theorem narrow_apply (X : Vec Ideal S1024x1024 .f32) (g : Vec Ideal S1x1024 .f32) (w : Vec Ideal S1024x256 .bf16) (x : Fin 1024) (y : Fin 256) :
    k0_pay4 X g w (ix2 x y) = proj (rms (fun k => X (ix2 x k)) (fun k => g (ix2 0 k))) (fun k n => w (ix2 k n)) y := by
  rw [(funext (norm_apply X g x)).symm]
  unfold k0_pay4
  generalize k0_pay2 X g = N
  pointwise
  rfl

theorem values_apply (X : Vec Ideal S1024x1024 .f32) (g : Vec Ideal S1x1024 .f32) (w : Vec Ideal S1024x256 .bf16) (x : Fin 1024) (y : Fin 256) :
    k0_pay5 X g w (ix2 x y) = proj (rms (fun k => X (ix2 x k)) (fun k => g (ix2 0 k))) (fun k n => w (ix2 k n)) y :=
  narrow_apply X g w x y

theorem across_apply (X : Vec Ideal S1024x1024 .f32) (g : Vec Ideal S1x1024 .f32) (w : Vec Ideal S256x1024 .bf16) (y : Fin 256) (x : Fin 1024) :
    k0_pay6 X g w (ix2 y x) = proj (rms (fun k => X (ix2 x k)) (fun k => g (ix2 0 k))) (fun k n => w (ix2 n k)) y := by
  rw [(funext (norm_apply X g x)).symm]
  unfold k0_pay6
  generalize k0_pay2 X g = N
  pointwise
  exact Finset.sum_congr rfl fun k _ => mul_comm _ _

/-! ## The four blocks -/

variable (h : Vec Ideal S1024x1024 .f32) (g₁ : Vec Ideal S1x1024 .f32) (wq : Vec Ideal S1024x1024 .bf16)
  (wk wv : Vec Ideal S1024x256 .bf16) (wt : Vec Ideal S256x1024 .bf16) (gq gk : Vec Ideal S1x128 .f32)

/-- The normalised row `r` of the block. -/
def rowAt (r : Fin 1024) : Fin 1024 → EReal := rms (fun k => h (ix2 r k)) fun k => g₁ (ix2 0 k)

def queryAt (pos : Fin 1024 → Fin 4096) (γ : Fin 64 → EReal) : Vec Ideal S1024x1024 .bf16 :=
  fun j => turned (n := 1024) (by decide) (pos (j 0)) (proj (rowAt h g₁ (j 0)) fun k n => wq (ix2 k n)) γ (j 1) * queryScale

def keyAt (pos : Fin 1024 → Fin 4096) (γ : Fin 64 → EReal) : Vec Ideal S1024x256 .bf16 :=
  fun j => turned (n := 256) (by decide) (pos (j 0)) (proj (rowAt h g₁ (j 0)) fun k n => wk (ix2 k n)) γ (j 1)

def valueAt : Vec Ideal S1024x256 .bf16 := fun j => proj (rowAt h g₁ (j 0)) (fun k n => wv (ix2 k n)) (j 1)

def acrossAt : Vec Ideal S2x256x512 .bf16 := fun j =>
  proj (rowAt h g₁ ⟨512 * (j 0).val + (j 2).val, by
    have : (j 0).val < 2 := (j 0).isLt
    have : (j 2).val < 512 := (j 2).isLt
    omega⟩) (fun k n => wt (ix2 n k)) (j 1)

theorem slab_wide (p : ℕ) (inb : ∀ a, (![0, p] : Fin 2 → ℕ) a + S1024x128.size a ≤ S1024x1024.size a) (hp : p + 128 ≤ 1024) (r : Fin 1024) (l : Fin 128) :
    (Rect.unit (s := S1024x1024) ![0, p] S1024x128.size inb).emb (ix2 r l : S1024x128.Idx) = ix2 r (⟨p + l.val, by omega⟩ : Fin 1024) := by
  funext a
  apply Fin.ext
  match a with
  | ⟨0, _⟩ => show 0 + 1 * r.val = r.val; omega
  | ⟨1, _⟩ => show p + 1 * l.val = p + l.val; omega

theorem slab_narrow (p : ℕ) (inb : ∀ a, (![0, p] : Fin 2 → ℕ) a + S1024x128.size a ≤ S1024x256.size a) (hp : p + 128 ≤ 256) (r : Fin 1024) (l : Fin 128) :
    (Rect.unit (s := S1024x256) ![0, p] S1024x128.size inb).emb (ix2 r l : S1024x128.Idx) = ix2 r (⟨p + l.val, by omega⟩ : Fin 256) := by
  funext a
  apply Fin.ext
  match a with
  | ⟨0, _⟩ => show 0 + 1 * r.val = r.val; omega
  | ⟨1, _⟩ => show p + 1 * l.val = p + l.val; omega

theorem query_piece (hT : Tables pos C A B) (hg : ∀ l : Fin 128, gq (ix2 0 l) = γ (coord l)) (p : ℕ) (hs : S1024x1024.Slices ![0, p] S1024x128)
    (inb : ∀ a, (![0, p] : Fin 2 → ℕ) a + S1024x128.size a ≤ S1024x1024.size a) (hp : p + 128 ≤ 1024) (h128 : 128 ∣ p) (x : S1024x128.Idx) :
    querySlab (extractStridedSlice S1024x128 ![0, p] (k0_pay3 h g₁ wq) hs) gq C A B x =
      queryAt h g₁ wq pos γ ((Rect.unit (s := S1024x1024) ![0, p] S1024x128.size inb).emb x) := by
  obtain ⟨r, l, rfl⟩ : ∃ (r : Fin 1024) (l : Fin 128), x = ix2 r l := ⟨x 0, x 1, ValueIdx.eq_ix2 x⟩
  rw [querySlab_apply hT hg, slab_wide p inb hp]
  refine congrArg (· * queryScale) (Eq.trans ?_ (turned_slab _ (pos r) _ γ p h128 hp l))
  refine congrArg (fun q => turned _ (pos r) q γ l) (funext fun k => ?_)
  refine (extractStridedSlice_apply ![0, p] _ hs (ix2 r k) (ix2 r (⟨p + k.val, by omega⟩ : Fin 1024)) (by
    intro a
    match a with
    | ⟨0, _⟩ => exact (Nat.zero_add _).symm
    | ⟨1, _⟩ => rfl)).trans ?_
  exact wide_apply h g₁ wq r _

theorem key_piece (hT : Tables pos C A B) (hg : ∀ l : Fin 128, gk (ix2 0 l) = γ (coord l)) (p : ℕ) (hs : S1024x256.Slices ![0, p] S1024x128)
    (inb : ∀ a, (![0, p] : Fin 2 → ℕ) a + S1024x128.size a ≤ S1024x256.size a) (hp : p + 128 ≤ 256) (h128 : 128 ∣ p) (x : S1024x128.Idx) :
    keySlab (extractStridedSlice S1024x128 ![0, p] (k0_pay4 h g₁ wk) hs) gk C A B x =
      keyAt h g₁ wk pos γ ((Rect.unit (s := S1024x256) ![0, p] S1024x128.size inb).emb x) := by
  obtain ⟨r, l, rfl⟩ : ∃ (r : Fin 1024) (l : Fin 128), x = ix2 r l := ⟨x 0, x 1, ValueIdx.eq_ix2 x⟩
  rw [keySlab_apply hT hg, slab_narrow p inb hp]
  refine Eq.trans ?_ (turned_slab _ (pos r) _ γ p h128 hp l)
  refine congrArg (fun q => turned _ (pos r) q γ l) (funext fun k => ?_)
  refine (extractStridedSlice_apply ![0, p] _ hs (ix2 r k) (ix2 r (⟨p + k.val, by omega⟩ : Fin 256)) (by
    intro a
    match a with
    | ⟨0, _⟩ => exact (Nat.zero_add _).symm
    | ⟨1, _⟩ => rfl)).trans ?_
  exact narrow_apply h g₁ wk r _

theorem ld_h : View.ld h r0_0 = h := View.ld_unit_zero (by funext a; fin_cases a <;> rfl) _ h
theorem ld_g : View.ld g₁ r0_1 = g₁ := View.ld_unit_zero (by funext a; fin_cases a <;> rfl) _ g₁
theorem ld_wq : View.ld wq r0_0 = wq := View.ld_unit_zero (by funext a; fin_cases a <;> rfl) _ wq
theorem ld_wk : View.ld wk r0_2 = wk := View.ld_unit_zero (by funext a; fin_cases a <;> rfl) _ wk
theorem ld_wt : View.ld wt r0_3 = wt := View.ld_unit_zero (by funext a; fin_cases a <;> rfl) _ wt
theorem ld_gq : View.ld gq r0_7 = gq := View.ld_unit_zero (by funext a; fin_cases a <;> rfl) _ gq
theorem ld_tab (T : Vec Ideal S1024x128 .f32) : View.ld T r0_6 = T := View.ld_unit_zero (by funext a; fin_cases a <;> rfl) _ T

/-- The queries the body stores. -/
theorem out_query (hT : Tables pos C A B) (hg : ∀ l : Fin 128, gq (ix2 0 l) = γ (coord l)) :
    out0_11 (F := Ideal) h g₁ wq wk wv wt gq gk C A B = queryAt h g₁ wq pos γ := by
  funext y
  unfold_out out0_11
  rw [ld_h, ld_g, ld_wq, ld_gq, ld_tab, ld_tab, ld_tab]
  refine View.canon_apply_of_pieces (queryAt h g₁ wq pos γ) _ ?_ y (cover0_11 _ _ _ _ _ _ _ _ y)
  intro p hp
  simp only [List.mem_cons, List.not_mem_nil, or_false] at hp
  rcases hp with rfl | rfl | rfl | rfl | rfl | rfl | rfl | rfl
  · exact query_piece h g₁ wq gq hT hg 896 slices_S1024x1024_o0_896_S1024x128 inb_S1024x1024_S1024x128_0_896 (by decide) (by decide)
  · exact query_piece h g₁ wq gq hT hg 768 slices_S1024x1024_o0_768_S1024x128 inb_S1024x1024_S1024x128_0_768 (by decide) (by decide)
  · exact query_piece h g₁ wq gq hT hg 640 slices_S1024x1024_o0_640_S1024x128 inb_S1024x1024_S1024x128_0_640 (by decide) (by decide)
  · exact query_piece h g₁ wq gq hT hg 512 slices_S1024x1024_o0_512_S1024x128 inb_S1024x1024_S1024x128_0_512 (by decide) (by decide)
  · exact query_piece h g₁ wq gq hT hg 384 slices_S1024x1024_o0_384_S1024x128 inb_S1024x1024_S1024x128_0_384 (by decide) (by decide)
  · exact query_piece h g₁ wq gq hT hg 256 slices_S1024x1024_o0_256_S1024x128 inb_S1024x1024_S1024x128_0_256 (by decide) (by decide)
  · exact query_piece h g₁ wq gq hT hg 128 slices_S1024x1024_o0_128_S1024x128 inb_S1024x1024_S1024x128_0_128 (by decide) (by decide)
  · exact query_piece h g₁ wq gq hT hg 0 slices_S1024x1024_o0_0_S1024x128 inb_S1024x1024_S1024x128_0_0 (by decide) (by decide)

/-- The keys the body stores. -/
theorem out_key (hT : Tables pos C A B) (hg : ∀ l : Fin 128, gk (ix2 0 l) = γ (coord l)) :
    out0_12 (F := Ideal) h g₁ wq wk wv wt gq gk C A B = keyAt h g₁ wk pos γ := by
  funext y
  unfold_out out0_12
  rw [ld_h, ld_g, ld_wk, ld_gq, ld_tab, ld_tab, ld_tab]
  refine View.canon_apply_of_pieces (keyAt h g₁ wk pos γ) _ ?_ y (cover0_12 _ _ y)
  intro p hp
  simp only [List.mem_cons, List.not_mem_nil, or_false] at hp
  rcases hp with rfl | rfl
  · exact key_piece h g₁ wk gk hT hg 128 slices_S1024x256_o0_128_S1024x128 inb_S1024x256_S1024x128_0_128 (by decide) (by decide)
  · exact key_piece h g₁ wk gk hT hg 0 slices_S1024x256_o0_0_S1024x128 inb_S1024x256_S1024x128_0_0 (by decide) (by decide)

/-- The values the body stores. -/
theorem out_value : out0_13 (F := Ideal) h g₁ wq wk wv wt gq gk C A B = valueAt h g₁ wv := by
  funext y
  unfold out0_13
  rw [ld_h, ld_g, ld_wk]
  refine View.canon_apply_of_pieces (valueAt h g₁ wv) _ ?_ y (cover0_13 _ y)
  intro p hp x
  obtain rfl : p = _ := List.mem_singleton.1 hp
  obtain ⟨r, l, rfl⟩ : ∃ (r : Fin 1024) (l : Fin 256), x = ix2 r l := ⟨x 0, x 1, ValueIdx.eq_ix2 x⟩
  refine (values_apply h g₁ wv r l).trans ?_
  have e : r0_2.emb (ix2 r l : S1024x256.Idx) = ix2 r l := by
    funext a
    apply Fin.ext
    match a with
    | ⟨0, _⟩ => show 0 + 1 * r.val = r.val; omega
    | ⟨1, _⟩ => show 0 + 1 * l.val = l.val; omega
  exact (congrArg (valueAt h g₁ wv) e).symm

theorem across_piece (a : Fin 2) (hs : S256x1024.Slices ![0, 512 * a.val] S256x512)
    (inb : ∀ i, (![a.val, 0, 0] : Fin 3 → ℕ) i + S1x256x512.size i ≤ S2x256x512.size i) (x : S1x256x512.Idx) :
    (shapeCast S1x256x512 (extractStridedSlice S256x512 ![0, 512 * a.val] (k0_pay6 h g₁ wt) hs) shapeCasts_S256x512_S1x256x512 : FVec Ideal S1x256x512 .bf16) x =
      acrossAt h g₁ wt ((Rect.unit (s := S2x256x512) ![a.val, 0, 0] S1x256x512.size inb).emb x) := by
  obtain ⟨n, r, rfl⟩ : ∃ (n : Fin 256) (r : Fin 512), x = ix3 0 n r := ⟨x 1, x 2, by
    refine (ValueIdx.eq_ix3 x).trans (congrArg (fun i => ix3 i (x 1) (x 2)) (Fin.ext ?_))
    have : (x 0).val < 1 := (x 0).isLt
    show (x 0).val = 0
    omega⟩
  have e : (Rect.unit (s := S2x256x512) ![a.val, 0, 0] S1x256x512.size inb).emb (ix3 0 n r : S1x256x512.Idx) = ix3 a n r := by
    funext i
    apply Fin.ext
    match i with
    | ⟨0, _⟩ => show a.val + 1 * 0 = a.val; omega
    | ⟨1, _⟩ => show 0 + 1 * n.val = n.val; omega
    | ⟨2, _⟩ => show 0 + 1 * r.val = r.val; omega
  rw [e]
  have es : (shapeCast S1x256x512 (extractStridedSlice S256x512 ![0, 512 * a.val] (k0_pay6 h g₁ wt) hs) shapeCasts_S256x512_S1x256x512 : FVec Ideal S1x256x512 .bf16) (ix3 0 n r) =
      extractStridedSlice S256x512 ![0, 512 * a.val] (k0_pay6 h g₁ wt) hs (ix2 n r) := by
    generalize extractStridedSlice S256x512 ![0, 512 * a.val] (k0_pay6 h g₁ wt) hs = T
    pointwise
  rw [es]
  refine (extractStridedSlice_apply ![0, 512 * a.val] _ hs (ix2 n r) (ix2 n (⟨512 * a.val + r.val, by omega⟩ : Fin 1024)) (by
    intro i
    match i with
    | ⟨0, _⟩ => exact (Nat.zero_add _).symm
    | ⟨1, _⟩ => rfl)).trans ?_
  exact across_apply h g₁ wt n _

/-- The values the body stores across. -/
theorem out_across : out0_14 (F := Ideal) h g₁ wq wk wv wt gq gk C A B = acrossAt h g₁ wt := by
  funext y
  unfold out0_14
  rw [ld_h, ld_g, ld_wt]
  refine View.canon_apply_of_pieces (acrossAt h g₁ wt) _ ?_ y (cover0_14 _ _ y)
  intro p hp
  simp only [List.mem_cons, List.not_mem_nil, or_false] at hp
  rcases hp with rfl | rfl
  · exact across_piece h g₁ wt 1 slices_S256x1024_o0_512_S256x512 inb_S2x256x512_S1x256x512_1_0_0
  · exact across_piece h g₁ wt 0 slices_S256x1024_o0_0_S256x512 inb_S2x256x512_S1x256x512_0_0_0

end Cert.HeadProj

end
-- ==== Proof.HeadProj.Words.lean ====
/- The constants that hold the rows and the columns of an image's places: word `t` of the first is the float of `t / 64`,
   word `t` of the second the float of `t % 64`. -/
module

public import proofs.«01_k».proof.GqaProjIdeal
public import Idealize.ShloMosaic.PureOps.Ideal

@[expose] public section

set_option maxRecDepth 16384

noncomputable section

namespace Cert.HeadProj

open Idealize.ShloMosaic
open Cert.GqaProjIdeal

/-- The single precision word of a natural number under `2 ^ 24`. -/
def word (n : ℕ) : BitVec 32 :=
  if n = 0 then 0#32 else BitVec.ofNat 32 ((126 + Nat.log2 n) * 2 ^ 23 + n * 2 ^ (23 - Nat.log2 n))

theorem row_word : ∀ t : Fin 4096, lit1 t = word (t.val / 64) := by decide +kernel

theorem column_word : ∀ t : Fin 4096, lit2 t = word (t.val % 64) := by decide +kernel

theorem ofBits_word (n : Fin 64) : Ideal.ofBits .f32 (word n.val) = ((n.val : ℝ) : EReal) := by
  fin_cases n <;> (simp [word, Ideal.ofBits, Ideal.ieee, -EReal.coe_mul, Nat.log2]; try norm_num)

end Cert.HeadProj

end
-- ==== Proof.HeadProj.Host.lean ====
/- The arrays the host code prepares for the projection, over the program's arguments: the tables of cosines and signed
   sines, the gains side by side, and the weights with the queries' heads in the order of the kernel's slots. -/
module

public import proofs.«01_k».proof.Proof.HeadProj.Ops
public import proofs.«01_k».proof.Proof.HeadProj.Words
public import Idealize.ShloMosaic.Lib.Pipeline.ValueKit

@[expose] public section

set_option maxRecDepth 16384

noncomputable section

namespace Cert.HeadProj

open Idealize.ShloMosaic Idealize.ShloMosaic.TcCoe Idealize.SL.Sem
open Idealize.ShloMosaic.Pipeline (Dat)
open Cert.GqaProjIdeal Cert.GqaProjIdeal.Gen

variable (m : (ℓ : Loc nD τ sig) → Buf (Elt Ideal) ℓ) (c : Dev nD)

/-- The program's arguments: the residual stream, its gains, the weights, the gains of the queries' and the keys' heads. -/
abbrev argH : Vec Ideal S65536x1024 .f32 := m (c.tc.loc main_arg0)
abbrev argG : Vec Ideal S1024 .f32 := m (c.tc.loc main_arg1)
abbrev argW : Vec Ideal S1024x1536 .f32 := m (c.tc.loc main_arg2)
abbrev argQ : Vec Ideal S64 .f32 := m (c.tc.loc main_arg3)
abbrev argK : Vec Ideal S64 .f32 := m (c.tc.loc main_arg4)

theorem host_g (y : Fin 1024) : (V m c main_v23 : Vec Ideal S1x1024 .f32) (ix2 0 y) = argG m c (ix1 y) := by
  entry_read
  pointwise

theorem host_wk (k : Fin 1024) (n : Fin 256) :
    (V m c main_v12 : Vec Ideal S1024x256 .bf16) (ix2 k n) = argW m c (ix2 k ⟨1024 + n.val, by omega⟩) := by
  entry_read
  pointwise

theorem host_wv (k : Fin 1024) (n : Fin 256) :
    (V m c main_v14 : Vec Ideal S1024x256 .bf16) (ix2 k n) = argW m c (ix2 k ⟨1280 + n.val, by omega⟩) := by
  entry_read
  pointwise

theorem host_wt (k : Fin 1024) (n : Fin 256) :
    (V m c main_v24 : Vec Ideal S256x1024 .bf16) (ix2 n k) = argW m c (ix2 k ⟨1280 + n.val, by omega⟩) := by
  entry_read
  pointwise

theorem host_gq (l : Fin 128) : (V m c main_v18 : Vec Ideal S1x128 .f32) (ix2 0 l) = argQ m c (ix1 (coord l)) := by
  entry_read
  pointwise
  rfl

theorem host_gk (l : Fin 128) : (V m c main_v22 : Vec Ideal S1x128 .f32) (ix2 0 l) = argK m c (ix1 (coord l)) := by
  entry_read
  pointwise
  rfl

/-- The start indices of the gather that orders the heads. -/
theorem start_indices (h : Fin 16) :
    (broadcastInDim S16x1 ![0] bcast_S16_S16x1_0
        (select (constantI S16 1 0#1)
          (addi (fun i => lit0 (S16.rowMajor i)) (broadcastInDim S16 ![] bcast_S_S16 (constantI S_ 32 16#32))) fun i =>
          lit0 (S16.rowMajor i)) : IVec S16x1 32) (ix2 h 0) = BitVec.ofNat 32 (headAt h).val := by
  revert h
  decide +kernel

/-- A gather along the head axis reads the head its start index names. -/
theorem gather_heads {α : Type} (x : S1024x16x64.Idx → α) (idx : IVec S16x1 32)
    (hidx : ∀ h : Fin 16, idx (ix2 h 0) = BitVec.ofNat 32 (headAt h).val) (k : Fin 1024) (h : Fin 16) (d : Fin 64) :
    Host.gather gather_S1024x16x64_S16x1_S1024x16x64_02_1_n_n_1_1_1024164 x idx (ix3 k h d) = x (ix3 k (headAt h) d) := by
  unfold Host.gather
  refine congrArg x ?_
  funext a
  match a with
  | ⟨0, _⟩ => exact Fin.ext (Nat.zero_add _)
  | ⟨2, _⟩ => exact Fin.ext (Nat.zero_add _)
  | ⟨1, _⟩ =>
    refine Fin.ext ?_
    show min (idx _).toInt.toNat 15 = (headAt h).val
    have e : ∀ j, j = (ix2 h 0 : S16x1.Idx) → min (idx j).toInt.toNat 15 = (headAt h).val := by
      rintro j rfl
      rw [hidx]
      revert h
      decide
    refine e _ ?_
    funext b
    match b with
    | ⟨0, _⟩ => exact Fin.ext rfl
    | ⟨1, _⟩ => exact Fin.ext rfl

theorem host_wq (k y : Fin 1024) : (V m c main_v10 : Vec Ideal S1024x1024 .bf16) (ix2 k y) = argW m c (ix2 k (queryColumn y)) := by
  entry_read
  pointwise
  refine (gather_heads _ _ start_indices _ _ _).trans ?_
  pointwise
  refine congrArg (argW m c) (congrArg (ix2 k) (Fin.ext ?_))
  show (headAt ⟨y.val / 64, _⟩).val * 64 + y.val % 64 = 64 * (headAt ⟨y.val / 64, _⟩).val + y.val % 64
  omega

/-- The angle of a lane, from the constants that hold the rows and the columns. -/
theorem angle_words (t : Fin 4096) (l : Fin 128) :
    (if _ : l.val % 64 / 32 < 1 then Ideal.ofBits .f32 (lit1 (S4096.rowMajor (ix1 t))) * freq (freqOf (coord l))
      else Ideal.ofBits .f32 (lit2 (S4096.rowMajor (ix1 t))) * freq (freqOf (coord l))) =
      angle t (halfOf (coord l)) (freqOf (coord l)) := by
  have ht : t.val < 4096 := t.isLt
  have et : S4096.rowMajor (ix1 t) = t := Fin.ext (by revert t; decide +kernel)
  unfold angle gridAt
  rw [et, row_word, column_word]
  by_cases h : l.val % 64 / 32 < 1
  · rw [dif_pos h, if_pos (show (halfOf (coord l)).val = 0 by show l.val % 64 / 32 = 0; omega)]
    exact congrArg (· * _) (ofBits_word ⟨t.val / 64, by omega⟩)
  · rw [dif_neg h, if_neg (show ¬ (halfOf (coord l)).val = 0 by show ¬ l.val % 64 / 32 = 0; omega)]
    exact congrArg (· * _) (ofBits_word ⟨t.val % 64, by omega⟩)

theorem host_cos (t : Fin 4096) (l : Fin 128) :
    (V m c main_v64 : Vec Ideal S4096x128 .f32) (ix2 t l) = Ideal.cos (angle t (halfOf (coord l)) (freqOf (coord l))) := by
  rw [← angle_words, ← freq_word]
  entry_read
  pointwise
  split <;> rfl

theorem host_sinLow (t : Fin 4096) (l : Fin 128) : (V m c main_v67 : Vec Ideal S4096x128 .f32) (ix2 t l) =
    if l.val % 32 < 16 then -Ideal.sin (angle t (halfOf (coord l)) (freqOf (coord l))) else 0 := by
  rw [← angle_words, ← freq_word]
  entry_read
  pointwise
  by_cases h : l.val % 32 < 16
  · rw [if_pos h, dif_pos (by omega)]
    rfl
  · rw [if_neg h, dif_neg (by omega)]

theorem host_sinHigh (t : Fin 4096) (l : Fin 128) : (V m c main_v70 : Vec Ideal S4096x128 .f32) (ix2 t l) =
    if l.val % 32 < 16 then 0 else Ideal.sin (angle t (halfOf (coord l)) (freqOf (coord l))) := by
  rw [← angle_words, ← freq_word]
  entry_read
  pointwise
  by_cases h : l.val % 32 < 16
  · rw [if_pos h, dif_pos (by omega)]
  · rw [if_neg h, dif_neg (by omega)]
    rfl

end Cert.HeadProj

end
-- ==== Proof.HeadProj.Array.lean ====
/- From the body's blocks to the result arrays: 64 blocks of 1024 rows, a quarter of an image each; the tables come round
   every four blocks, the gains and the weights are the same for all. -/
module

public import proofs.«01_k».proof.Proof.HeadProj.Host
public import Idealize.ShloMosaic.Lib.Claim

@[expose] public section

set_option maxRecDepth 16384

noncomputable section

namespace Cert.HeadProj

open Idealize.ShloMosaic Idealize.ShloMosaic.TcCoe Idealize.SL.Sem Cert.FeedForward Cert.OutProj Cert.NbrProj
open Idealize.ShloMosaic.Pipeline (Dat)
open Cert.GqaProjIdeal Cert.GqaProjIdeal.Gen

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![t.val % 4, 0] := (by decide +kernel : ∀ t : Fin grid0.N, win0_8.index t = ![t.val % 4, 0])
theorem index_9 : ∀ t : Fin cfg0.N, win0_9.index t = ![t.val % 4, 0] := (by decide +kernel : ∀ t : Fin grid0.N, win0_9.index t = ![t.val % 4, 0])
theorem index_10 : ∀ t : Fin cfg0.N, win0_10.index t = ![t.val % 4, 0] := (by decide +kernel : ∀ t : Fin grid0.N, win0_10.index t = ![t.val % 4, 0])
theorem index_11 : ∀ t : Fin cfg0.N, win0_11.index t = ![t.val, 0] := (by decide +kernel : ∀ t : Fin grid0.N, win0_11.index t = ![t.val, 0])
theorem index_12 : ∀ t : Fin cfg0.N, win0_12.index t = ![t.val, 0] := (by decide +kernel : ∀ t : Fin grid0.N, win0_12.index t = ![t.val, 0])
theorem index_13 : ∀ t : Fin cfg0.N, win0_13.index t = ![t.val, 0] := (by decide +kernel : ∀ t : Fin grid0.N, win0_13.index t = ![t.val, 0])
theorem index_14 : ∀ t : Fin cfg0.N, win0_14.index t = ![t.val, 0, 0] := (by decide +kernel : ∀ t : Fin grid0.N, win0_14.index t = ![t.val, 0, 0])

variable (c : Dev nD)

theorem lt_N (t : Fin cfg0.N) : t.val < 64 := by have := t.isLt; have : cfg0.N = 64 := N_0; omega

/-- The row of the residual stream that is row `r` of block `t`. -/
def rowOf (t : Fin cfg0.N) (r : Fin 1024) : Fin 65536 := ⟨1024 * t.val + r.val, by have := lt_N t; omega⟩

/-- The place in its image of row `r` of block `t`. -/
def posOf (t : Fin cfg0.N) (r : Fin 1024) : Fin 4096 := ⟨1024 * (t.val % 4) + r.val, by omega⟩

/-- The place in its image of a row. -/
def placeOf (r : Fin 65536) : Fin 4096 := ⟨r.val % 4096, Nat.mod_lt _ (by decide)⟩

theorem placeOf_rowOf (t : Fin cfg0.N) (r : Fin 1024) : placeOf (rowOf t r) = posOf t r :=
  Fin.ext (by show (1024 * t.val + r.val) % 4096 = 1024 * (t.val % 4) + r.val; omega)

theorem iblk_0 (t : Fin cfg0.N) :
    (iblk m c 0 t : Vec Ideal S1024x1024 .f32) = fun j => (V m c main_arg0 : Vec Ideal S65536x1024 .f32) (ix2 (rowOf t (j 0)) (j 1)) := by
  funext j
  show _ = V m c main_arg0 _
  blk_simp [iblk]
  refine congrArg _ ?_
  unfold rowOf
  blk_ext [index_0 t]

theorem iblk_1 (t : Fin cfg0.N) : (iblk m c 1 t : Vec Ideal S1x1024 .f32) = V m c main_v23 := by
  funext j
  show _ = V m c main_v23 j
  blk_simp [iblk]
  refine congrArg _ ?_
  blk_ext [index_1 t]

theorem iblk_2 (t : Fin cfg0.N) : (iblk m c 2 t : Vec Ideal S1024x1024 .bf16) = V m c main_v10 := by
  funext j
  show _ = V m c main_v10 j
  blk_simp [iblk]
  refine congrArg _ ?_
  blk_ext [index_2 t]

theorem iblk_3 (t : Fin cfg0.N) : (iblk m c 3 t : Vec Ideal S1024x256 .bf16) = V m c main_v12 := by
  funext j
  show _ = V m c main_v12 j
  blk_simp [iblk]
  refine congrArg _ ?_
  blk_ext [index_3 t]

theorem iblk_4 (t : Fin cfg0.N) : (iblk m c 4 t : Vec Ideal S1024x256 .bf16) = V m c main_v14 := by
  funext j
  show _ = V m c main_v14 j
  blk_simp [iblk]
  refine congrArg _ ?_
  blk_ext [index_4 t]

theorem iblk_5 (t : Fin cfg0.N) : (iblk m c 5 t : Vec Ideal S256x1024 .bf16) = V m c main_v24 := by
  funext j
  show _ = V m c main_v24 j
  blk_simp [iblk]
  refine congrArg _ ?_
  blk_ext [index_5 t]

theorem iblk_6 (t : Fin cfg0.N) : (iblk m c 6 t : Vec Ideal S1x128 .f32) = V m c main_v18 := by
  funext j
  show _ = V m c main_v18 j
  blk_simp [iblk]
  refine congrArg _ ?_
  blk_ext [index_6 t]

theorem iblk_7 (t : Fin cfg0.N) : (iblk m c 7 t : Vec Ideal S1x128 .f32) = V m c main_v22 := by
  funext j
  show _ = V m c main_v22 j
  blk_simp [iblk]
  refine congrArg _ ?_
  blk_ext [index_7 t]

theorem iblk_8 (t : Fin cfg0.N) :
    (iblk m c 8 t : Vec Ideal S1024x128 .f32) = fun j => (V m c main_v64 : Vec Ideal S4096x128 .f32) (ix2 (posOf t (j 0)) (j 1)) := by
  funext j
  show _ = V m c main_v64 _
  blk_simp [iblk]
  refine congrArg _ ?_
  unfold posOf
  blk_ext [index_8 t]

theorem iblk_9 (t : Fin cfg0.N) :
    (iblk m c 9 t : Vec Ideal S1024x128 .f32) = fun j => (V m c main_v67 : Vec Ideal S4096x128 .f32) (ix2 (posOf t (j 0)) (j 1)) := by
  funext j
  show _ = V m c main_v67 _
  blk_simp [iblk]
  refine congrArg _ ?_
  unfold posOf
  blk_ext [index_9 t]

theorem iblk_10 (t : Fin cfg0.N) :
    (iblk m c 10 t : Vec Ideal S1024x128 .f32) = fun j => (V m c main_v70 : Vec Ideal S4096x128 .f32) (ix2 (posOf t (j 0)) (j 1)) := by
  funext j
  show _ = V m c main_v70 _
  blk_simp [iblk]
  refine congrArg _ ?_
  unfold posOf
  blk_ext [index_10 t]

/-- The tables of a block. -/
theorem tables (t : Fin cfg0.N) : Tables (posOf t) (iblk m c 8 t) (iblk m c 9 t) (iblk m c 10 t) where
  cos r l := (congrFun (iblk_8 m c t) (ix2 r l)).trans (host_cos m c (posOf t r) l)
  sinLow r l := (congrFun (iblk_9 m c t) (ix2 r l)).trans (host_sinLow m c (posOf t r) l)
  sinHigh r l := (congrFun (iblk_10 m c t) (ix2 r l)).trans (host_sinHigh m c (posOf t r) l)

theorem gains_q (t : Fin cfg0.N) (l : Fin 128) : (iblk m c 6 t : Vec Ideal S1x128 .f32) (ix2 0 l) = argQ m c (ix1 (coord l)) :=
  (congrFun (iblk_6 m c t) (ix2 0 l)).trans (host_gq m c l)

theorem gains_k (t : Fin cfg0.N) (l : Fin 128) : (iblk m c 7 t : Vec Ideal S1x128 .f32) (ix2 0 l) = argK m c (ix1 (coord l)) :=
  (congrFun (iblk_7 m c t) (ix2 0 l)).trans (host_gk m c l)

/-- A normalised row of the residual stream. -/
def normRow (h : Vec Ideal S65536x1024 .f32) (g : Vec Ideal S1024 .f32) (r : Fin 65536) : Fin 1024 → EReal :=
  rms (fun k => h (ix2 r k)) fun k => g (ix1 k)

theorem rowAt_eq (t : Fin cfg0.N) (r : Fin 1024) :
    rowAt (iblk m c 0 t) (iblk m c 1 t) r = normRow (argH m c) (argG m c) (rowOf t r) := by
  have e₀ : (fun k => (iblk m c 0 t : Vec Ideal S1024x1024 .f32) (ix2 r k)) = fun k => argH m c (ix2 (rowOf t r) k) :=
    funext fun k => (congrFun (iblk_0 m c t) (ix2 r k)).trans (congrFun (V_main_arg0 m c) _)
  have e₁ : (fun k => (iblk m c 1 t : Vec Ideal S1x1024 .f32) (ix2 0 k)) = fun k => argG m c (ix1 k) :=
    funext fun k => (congrFun (iblk_1 m c t) (ix2 0 k)).trans (host_g m c k)
  unfold rowAt normRow
  rw [e₀, e₁]

theorem weights_q (t : Fin cfg0.N) : (fun k n => (iblk m c 2 t : Vec Ideal S1024x1024 .bf16) (ix2 k n)) = fun k n => argW m c (ix2 k (queryColumn n)) :=
  funext fun k => funext fun n => (congrFun (iblk_2 m c t) (ix2 k n)).trans (host_wq m c k n)

theorem weights_k (t : Fin cfg0.N) : (fun k n => (iblk m c 3 t : Vec Ideal S1024x256 .bf16) (ix2 k n)) = fun k (n : Fin 256) => argW m c (ix2 k ⟨1024 + n.val, by omega⟩) :=
  funext fun k => funext fun n => (congrFun (iblk_3 m c t) (ix2 k n)).trans (host_wk m c k n)

theorem weights_v (t : Fin cfg0.N) : (fun k n => (iblk m c 4 t : Vec Ideal S1024x256 .bf16) (ix2 k n)) = fun k (n : Fin 256) => argW m c (ix2 k ⟨1280 + n.val, by omega⟩) :=
  funext fun k => funext fun n => (congrFun (iblk_4 m c t) (ix2 k n)).trans (host_wv m c k n)

theorem weights_t (t : Fin cfg0.N) : (fun k n => (iblk m c 5 t : Vec Ideal S256x1024 .bf16) (ix2 n k)) = fun k (n : Fin 256) => argW m c (ix2 k ⟨1280 + n.val, by omega⟩) :=
  funext fun k => funext fun n => (congrFun (iblk_5 m c t) (ix2 n k)).trans (host_wt m c k n)

/-! ## The four result arrays -/

/-- The queries, entry by entry. -/
def queryArray (h : Vec Ideal S65536x1024 .f32) (g : Vec Ideal S1024 .f32) (w : Vec Ideal S1024x1536 .f32) (γ : Vec Ideal S64 .f32) :
    Vec Ideal S65536x1024 .bf16 := fun i =>
  queries (placeOf (i 0)) (normRow h g (i 0)) (fun k n => w (ix2 k n)) (fun d => γ (ix1 d)) (i 1)

/-- The keys. -/
def keyArray (h : Vec Ideal S65536x1024 .f32) (g : Vec Ideal S1024 .f32) (w : Vec Ideal S1024x1536 .f32) (γ : Vec Ideal S64 .f32) :
    Vec Ideal S65536x256 .bf16 := fun i =>
  keys (placeOf (i 0)) (normRow h g (i 0)) (fun k n => w (ix2 k n)) (fun d => γ (ix1 d)) (i 1)

/-- The values. -/
def valueArray (h : Vec Ideal S65536x1024 .f32) (g : Vec Ideal S1024 .f32) (w : Vec Ideal S1024x1536 .f32) : Vec Ideal S65536x256 .bf16 :=
  fun i => values (normRow h g (i 0)) (fun k n => w (ix2 k n)) (i 1)

/-- The values across: tiles of 512 rows, each transposed. -/
def acrossArray (h : Vec Ideal S65536x1024 .f32) (g : Vec Ideal S1024 .f32) (w : Vec Ideal S1024x1536 .f32) : Vec Ideal S128x256x512 .bf16 :=
  fun i => values (normRow h g ⟨512 * (i 0).val + (i 2).val, by
    have : (i 0).val < 128 := (i 0).isLt
    have : (i 2).val < 512 := (i 2).isLt
    omega⟩) (fun k n => w (ix2 k n)) (i 1)

theorem query_place (t : Fin cfg0.N) (r y : Fin 1024) :
    queryArray (argH m c) (argG m c) (argW m c) (argQ m c) (ix2 (rowOf t r) y) =
      out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 r y) := by
  rw [out_query _ _ _ _ _ _ _ _ (tables m c t) (γ := fun d => argQ m c (ix1 d)) (gains_q m c t)]
  show queries (placeOf (rowOf t r)) (normRow (argH m c) (argG m c) (rowOf t r)) _ _ y =
    turned _ (posOf t r) (proj (rowAt (iblk m c 0 t) (iblk m c 1 t) r) fun k n => (iblk m c 2 t : Vec Ideal S1024x1024 .bf16) (ix2 k n)) _ y * queryScale
  rw [placeOf_rowOf, rowAt_eq, weights_q]
  rfl

theorem key_place (t : Fin cfg0.N) (r : Fin 1024) (y : Fin 256) :
    keyArray (argH m c) (argG m c) (argW m c) (argK m c) (ix2 (rowOf t r) y) =
      out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 r y) := by
  rw [out_key _ _ _ _ _ _ _ _ (tables m c t) (γ := fun d => argK m c (ix1 d)) (gains_k m c t)]
  show keys (placeOf (rowOf t r)) (normRow (argH m c) (argG m c) (rowOf t r)) _ _ y =
    turned _ (posOf t r) (proj (rowAt (iblk m c 0 t) (iblk m c 1 t) r) fun k n => (iblk m c 3 t : Vec Ideal S1024x256 .bf16) (ix2 k n)) _ y
  rw [placeOf_rowOf, rowAt_eq, weights_k]
  rfl

theorem value_place (t : Fin cfg0.N) (r : Fin 1024) (y : Fin 256) :
    valueArray (argH m c) (argG m c) (argW m c) (ix2 (rowOf t r) y) =
      out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 r y) := by
  rw [out_value]
  show values (normRow (argH m c) (argG m c) (rowOf t r)) _ y =
    proj (rowAt (iblk m c 0 t) (iblk m c 1 t) r) (fun k n => (iblk m c 4 t : Vec Ideal S1024x256 .bf16) (ix2 k n)) y
  rw [rowAt_eq, weights_v]
  rfl

theorem across_place (t : Fin cfg0.N) (a : Fin 2) (n : Fin 256) (r : Fin 512) :
    acrossArray (argH m c) (argG m c) (argW m c) (ix3 ⟨2 * t.val + a.val, by have := lt_N t; omega⟩ n r) =
      out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 a n r) := by
  rw [out_across]
  show values (normRow (argH m c) (argG m c) ⟨512 * (2 * t.val + a.val) + r.val, _⟩) _ n =
    proj (rowAt (iblk m c 0 t) (iblk m c 1 t) ⟨512 * a.val + r.val, _⟩) (fun k n => (iblk m c 5 t : Vec Ideal S256x1024 .bf16) (ix2 n k)) n
  rw [rowAt_eq, weights_t]
  refine congrArg (fun q => values (normRow (argH m c) (argG m c) q) _ n) (Fin.ext ?_)
  show 512 * (2 * t.val + a.val) + r.val = 1024 * t.val + (512 * a.val + r.val)
  omega

/-- The array of queries after the run. -/
theorem final_query : (dats m 0 c).arrAt 11 cfg0.N = queryArray (argH m c) (argG m c) (argW m c) (argQ m c) := by
  refine (dats m 0 c).arrAt_eq_of_covers 11 _ (by decide +kernel) fun t hf y => ?_
  blk_simp
  rw [after0_11]
  refine (congrArg _ (ValueIdx.eq_ix2 y)).trans ?_
  refine (query_place m c t (y 0) (y 1)).symm.trans ?_
  refine congrArg _ ?_
  unfold rowOf
  blk_ext [index_11 t]

/-- The array of keys after the run. -/
theorem final_key : (dats m 0 c).arrAt 12 cfg0.N = keyArray (argH m c) (argG m c) (argW m c) (argK m c) := by
  refine (dats m 0 c).arrAt_eq_of_covers 12 _ (by decide +kernel) fun t hf y => ?_
  blk_simp
  rw [after0_12]
  refine (congrArg _ (ValueIdx.eq_ix2 y)).trans ?_
  refine (key_place m c t (y 0) (y 1)).symm.trans ?_
  refine congrArg _ ?_
  unfold rowOf
  blk_ext [index_12 t]

/-- The array of values after the run. -/
theorem final_value : (dats m 0 c).arrAt 13 cfg0.N = valueArray (argH m c) (argG m c) (argW m c) := by
  refine (dats m 0 c).arrAt_eq_of_covers 13 _ (by decide +kernel) fun t hf y => ?_
  blk_simp
  rw [after0_13]
  refine (congrArg _ (ValueIdx.eq_ix2 y)).trans ?_
  refine (value_place m c t (y 0) (y 1)).symm.trans ?_
  refine congrArg _ ?_
  unfold rowOf
  blk_ext [index_13 t]

/-- The array of the values across after the run. -/
theorem final_across : (dats m 0 c).arrAt 14 cfg0.N = acrossArray (argH m c) (argG m c) (argW m c) := by
  refine (dats m 0 c).arrAt_eq_of_covers 14 _ (by decide +kernel) fun t hf y => ?_
  blk_simp
  rw [after0_14]
  refine (congrArg _ (ValueIdx.eq_ix3 y)).trans ?_
  refine (across_place m c t (y 0) (y 1) (y 2)).symm.trans ?_
  refine congrArg _ ?_
  blk_ext [index_14 t]

end Cert.HeadProj

end
-- ==== Proof.HeadProj.Reference.lean ====
/- The reference of the grouped attention's projection, entry by entry: the four results of a row. -/
module

public import proofs.«01_k».proof.Proof.Gen.GqaProjReferenceIdeal.Read
public import proofs.«01_k».proof.Proof.HeadProj.Array
public import Idealize.ShloMosaic.Lib.Pointwise

@[expose] public section

set_option maxRecDepth 16384

noncomputable section

namespace Cert.HeadProj.Ref

open Idealize.ShloMosaic Idealize.ShloMosaic.TcCoe Idealize.SL.Sem Cert.FeedForward Cert.OutProj Cert.NbrProj
open Cert.GqaProjReferenceIdeal Cert.GqaProjReferenceIdeal.Gen Cert.GqaProjReferenceIdeal.Read

variable (h : Vec Ideal S65536x1024 .f32) (g : Vec Ideal S1024 .f32) (w : Vec Ideal S1024x1536 .f32) (gq gk : Vec Ideal S64 .f32)

/-- The normalised residual stream. -/
theorem normed (r : Fin 65536) (y : Fin 1024) :
    (val_main_v41 (F := Ideal) h g : Vec Ideal S65536x1024 .f32) (ix2 r y) = normRow h g r y := by
  unfold val_main_v41 val_main_v40 val_main_v39 val_main_v38 val_main_v37 val_main_v36 val_main_v35 val_main_v34 val_main_cst_6
    val_main_v33 val_main_v32 val_main_cst_5 val_main_v31 val_main_v30 val_main_cst_4 val_main_v29
  pointwise
  rfl

/-- Its projection. -/
theorem projected (r : Fin 65536) (y : Fin 1536) :
    (val_main_v42 (F := Ideal) h g w : Vec Ideal S65536x1536 .f32) (ix2 r y) =
      proj (normRow h g r) (fun k n => w (ix2 k n)) y := by
  rw [(funext (normed h g r)).symm]
  unfold val_main_v42
  generalize val_main_v41 (F := Ideal) h g = X
  pointwise
  rfl

/-! ## The angles -/

/-- The rows of the grid, as words. -/
theorem row_words (t : Fin 4096) : val_main_v1 (F := Ideal) (ix1 t) = BitVec.ofNat 32 (t.val / 64) := by
  revert t
  decide +kernel

/-- The columns of the grid, as words. -/
theorem column_words (t : Fin 4096) : val_main_v3 (F := Ideal) (ix1 t) = BitVec.ofNat 32 (t.val % 64) := by
  revert t
  decide +kernel

/-- A small word as a number. -/
theorem small_word (n : Fin 64) : (FloatOps.sitofp .f32 (BitVec.ofNat 32 n.val) : Ideal .f32) = ((n.val : ℝ) : EReal) := by
  have e' : ∀ n : Fin 64, (BitVec.ofNat 32 n.val).toInt = (n.val : ℤ) := by decide
  show ((((BitVec.ofNat 32 n.val).toInt : ℤ) : ℝ) : EReal) = _
  rw [e' n]
  rfl

theorem rows (t : Fin 4096) : (val_main_v2 (F := Ideal) : Vec Ideal S4096 .f32) (ix1 t) = gridAt t 0 := by
  rw [val_main_v2_apply, row_words]
  exact small_word ⟨t.val / 64, by omega⟩

theorem columns (t : Fin 4096) : (val_main_v4 (F := Ideal) : Vec Ideal S4096 .f32) (ix1 t) = gridAt t 1 := by
  rw [val_main_v4_apply, column_words]
  exact small_word ⟨t.val % 64, by omega⟩

theorem freqs (f : Fin 16) : (val_main_v14 (F := Ideal) : Vec Ideal S16 .f32) (ix1 f) = freq f := by
  rw [← freq_word]
  unfold val_main_v14 val_main_v13 val_main_cst_3 val_main_v12 val_main_v11 val_main_cst_2 val_main_v10 val_main_v9 val_main_v8
    val_main_cst_1 val_main_v7 val_main_v6 val_main_cst val_main_v5
  pointwise

theorem angles (t : Fin 4096) (s : Fin 2) (f : Fin 16) :
    (val_main_v26 (F := Ideal) : Vec Ideal S4096x1x2x16 .f32) (ix4 t 0 s f) = angle t s f := by
  unfold angle
  have e : gridAt t s = if s.val < 1 then gridAt t 0 else gridAt t 1 := by
    by_cases hs : s.val < 1
    · rw [if_pos hs]; exact congrArg (gridAt t) (Fin.ext (by show s.val = 0; omega))
    · rw [if_neg hs]; exact congrArg (gridAt t) (Fin.ext (by show s.val = 1; omega))
  rw [e, ← rows, ← columns, ← freqs]
  unfold val_main_v26 val_main_v25 val_main_v24 val_main_v23 val_main_v22 val_main_v21 val_main_v20 val_main_v19 val_main_v18
    val_main_v17 val_main_v16 val_main_v15
  generalize val_main_v2 (F := Ideal) = R
  generalize val_main_v4 (F := Ideal) = C
  generalize val_main_v14 (F := Ideal) = W
  pointwise
  by_cases hs : s.val < 1
  · rw [dif_pos (by omega), if_pos hs]
    exact congrArg (fun i => R (ix1 t) * W (ix1 i)) (Fin.ext (by show s.val * 16 + f.val = f.val; omega))
  · rw [dif_neg (by omega), if_neg hs]
    exact congrArg (fun i => C (ix1 t) * W (ix1 i)) (Fin.ext (by show s.val * 16 + f.val - 16 = f.val; omega))

/-! ## The heads -/

/-- The row of the residual stream at place `t` of image `b`. -/
def imageRow (b : Fin 16) (t : Fin 4096) : Fin 65536 := ⟨4096 * b.val + t.val, by omega⟩

theorem query_heads (b : Fin 16) (t : Fin 4096) (k : Fin 16) (d : Fin 64) :
    (val_main_v45 (F := Ideal) h g w : Vec Ideal S16x4096x16x64 .f32) (ix4 b t k d) =
      proj (normRow h g (imageRow b t)) (fun k n => w (ix2 k n)) ⟨64 * k.val + d.val, by omega⟩ := by
  rw [← projected]
  unfold val_main_v45 val_main_v44 val_main_v43
  generalize val_main_v42 (F := Ideal) h g w = X
  pointwise
  exact congrArg X (congrArg₂ ix2 (Fin.ext (by show b.val * 4096 + t.val = 4096 * b.val + t.val; omega))
    (Fin.ext (by show k.val * 64 + d.val = 64 * k.val + d.val; omega)))

theorem key_heads (b : Fin 16) (t : Fin 4096) (k : Fin 4) (d : Fin 64) :
    (val_main_v60 (F := Ideal) h g w : Vec Ideal S16x4096x4x64 .f32) (ix4 b t k d) =
      proj (normRow h g (imageRow b t)) (fun k n => w (ix2 k n)) ⟨1024 + (64 * k.val + d.val), by omega⟩ := by
  rw [← projected]
  unfold val_main_v60 val_main_v59 val_main_v43
  generalize val_main_v42 (F := Ideal) h g w = X
  pointwise
  exact congrArg X (congrArg₂ ix2 (Fin.ext (by show b.val * 4096 + t.val = 4096 * b.val + t.val; omega))
    (Fin.ext (by show 1024 + (k.val * 64 + d.val) = 1024 + (64 * k.val + d.val); omega)))

/-- The queries' heads normalised. -/
theorem query_norm (b : Fin 16) (t : Fin 4096) (k : Fin 16) (d : Fin 64) :
    (val_main_v58 (F := Ideal) h g w gq : Vec Ideal S16x4096x16x64 .f32) (ix4 b t k d) =
      headNorm (fun e => (val_main_v45 (F := Ideal) h g w : Vec Ideal S16x4096x16x64 .f32) (ix4 b t k e)) (fun e => gq (ix1 e)) d := by
  unfold val_main_v58 val_main_v57 val_main_v56 val_main_v55 val_main_v54 val_main_v53 val_main_v52 val_main_v51 val_main_cst_9
    val_main_v50 val_main_v49 val_main_cst_8 val_main_v48 val_main_v47 val_main_cst_7 val_main_v46
  generalize val_main_v45 (F := Ideal) h g w = X
  pointwise
  rfl

/-- The keys' heads normalised. -/
theorem key_norm (b : Fin 16) (t : Fin 4096) (k : Fin 4) (d : Fin 64) :
    (val_main_v73 (F := Ideal) h g w gk : Vec Ideal S16x4096x4x64 .f32) (ix4 b t k d) =
      headNorm (fun e => (val_main_v60 (F := Ideal) h g w : Vec Ideal S16x4096x4x64 .f32) (ix4 b t k e)) (fun e => gk (ix1 e)) d := by
  unfold val_main_v73 val_main_v72 val_main_v71 val_main_v70 val_main_v69 val_main_v68 val_main_v67 val_main_v66 val_main_cst_12
    val_main_v65 val_main_v64 val_main_cst_11 val_main_v63 val_main_v62 val_main_cst_10 val_main_v61
  generalize val_main_v60 (F := Ideal) h g w = X
  pointwise
  rfl

/-- A pair of coordinates turned, the coordinate taken apart into its half, its side and its frequency. -/
theorem pair_turn (Z : Fin 64 → EReal) (C S : EReal) (d : Fin 64) (h₀ : d.val / 32 * 32 + d.val % 16 < 64)
    (h₁ : d.val / 32 * 32 + 16 + d.val % 16 < 64) :
    (if _ : d.val / 16 % 2 < 1 then Z ⟨d.val / 32 * 32 + d.val % 16, h₀⟩ * C - Z ⟨d.val / 32 * 32 + 16 + d.val % 16, h₁⟩ * S
      else Z ⟨d.val / 32 * 32 + 16 + d.val % 16, h₁⟩ * C + Z ⟨d.val / 32 * 32 + d.val % 16, h₀⟩ * S) =
      if d.val % 32 < 16 then Z d * C - Z (partner d) * S else Z d * C + Z (partner d) * S := by
  generalize hx : (⟨d.val / 32 * 32 + d.val % 16, h₀⟩ : Fin 64) = x
  generalize hy : (⟨d.val / 32 * 32 + 16 + d.val % 16, h₁⟩ : Fin 64) = y
  have ex : d.val / 32 * 32 + d.val % 16 = x.val := congrArg Fin.val hx
  have ey : d.val / 32 * 32 + 16 + d.val % 16 = y.val := congrArg Fin.val hy
  clear hx hy
  unfold partner
  by_cases hd : d.val % 32 < 16
  · have hxd : x = d := Fin.ext (by omega)
    have hyd : y = ⟨d.val + 16, by omega⟩ := Fin.ext (by simp only; omega)
    rw [dif_pos (by omega), if_pos hd, dif_pos hd, congrArg Z hxd, congrArg Z hyd]
  · have hxd : x = ⟨d.val - 16, by omega⟩ := Fin.ext (by simp only; omega)
    have hyd : y = d := Fin.ext (by omega)
    rw [dif_neg (by omega), if_neg hd, dif_neg hd, congrArg Z hxd, congrArg Z hyd]

/-- The queries' heads turned. -/
theorem query_turn (b : Fin 16) (t : Fin 4096) (k : Fin 16) (d : Fin 64) :
    (val_main_v97 (F := Ideal) h g w gq : Vec Ideal S16x4096x16x64 .f32) (ix4 b t k d) =
      rotate t (fun e => (val_main_v58 (F := Ideal) h g w gq : Vec Ideal S16x4096x16x64 .f32) (ix4 b t k e)) d := by
  unfold rotate
  rw [← angles]
  unfold val_main_v97 val_main_v96 val_main_v95 val_main_v94 val_main_v93 val_main_v92 val_main_v91 val_main_v90 val_main_v89
    val_main_v88 val_main_v87 val_main_v86 val_main_v85 val_main_v84 val_main_v83 val_main_v82 val_main_v81 val_main_v80
    val_main_v79 val_main_v78 val_main_v77 val_main_v76 val_main_v75 val_main_v28 val_main_v27
  generalize val_main_v58 (F := Ideal) h g w gq = X
  generalize val_main_v26 (F := Ideal) = A
  pointwise
  exact pair_turn (fun e => X (ix4 b t k e)) (Ideal.cos (A (ix4 t 0 (halfOf d) (freqOf d)))) (Ideal.sin (A (ix4 t 0 (halfOf d) (freqOf d)))) d _ _

/-- The keys' heads turned. -/
theorem key_turn (b : Fin 16) (t : Fin 4096) (k : Fin 4) (d : Fin 64) :
    (val_main_v126 (F := Ideal) h g w gk : Vec Ideal S16x4096x4x64 .f32) (ix4 b t k d) =
      rotate t (fun e => (val_main_v73 (F := Ideal) h g w gk : Vec Ideal S16x4096x4x64 .f32) (ix4 b t k e)) d := by
  unfold rotate
  rw [← angles]
  unfold val_main_v126 val_main_v125 val_main_v124 val_main_v123 val_main_v122 val_main_v121 val_main_v120 val_main_v119
    val_main_v118 val_main_v117 val_main_v116 val_main_v115 val_main_v114 val_main_v113 val_main_v112 val_main_v111 val_main_v110
    val_main_v109 val_main_v108 val_main_v107 val_main_v106 val_main_v105 val_main_v104 val_main_v28 val_main_v27
  generalize val_main_v73 (F := Ideal) h g w gk = X
  generalize val_main_v26 (F := Ideal) = A
  pointwise
  exact pair_turn (fun e => X (ix4 b t k e)) (Ideal.cos (A (ix4 t 0 (halfOf d) (freqOf d)))) (Ideal.sin (A (ix4 t 0 (halfOf d) (freqOf d)))) d _ _

/-! ## The results -/

/-- The image of a row. -/
def imageOf (r : Fin 65536) : Fin 16 := ⟨r.val / 4096, by omega⟩

theorem imageRow_imageOf (r : Fin 65536) : imageRow (imageOf r) (placeOf r) = r :=
  Fin.ext (by show 4096 * (r.val / 4096) + r.val % 4096 = r.val; omega)

/-- The queries' heads scaled. -/
theorem query_scaled (b : Fin 16) (t : Fin 4096) (k : Fin 16) (d : Fin 64) :
    (val_main_v103 (F := Ideal) h g w gq : Vec Ideal S16x4096x16x64 .f32) (ix4 b t k d) =
      (val_main_v97 (F := Ideal) h g w gq : Vec Ideal S16x4096x16x64 .f32) (ix4 b t k d) * queryScale := by
  rw [val_main_v103_apply, val_main_v102_apply, val_main_v101_apply, val_main_v100_apply, val_main_cst_14_apply, val_main_v99_apply,
    val_main_v98_apply, val_main_cst_13_apply]
  exact mul_queryScale _

theorem query_read (r : Fin 65536) (y : Fin 1024) :
    (val_main_v130 (F := Ideal) h g w gq : Vec Ideal S65536x1024 .bf16) (ix2 r y) =
      (val_main_v103 (F := Ideal) h g w gq : Vec Ideal S16x4096x16x64 .f32)
        (ix4 (imageOf r) (placeOf r) (headAt ⟨y.val / 64, by omega⟩) (coord y)) := by
  unfold val_main_v130 val_main_v129 val_main_v128 val_main_v127
  generalize val_main_v103 (F := Ideal) h g w gq = X
  pointwise
  refine congrArg X (congrArg (fun k => ix4 (imageOf r) (placeOf r) k (coord y)) (Fin.ext ?_))
  show y.val / 512 * 8 + y.val / 64 % 2 * 4 + y.val / 128 % 4 = 8 * (y.val / 64 / 8) + 4 * (y.val / 64 % 2) + y.val / 64 % 8 / 2
  omega

theorem key_read (r : Fin 65536) (y : Fin 256) :
    (val_main_v132 (F := Ideal) h g w gk : Vec Ideal S65536x256 .bf16) (ix2 r y) =
      (val_main_v126 (F := Ideal) h g w gk : Vec Ideal S16x4096x4x64 .f32)
        (ix4 (imageOf r) (placeOf r) ⟨y.val / 64, by omega⟩ (coord y)) := by
  have hr : r.val < 65536 := r.isLt
  have hy : y.val < 256 := y.isLt
  refine (val_main_v132_apply h g w gk (ix2 r y)).trans ((val_main_v131_apply h g w gk (ix2 r y)).trans ?_)
  refine congrArg (val_main_v126 (F := Ideal) h g w gk) ?_
  funext a
  match a with
  | ⟨0, _⟩ => exact Fin.ext (by show (r.val * 256 + y.val) / 1048576 = r.val / 4096; omega)
  | ⟨1, _⟩ => exact Fin.ext (by show (r.val * 256 + y.val) / 256 % 4096 = r.val % 4096; omega)
  | ⟨2, _⟩ => exact Fin.ext (by show (r.val * 256 + y.val) / 64 % 4 = y.val / 64; omega)
  | ⟨3, _⟩ => exact Fin.ext (by show (r.val * 256 + y.val) % 64 = y.val % 64; omega)

/-- The values: a column of the projection. -/
theorem value_read (r : Fin 65536) (y : Fin 256) :
    (val_main_v134 (F := Ideal) h g w : Vec Ideal S65536x256 .bf16) (ix2 r y) =
      (val_main_v42 (F := Ideal) h g w : Vec Ideal S65536x1536 .f32) (ix2 r ⟨1280 + y.val, by omega⟩) := by
  unfold val_main_v134 val_main_v133 val_main_v74 val_main_v43
  generalize val_main_v42 (F := Ideal) h g w = X
  pointwise

/-- The values across. -/
theorem across_read (b : Fin 128) (n : Fin 256) (s : Fin 512) :
    (val_main_v137 (F := Ideal) h g w : Vec Ideal S128x256x512 .bf16) (ix3 b n s) =
      (val_main_v42 (F := Ideal) h g w : Vec Ideal S65536x1536 .f32) (ix2 ⟨512 * b.val + s.val, by omega⟩ ⟨1280 + n.val, by omega⟩) := by
  unfold val_main_v137 val_main_v136 val_main_v135 val_main_v74 val_main_v43
  generalize val_main_v42 (F := Ideal) h g w = X
  pointwise
  refine congrArg X (congrArg (fun r => ix2 r (⟨1280 + n.val, by omega⟩ : Fin 1536)) (Fin.ext ?_))
  show b.val / 8 * 4096 + (b.val % 8 * 512 + s.val) = 512 * b.val + s.val
  omega

/-- The queries. -/
theorem result_query : (val_main_v130 (F := Ideal) h g w gq : Vec Ideal S65536x1024 .bf16) = queryArray h g w gq := by
  funext i
  obtain ⟨r, y, rfl⟩ : ∃ (r : Fin 65536) (y : Fin 1024), i = ix2 r y := ⟨i 0, i 1, ValueIdx.eq_ix2 i⟩
  rw [query_read, query_scaled, query_turn]
  refine congrArg (· * queryScale) (congrArg (fun z => rotate (placeOf r) z (coord y)) (funext fun d => ?_))
  rw [query_norm]
  refine congrArg (fun z => headNorm z _ d) (funext fun e => ?_)
  rw [query_heads, imageRow_imageOf]
  refine congrArg (proj (normRow h g r) fun k n => w (ix2 k n)) (Fin.ext ?_)
  show 64 * (headAt ⟨y.val / 64, _⟩).val + e.val =
    64 * (headAt ⟨(64 * (y.val / 64) + e.val) / 64, _⟩).val + (64 * (y.val / 64) + e.val) % 64
  unfold headAt
  simp only
  omega

/-- The keys. -/
theorem result_key : (val_main_v132 (F := Ideal) h g w gk : Vec Ideal S65536x256 .bf16) = keyArray h g w gk := by
  funext i
  obtain ⟨r, y, rfl⟩ : ∃ (r : Fin 65536) (y : Fin 256), i = ix2 r y := ⟨i 0, i 1, ValueIdx.eq_ix2 i⟩
  rw [key_read, key_turn]
  refine congrArg (fun z => rotate (placeOf r) z (coord y)) (funext fun d => ?_)
  rw [key_norm]
  refine congrArg (fun z => headNorm z _ d) (funext fun e => ?_)
  rw [key_heads, imageRow_imageOf]
  rfl

/-- The values. -/
theorem result_value : (val_main_v134 (F := Ideal) h g w : Vec Ideal S65536x256 .bf16) = valueArray h g w := by
  funext i
  obtain ⟨r, y, rfl⟩ : ∃ (r : Fin 65536) (y : Fin 256), i = ix2 r y := ⟨i 0, i 1, ValueIdx.eq_ix2 i⟩
  rw [value_read, projected]
  rfl

/-- The values across. -/
theorem result_across : (val_main_v137 (F := Ideal) h g w : Vec Ideal S128x256x512 .bf16) = acrossArray h g w := by
  funext i
  obtain ⟨b, n, s, rfl⟩ : ∃ (b : Fin 128) (n : Fin 256) (s : Fin 512), i = ix3 b n s := ⟨i 0, i 1, i 2, ValueIdx.eq_ix3 i⟩
  rw [across_read, projected]
  rfl

end Cert.HeadProj.Ref

end
-- ==== Proof.lean ====
/- The certificate: frames of each call and of its ideal program from the generated modules, and their values, which the
   modules under Proof/Attn/, Proof/Ffn/, Proof/OutProj/, Proof/NbrProj/ and Proof/HeadProj/ derive, against the references' runs. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Oproj
public import proofs.«01_k».proof.Proof.Gen.Oproj.Frame
public import proofs.«01_k».proof.Proof.Gen.OprojIdeal
public import proofs.«01_k».proof.Proof.Gen.OprojIdeal.Frame
public import proofs.«01_k».proof.Proof.Gen.OprojIdeal.Value
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.Gen.NaProj
public import proofs.«01_k».proof.Proof.Gen.NaProj.Frame
public import proofs.«01_k».proof.Proof.Gen.NaProjIdeal
public import proofs.«01_k».proof.Proof.Gen.NaProjIdeal.Frame
public import proofs.«01_k».proof.Proof.Gen.NaProjIdeal.Value
public import proofs.«01_k».proof.Proof.Gen.NaProjReferenceIdeal
public import proofs.«01_k».proof.Proof.Gen.NaProjReferenceIdeal.Run
public import proofs.«01_k».proof.Proof.Gen.NaProjReferenceIdeal.Read
public import proofs.«01_k».proof.Proof.Gen.GqaProj
public import proofs.«01_k».proof.Proof.Gen.GqaProj.Frame
public import proofs.«01_k».proof.Proof.Gen.GqaProjIdeal
public import proofs.«01_k».proof.Proof.Gen.GqaProjIdeal.Frame
public import proofs.«01_k».proof.Proof.Gen.GqaProjIdeal.Value
public import proofs.«01_k».proof.Proof.Gen.GqaProjReferenceIdeal
public import proofs.«01_k».proof.Proof.Gen.GqaProjReferenceIdeal.Run
public import proofs.«01_k».proof.Proof.Gen.GqaProjReferenceIdeal.Read
public import Idealize.ShloMosaic.Adequacy
public import Idealize.ShloMosaic.Init
public import Idealize.ShloMosaic.Lib.Quiescent
public import proofs.«01_k».proof.Proof.Attn.Value
public import proofs.«01_k».proof.Proof.Attn.Array
public import proofs.«01_k».proof.Proof.Attn.Precond
public import proofs.«01_k».proof.Proof.Ffn.Array
public import proofs.«01_k».proof.Proof.Ffn.Reference
public import proofs.«01_k».proof.Proof.OutProj.Array
public import proofs.«01_k».proof.Proof.OutProj.Reference
public import proofs.«01_k».proof.Proof.NbrProj.Array
public import proofs.«01_k».proof.Proof.NbrProj.Reference
public import proofs.«01_k».proof.Proof.HeadProj.Array
public import proofs.«01_k».proof.Proof.HeadProj.Reference

@[expose] public section

set_option maxRecDepth 16384

noncomputable section

namespace Cert.Proof

open Idealize.ShloMosaic Idealize.SL.Sem

theorem frame_p : letI := Cert.Kernel.Gen.facts; Cert.quiescent_Kernel := fun m ρ _ => Cert.Kernel.Gen.frame m ρ

theorem frame_pi : letI := Cert.KernelIdeal.Gen.facts; Cert.quiescent_KernelIdeal := fun m ρ _ => Cert.KernelIdeal.Gen.frame m ρ

theorem frame_ri : letI := Cert.ReferenceIdeal.Gen.facts; Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The kernel's result array is the reference's: the same attention at every row and lane. -/
theorem algebraic : letI := Cert.KernelIdeal.Gen.facts; letI := Cert.ReferenceIdeal.Gen.facts
    letI := Cert.Attn.Precond.facts; Cert.algebraic_KernelIdeal_ReferenceIdeal_pre_finite_queries_and_keys := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := @Cert.Attn.Precond.real Cert.Attn.Precond.facts _ _ _ (hpre c)
  rw [Cert.Attn.final m c, (hagree c).1, (hagree c).2.1, (hagree c).2.2]
  refine (Cert.ReferenceIdeal.Read.val_main_v21_eq (F := Ideal) _ _ _).trans (funext fun j => ?_)
  obtain ⟨r, y, rfl⟩ : ∃ (r : Fin 65536) (y : Fin 1024), j = ix2 r y := ⟨j 0, j 1, ValueIdx.eq_ix2 j⟩
  refine (Cert.Attn.Ref.result _ _ _ hq hk r y).trans ?_
  refine Eq.trans ?_ (Cert.Attn.result_eq m c hq hk r y).symm
  exact congrArg (fun h => Cert.Attn.Ref.attention _ _ _ _ _ h _) (Fin.ext (by
    show 4 * (y.val / 512 * 2 + y.val / 64 % 2) + y.val / 128 % 4 = 8 * (y.val / 64 / 8) + 4 * (y.val / 64 % 2) + y.val / 64 % 8 / 2
    omega))

theorem ffn_frame_p : letI := Cert.Ffn.Gen.facts; Cert.quiescent_Ffn := fun m ρ _ => Cert.Ffn.Gen.frame m ρ

theorem ffn_frame_pi : letI := Cert.FfnIdeal.Gen.facts; Cert.quiescent_FfnIdeal := fun m ρ _ => Cert.FfnIdeal.Gen.frame m ρ

theorem ffn_frame_ri : letI := Cert.FfnReferenceIdeal.Gen.facts; Cert.quiescent_FfnReferenceIdeal := fun m ρ _ =>
  (θ_run Cert.FfnReferenceIdeal.defs _ _).mono (fun r h => ⟨fun c => (h c).2,
    Idealize.ShloMosaic.sem_eq_zero_of_no_sems (by decide) r.2⟩) (Cert.FfnReferenceIdeal.Value.run (F := Ideal) m ρ)

/-- The feed-forward call's result array is its reference's: the same half-step of every row. -/
theorem ffn_algebraic : letI := Cert.FfnIdeal.Gen.facts; letI := Cert.FfnReferenceIdeal.Gen.facts
    Cert.algebraic_FfnIdeal_FfnReferenceIdeal := by
  intro m ρ m' ρ' _ hagree
  refine ⟨_, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h₀, h₁, h₂, h₃, h₄, h₅⟩ := hagree c
  rw [Cert.FeedForward.final m c]
  refine (Cert.FfnReferenceIdeal.Read.val_main_v33_eq (F := Ideal) _ _).trans (funext fun j => ?_)
  rw [h₀, h₁, h₂, h₃, h₄, h₅]
  obtain ⟨r, y, rfl⟩ : ∃ (r : Fin 65536) (y : Fin 1024), j = ix2 r y := ⟨j 0, j 1, ValueIdx.eq_ix2 j⟩
  exact (Cert.FeedForward.Ref.result _ _ _ _ _ _ r y).trans (Cert.FeedForward.result_eq m c r y).symm

theorem oproj_frame_p : letI := Cert.Oproj.Gen.facts; Cert.quiescent_Oproj := fun m ρ _ => Cert.Oproj.Gen.frame m ρ

theorem oproj_frame_pi : letI := Cert.OprojIdeal.Gen.facts; Cert.quiescent_OprojIdeal := fun m ρ _ => Cert.OprojIdeal.Gen.frame m ρ

theorem oproj_frame_ri : letI := Cert.OprojReferenceIdeal.Gen.facts; Cert.quiescent_OprojReferenceIdeal := fun m ρ _ =>
  (θ_run Cert.OprojReferenceIdeal.defs _ _).mono (fun r h => ⟨fun c => (h c).2,
    Idealize.ShloMosaic.sem_eq_zero_of_no_sems (by decide) r.2⟩) (Cert.OprojReferenceIdeal.Value.run (F := Ideal) m ρ)

/-- The output projection's result array is its reference's: the same projection, normalised and added, of every row. -/
theorem oproj_algebraic : letI := Cert.OprojIdeal.Gen.facts; letI := Cert.OprojReferenceIdeal.Gen.facts
    Cert.algebraic_OprojIdeal_OprojReferenceIdeal := by
  intro m ρ m' ρ' _ hagree
  refine ⟨_, Cert.OprojIdeal.Value.run_blocks (F := Ideal) m ρ, ?_⟩
  refine (θ_run Cert.OprojReferenceIdeal.defs _ _).mono (fun _ h c => ⟨(h c).1.trans ?_, (h c).2⟩)
    (Cert.OprojReferenceIdeal.Value.run (F := Ideal) m' ρ')
  obtain ⟨h₀, h₁, h₂, h₃⟩ := hagree c
  rw [Cert.OutProj.final m c]
  refine (Cert.OprojReferenceIdeal.Read.val_main_v14_eq (F := Ideal) _ _ _ _).trans (funext fun j => ?_)
  rw [h₀, h₁, h₂, h₃]
  obtain ⟨r, y, rfl⟩ : ∃ (r : Fin 65536) (y : Fin 1024), j = ix2 r y := ⟨j 0, j 1, ValueIdx.eq_ix2 j⟩
  exact (Cert.OutProj.Ref.result _ _ _ _ r y).trans (Cert.OutProj.result_eq m c r y).symm

theorem na_proj_frame_p : letI := Cert.NaProj.Gen.facts; Cert.quiescent_NaProj := fun m ρ _ => Cert.NaProj.Gen.frame m ρ

theorem na_proj_frame_pi : letI := Cert.NaProjIdeal.Gen.facts; Cert.quiescent_NaProjIdeal := fun m ρ _ => Cert.NaProjIdeal.Gen.frame m ρ

theorem na_proj_frame_ri : letI := Cert.NaProjReferenceIdeal.Gen.facts; Cert.quiescent_NaProjReferenceIdeal := fun m ρ _ =>
  (θ_run Cert.NaProjReferenceIdeal.defs _ _).mono (fun r h => ⟨fun c => (h c).2,
    Idealize.ShloMosaic.sem_eq_zero_of_no_sems (by decide) r.2⟩) (Cert.NaProjReferenceIdeal.Value.run (F := Ideal) m ρ)

theorem na_proj_preserves : Cert.preserves_NaProj_NaProjIdeal :=
  IdealRules.named_const.statement Cert.NaProjIdeal.κ "scale" .f32 0x3E38AA3B#32 (((8 * (Real.log 2))⁻¹ : ℝ) : EReal) rfl

/-- The neighbourhood projection's result array is its reference's: the same projection of every normalised row. -/
theorem na_proj_algebraic : letI := Cert.NaProjIdeal.Gen.facts; letI := Cert.NaProjReferenceIdeal.Gen.facts
    Cert.algebraic_NaProjIdeal_NaProjReferenceIdeal := by
  intro m ρ m' ρ' _ hagree
  refine ⟨_, Cert.NaProjIdeal.Value.run_blocks (F := Ideal) m ρ, ?_⟩
  refine (θ_run Cert.NaProjReferenceIdeal.defs _ _).mono (fun _ h c => ⟨(h c).1.trans ?_, (h c).2⟩)
    (Cert.NaProjReferenceIdeal.Value.run (F := Ideal) m' ρ')
  obtain ⟨h₀, h₁, h₂⟩ := hagree c
  rw [Cert.NbrProj.final m c]
  refine (Cert.NaProjReferenceIdeal.Read.val_main_v23_eq (F := Ideal) _ _ _).trans (funext fun j => ?_)
  rw [h₀, h₁, h₂]
  obtain ⟨r, y, rfl⟩ : ∃ (r : Fin 65536) (y : Fin 3072), j = ix2 r y := ⟨j 0, j 1, ValueIdx.eq_ix2 j⟩
  exact (Cert.NbrProj.Ref.result _ _ _ r y).trans (Cert.NbrProj.result_eq m c r y).symm

theorem gqa_proj_frame_p : letI := Cert.GqaProj.Gen.facts; Cert.quiescent_GqaProj := fun m ρ _ => Cert.GqaProj.Gen.frame m ρ

theorem gqa_proj_frame_pi : letI := Cert.GqaProjIdeal.Gen.facts; Cert.quiescent_GqaProjIdeal := fun m ρ _ => Cert.GqaProjIdeal.Gen.frame m ρ

theorem gqa_proj_frame_ri : letI := Cert.GqaProjReferenceIdeal.Gen.facts; Cert.quiescent_GqaProjReferenceIdeal := fun m ρ _ =>
  (θ_run Cert.GqaProjReferenceIdeal.defs _ _).mono (fun r h => ⟨fun c => (h c).2.2.2.2,
    Idealize.ShloMosaic.sem_eq_zero_of_no_sems (by decide) r.2⟩) (Cert.GqaProjReferenceIdeal.Value.run (F := Ideal) m ρ)

theorem gqa_proj_preserves : Cert.preserves_GqaProj_GqaProjIdeal :=
  IdealRules.named_const.statement Cert.GqaProjIdeal.κ "scale" .f32 0x3E38AA3B#32 (((8 * (Real.log 2))⁻¹ : ℝ) : EReal) rfl

/-- The grouped attention's projection: its queries, keys, values and transposed values are its reference's. -/
theorem gqa_proj_algebraic : letI := Cert.GqaProjIdeal.Gen.facts; letI := Cert.GqaProjReferenceIdeal.Gen.facts
    Cert.algebraic_GqaProjIdeal_GqaProjReferenceIdeal := by
  intro m ρ m' ρ' _ hagree
  refine ⟨_, _, _, _, Cert.GqaProjIdeal.Value.run_blocks (F := Ideal) m ρ, ?_⟩
  refine (θ_run Cert.GqaProjReferenceIdeal.defs _ _).mono
    (fun _ h c => ⟨(h c).1.trans ?_, (h c).2.1.trans ?_, (h c).2.2.1.trans ?_, (h c).2.2.2.1.trans ?_, (h c).2.2.2.2⟩)
    (Cert.GqaProjReferenceIdeal.Value.run (F := Ideal) m' ρ')
  all_goals obtain ⟨h₀, h₁, h₂, h₃, h₄⟩ := hagree c
  · rw [Cert.HeadProj.final_query m c]
    exact (Cert.GqaProjReferenceIdeal.Read.val_main_v130_eq (F := Ideal) _).trans
      ((congr (congr (congr (congrArg (Cert.GqaProjReferenceIdeal.Read.val_main_v130 (F := Ideal)) h₀) h₁) h₂) h₃).trans
        (Cert.HeadProj.Ref.result_query _ _ _ _))
  · rw [Cert.HeadProj.final_key m c]
    exact (Cert.GqaProjReferenceIdeal.Read.val_main_v132_eq (F := Ideal) _).trans
      ((congr (congr (congr (congrArg (Cert.GqaProjReferenceIdeal.Read.val_main_v132 (F := Ideal)) h₀) h₁) h₂) h₄).trans
        (Cert.HeadProj.Ref.result_key _ _ _ _))
  · rw [Cert.HeadProj.final_value m c]
    exact (Cert.GqaProjReferenceIdeal.Read.val_main_v134_eq (F := Ideal) _).trans
      ((congr (congr (congrArg (Cert.GqaProjReferenceIdeal.Read.val_main_v134 (F := Ideal)) h₀) h₁) h₂).trans
        (Cert.HeadProj.Ref.result_value _ _ _))
  · rw [Cert.HeadProj.final_across m c]
    exact (Cert.GqaProjReferenceIdeal.Read.val_main_v137_eq (F := Ideal) _).trans
      ((congr (congr (congrArg (Cert.GqaProjReferenceIdeal.Read.val_main_v137 (F := Ideal)) h₀) h₁) h₂).trans
        (Cert.HeadProj.Ref.result_across _ _ _))

theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Oproj.Gen.facts, Cert.OprojIdeal.Gen.facts,
    Cert.OprojReferenceIdeal.Gen.facts, Cert.NaProj.Gen.facts, Cert.NaProjIdeal.Gen.facts, Cert.NaProjReferenceIdeal.Gen.facts,
    Cert.GqaProj.Gen.facts, Cert.GqaProjIdeal.Gen.facts, Cert.GqaProjReferenceIdeal.Gen.facts, Cert.Attn.Precond.facts,
    frame_p, frame_pi, fun m ρ _ => frame_pi m ρ trivial, frame_ri, fun m ρ _ => frame_ri m ρ trivial,
    ffn_frame_p, ffn_frame_pi, ffn_frame_ri, oproj_frame_p, oproj_frame_pi, oproj_frame_ri,
    na_proj_frame_p, na_proj_frame_pi, na_proj_frame_ri,
    gqa_proj_frame_p, gqa_proj_frame_pi, gqa_proj_frame_ri,
    trivial, algebraic, trivial, ffn_algebraic, trivial, oproj_algebraic, na_proj_preserves, na_proj_algebraic,
    gqa_proj_preserves, gqa_proj_algebraic⟩

end Cert.Proof

end
